-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_16" .f32 0x3DB8AA3B#32 (((1 / 16) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v3_0) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_5) = v4 c
          ∧ r.2.mem ((c.tc : Thread Cert.ReferenceIdeal.nD Cert.ReferenceIdeal.τ).loc Cert.ReferenceIdeal.main_v3_6) = v5 c
          ∧ r.2.mem ((c.tc : Thread Cert.ReferenceIdeal.nD Cert.ReferenceIdeal.τ).loc Cert.ReferenceIdeal.main_v3_8) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x12288x5120 : Shape := ⟨3, ![3, 12288, 5120]⟩
abbrev S3x12288x1024 : Shape := ⟨3, ![3, 12288, 1024]⟩
abbrev S_ : Shape := ⟨0, ![]⟩

class Facts : Prop where
  bcast_S_S3x12288x5120 : S_.BroadcastsInDim S3x12288x5120 (![] : Fin 0 → Fin S3x12288x5120.rank)
  bcast_S_S3x12288x1024 : S_.BroadcastsInDim S3x12288x1024 (![] : Fin 0 → Fin S3x12288x1024.rank)

variable [Facts]

def fn {F : FTy → Type} [FloatOps F] (main_arg0 : FVec F S3x12288x5120 .bf16) (main_arg1 : FVec F S3x12288x1024 .bf16) (main_arg2 : FVec F S3x12288x1024 .bf16) : IVec S3x12288x5120 1 × IVec S3x12288x1024 1 × IVec S3x12288x1024 1 :=
  let main_v0 : FVec F S3x12288x5120 .bf16 := Host.absf main_arg0
  let main_cst : FVec F S_ .bf16 := constant S_ .bf16 0x7F7F#16
  let main_v1 : FVec F S3x12288x5120 .bf16 := broadcastInDim S3x12288x5120 ![] bcast_S_S3x12288x5120 main_cst
  let main_v2 : IVec S3x12288x5120 1 := cmpf .ole main_v0 main_v1
  let main_v3 : FVec F S3x12288x1024 .bf16 := Host.absf main_arg1
  let main_cst_0 : FVec F S_ .bf16 := constant S_ .bf16 0x7F7F#16
  let main_v4 : FVec F S3x12288x1024 .bf16 := broadcastInDim S3x12288x1024 ![] bcast_S_S3x12288x1024 main_cst_0
  let main_v5 : IVec S3x12288x1024 1 := cmpf .ole main_v3 main_v4
  let main_v6 : FVec F S3x12288x1024 .bf16 := Host.absf main_arg2
  let main_cst_1 : FVec F S_ .bf16 := constant S_ .bf16 0x7F7F#16
  let main_v7 : FVec F S3x12288x1024 .bf16 := broadcastInDim S3x12288x1024 ![] bcast_S_S3x12288x1024 main_cst_1
  let main_v8 : IVec S3x12288x1024 1 := cmpf .ole main_v6 main_v7
  (main_v2, main_v5, main_v8)
-- ==== Kernel.lean ====
abbrev S3x12288x5120 : Shape := ⟨3, ![3, 12288, 5120]⟩
abbrev S3x12288x1024 : Shape := ⟨3, ![3, 12288, 1024]⟩
abbrev S3x20x12288x256 : Shape := ⟨4, ![3, 20, 12288, 256]⟩
abbrev S3x20x12288 : Shape := ⟨3, ![3, 20, 12288]⟩
abbrev S3x12288x4x256 : Shape := ⟨4, ![3, 12288, 4, 256]⟩
abbrev S3x4x12288 : Shape := ⟨3, ![3, 4, 12288]⟩
abbrev S1x256x5120 : Shape := ⟨3, ![1, 256, 5120]⟩
abbrev S1x256x1024 : Shape := ⟨3, ![1, 256, 1024]⟩
abbrev S1x20x256x256 : Shape := ⟨4, ![1, 20, 256, 256]⟩
abbrev S1x20x256 : Shape := ⟨3, ![1, 20, 256]⟩
abbrev S1x256x4x256 : Shape := ⟨4, ![1, 256, 4, 256]⟩
abbrev S1x4x256 : Shape := ⟨3, ![1, 4, 256]⟩
abbrev S3x4x256x256 : Shape := ⟨4, ![3, 4, 256, 256]⟩
abbrev S3x4x256x128 : Shape := ⟨4, ![3, 4, 256, 128]⟩
abbrev S256x128 : Shape := ⟨2, ![256, 128]⟩
abbrev S24x256 : Shape := ⟨2, ![24, 256]⟩
abbrev S2x128x128 : Shape := ⟨3, ![2, 128, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256x1x256 : Shape := ⟨4, ![1, 256, 1, 256]⟩
abbrev S1x1x256x256 : Shape := ⟨4, ![1, 1, 256, 256]⟩
abbrev S1x1x256x128 : Shape := ⟨4, ![1, 1, 256, 128]⟩
abbrev S128x256 : Shape := ⟨2, ![128, 256]⟩
abbrev S32x256 : Shape := ⟨2, ![32, 256]⟩
abbrev S20x256 : Shape := ⟨2, ![20, 256]⟩
abbrev S4x256 : Shape := ⟨2, ![4, 256]⟩
abbrev S128x128 : Shape := ⟨2, ![128, 128]⟩
abbrev S1x1x128x128 : Shape := ⟨4, ![1, 1, 128, 128]⟩
abbrev S1x128x128 : Shape := ⟨3, ![1, 128, 128]⟩
abbrev S1x256 : Shape := ⟨2, ![1, 256]⟩
abbrev S128 : Shape := ⟨1, ![128]⟩
abbrev S1x128 : Shape := ⟨2, ![1, 128]⟩
abbrev S3x12288x20x256 : Shape := ⟨4, ![3, 12288, 20, 256]⟩
abbrev S3x12288x20 : Shape := ⟨3, ![3, 12288, 20]⟩
abbrev S3x12288x4 : Shape := ⟨3, ![3, 12288, 4]⟩

abbrev nBuf : Space → Nat
  | .hbm => 14
  | .vmem => 26
  | .smem => 0
  | _ => 0

abbrev bufTy : (tb : Table) → Fin (tcTables nBuf tb) → BufTy
  | .hbm, ⟨0, _⟩ => ⟨S3x12288x5120, .bf16⟩
  | .hbm, ⟨1, _⟩ => ⟨S3x12288x1024, .bf16⟩
  | .hbm, ⟨2, _⟩ => ⟨S3x12288x1024, .bf16⟩
  | .hbm, ⟨3, _⟩ => ⟨S3x12288x5120, .bf16⟩
  | .hbm, ⟨4, _⟩ => ⟨S3x20x12288x256, .fp8e4m3⟩
  | .hbm, ⟨5, _⟩ => ⟨S3x20x12288, .f32⟩
  | .hbm, ⟨6, _⟩ => ⟨S3x12288x4x256, .fp8e4m3⟩
  | .hbm, ⟨7, _⟩ => ⟨S3x4x12288, .f32⟩
  | .hbm, ⟨8, _⟩ => ⟨S3x12288x4x256, .fp8e4m3⟩
  | .hbm, ⟨9, _⟩ => ⟨S3x4x12288, .f32⟩
  | .hbm, ⟨10, _⟩ => ⟨S3x12288x20x256, .fp8e4m3⟩
  | .hbm, ⟨11, _⟩ => ⟨S3x12288x20, .f32⟩
  | .hbm, ⟨12, _⟩ => ⟨S3x12288x4, .f32⟩
  | .hbm, ⟨13, _⟩ => ⟨S3x12288x4, .f32⟩
  | .local _ .vmem, ⟨0, _⟩ => ⟨S1x256x5120, .bf16⟩
  | .local _ .vmem, ⟨1, _⟩ => ⟨S1x256x5120, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x5120, .bf16⟩
  | .local _ .vmem, ⟨7, _⟩ => ⟨S1x256x5120, .bf16⟩
  | .local _ .vmem, ⟨8, _⟩ => ⟨S1x20x256x256, .fp8e4m3⟩
  | .local _ .vmem, ⟨9, _⟩ => ⟨S1x20x256x256, .fp8e4m3⟩
  | .local _ .vmem, ⟨10, _⟩ => ⟨S1x20x256, .f32⟩
  | .local _ .vmem, ⟨11, _⟩ => ⟨S1x20x256, .f32⟩
  | .local _ .vmem, ⟨12, _⟩ => ⟨S1x256x4x256, .fp8e4m3⟩
  | .local _ .vmem, ⟨13, _⟩ => ⟨S1x256x4x256, .fp8e4m3⟩
  | .local _ .vmem, ⟨14, _⟩ => ⟨S1x4x256, .f32⟩
  | .local _ .vmem, ⟨15, _⟩ => ⟨S1x4x256, .f32⟩
  | .local _ .vmem, ⟨16, _⟩ => ⟨S1x256x4x256, .fp8e4m3⟩
  | .local _ .vmem, ⟨17, _⟩ => ⟨S1x256x4x256, .fp8e4m3⟩
  | .local _ .vmem, ⟨18, _⟩ => ⟨S1x4x256, .f32⟩
  | .local _ .vmem, ⟨19, _⟩ => ⟨S1x4x256, .f32⟩
  | .local _ .vmem, ⟨20, _⟩ => ⟨S3x4x256x256, .fp8e4m3⟩
  | .local _ .vmem, ⟨21, _⟩ => ⟨S3x4x256x256, .bf16⟩
  | .local _ .vmem, ⟨22, _⟩ => ⟨S3x4x256x128, .f32⟩
  | .local _ .vmem, ⟨23, _⟩ => ⟨S256x128, .f32⟩
  | .local _ .vmem, ⟨24, _⟩ => ⟨S24x256, .f32⟩
  | .local _ .vmem, ⟨25, _⟩ => ⟨S2x128x128, .f32⟩
  | _, _ => ⟨S3x12288x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 48], ![false, false]⟩

def k0_off1 (i : grid0.Coords) : Fin 4 → Nat :=
  let arg1 : BitVec 32 := BitVec.ofNat 32 (i 1).val
  let c3_i32 : BitVec 32 := 3#32
  let v0 : BitVec 32 := Scalar.remsi arg1 c3_i32
  let v111 : Index := Scalar.indexCast v0
  let c0_33 : Index := 0#32
  let c0_34 : Index := 0#32
  let c0_35 : Index := 0#32
  ![v111.toNat, 0, 0, 0]
def k0_off2 (i : grid0.Coords) : Fin 4 → Nat :=
  let arg1 : BitVec 32 := BitVec.ofNat 32 (i 1).val
  let c3_i32 : BitVec 32 := 3#32
  let v0 : BitVec 32 := Scalar.remsi arg1 c3_i32
  let v203 : Index := Scalar.indexCast v0
  let c0_67 : Index := 0#32
  let c0_68 : Index := 0#32
  let c0_69 : Index := 0#32
  ![v203.toNat, 0, 0, 0]
def k0_off3 (i : grid0.Coords) : Fin 4 → Nat :=
  let arg1 : BitVec 32 := BitVec.ofNat 32 (i 1).val
  let c3_i32 : BitVec 32 := 3#32
  let v0 : BitVec 32 := Scalar.remsi arg1 c3_i32
  let v514 : Index := Scalar.indexCast v0
  let c1_186 : Index := 1#32
  let c0_187 : Index := 0#32
  let c0_188 : Index := 0#32
  ![v514.toNat, 1, 0, 0]
def k0_off4 (i : grid0.Coords) : Fin 4 → Nat :=
  let arg1 : BitVec 32 := BitVec.ofNat 32 (i 1).val
  let c3_i32 : BitVec 32 := 3#32
  let v0 : BitVec 32 := Scalar.remsi arg1 c3_i32
  let v606 : Index := Scalar.indexCast v0
  let c1_220 : Index := 1#32
  let c0_221 : Index := 0#32
  let c0_222 : Index := 0#32
  ![v606.toNat, 1, 0, 0]
def k0_off5 (i : grid0.Coords) : Fin 4 → Nat :=
  let arg1 : BitVec 32 := BitVec.ofNat 32 (i 1).val
  let c3_i32 : BitVec 32 := 3#32
  let v0 : BitVec 32 := Scalar.remsi arg1 c3_i32
  let v917 : Index := Scalar.indexCast v0
  let c2_339 : Index := 2#32
  let c0_340 : Index := 0#32
  let c0_341 : Index := 0#32
  ![v917.toNat, 2, 0, 0]
def k0_off6 (i : grid0.Coords) : Fin 4 → Nat :=
  let arg1 : BitVec 32 := BitVec.ofNat 32 (i 1).val
  let c3_i32 : BitVec 32 := 3#32
  let v0 : BitVec 32 := Scalar.remsi arg1 c3_i32
  let v1009 : Index := Scalar.indexCast v0
  let c2_373 : Index := 2#32
  let c0_374 : Index := 0#32
  let c0_375 : Index := 0#32
  ![v1009.toNat, 2, 0, 0]
def k0_off7 (i : grid0.Coords) : Fin 4 → Nat :=
  let arg1 : BitVec 32 := BitVec.ofNat 32 (i 1).val
  let c3_i32 : BitVec 32 := 3#32
  let v0 : BitVec 32 := Scalar.remsi arg1 c3_i32
  let v1320 : Index := Scalar.indexCast v0
  let c3_492 : Index := 3#32
  let c0_493 : Index := 0#32
  let c0_494 : Index := 0#32
  ![v1320.toNat, 3, 0, 0]
def k0_off8 (i : grid0.Coords) : Fin 4 → Nat :=
  let arg1 : BitVec 32 := BitVec.ofNat 32 (i 1).val
  let c3_i32 : BitVec 32 := 3#32
  let v0 : BitVec 32 := Scalar.remsi arg1 c3_i32
  let v1412 : Index := Scalar.indexCast v0
  let c3_526 : Index := 3#32
  let c0_527 : Index := 0#32
  let c0_528 : Index := 0#32
  ![v1412.toNat, 3, 0, 0]
def k0_cond2 (i : grid0.Coords) : BitVec 1 :=
  let arg1 : BitVec 32 := BitVec.ofNat 32 (i 1).val
  let c2_i32_1480 : BitVec 32 := 2#32
  let v3851 : BitVec 1 := Scalar.cmpi .sge arg1 c2_i32_1480
  let v3852 : BitVec 32 := Scalar.extui v3851
  let c0_i32_1481 : BitVec 32 := 0#32
  let v3853 : BitVec 1 := Scalar.cmpi .ne v3852 c0_i32_1481
  v3853

def k0_off9 (i : grid0.Coords) : Fin 4 → Nat :=
  let arg1 : BitVec 32 := BitVec.ofNat 32 (i 1).val
  let c3_i32 : BitVec 32 := 3#32
  let v0 : BitVec 32 := Scalar.remsi arg1 c3_i32
  let v3857 : Index := Scalar.indexCast v0
  let c0_1484 : Index := 0#32
  let c0_1485 : Index := 0#32
  let c0_1486 : Index := 0#32
  ![v3857.toNat, 0, 0, 0]
def k0_off10 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v3860 : Index := Scalar.indexCast v4
  let c0_1487 : Index := 0#32
  let c0_1488 : Index := 0#32
  let c0_1489 : Index := 0#32
  ![v3860.toNat, 0, 0, 0]
def k0_off11 (i : grid0.Coords) : Fin 4 → Nat :=
  let arg1 : BitVec 32 := BitVec.ofNat 32 (i 1).val
  let c3_i32 : BitVec 32 := 3#32
  let v0 : BitVec 32 := Scalar.remsi arg1 c3_i32
  let v3867 : Index := Scalar.indexCast v0
  let c0_1493 : Index := 0#32
  let c128 : Index := 128#32
  let c0_1494 : Index := 0#32
  ![v3867.toNat, 0, 128, 0]
def k0_off12 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v3870 : Index := Scalar.indexCast v4
  let c0_1495 : Index := 0#32
  let c128_1496 : Index := 128#32
  let c0_1497 : Index := 0#32
  ![v3870.toNat, 0, 128, 0]
def k0_off13 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v3880 : Index := Scalar.indexCast v4
  let c0_1507 : Index := 0#32
  let c0_1508 : Index := 0#32
  let c0_1509 : Index := 0#32
  ![v3880.toNat, 0, 0, 0]
def k0_off14 (i : grid0.Coords) : Fin 4 → Nat :=
  let arg1 : BitVec 32 := BitVec.ofNat 32 (i 1).val
  let c3_i32 : BitVec 32 := 3#32
  let v0 : BitVec 32 := Scalar.remsi arg1 c3_i32
  let v3888 : Index := Scalar.indexCast v0
  let c0_1515 : Index := 0#32
  let c0_1516 : Index := 0#32
  let c0_1517 : Index := 0#32
  ![v3888.toNat, 0, 0, 0]
def k0_off15 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v3904 : Index := Scalar.indexCast v2
  let c0_1525 : Index := 0#32
  let c0_1526 : Index := 0#32
  let c0_1527 : Index := 0#32
  ![v3904.toNat, 0, 0, 0]
def k0_off16 (i : grid0.Coords) : Fin 4 → Nat :=
  let arg1 : BitVec 32 := BitVec.ofNat 32 (i 1).val
  let c3_i32 : BitVec 32 := 3#32
  let v0 : BitVec 32 := Scalar.remsi arg1 c3_i32
  let v4697 : Index := Scalar.indexCast v0
  let c1_1846 : Index := 1#32
  let c0_1847 : Index := 0#32
  let c0_1848 : Index := 0#32
  ![v4697.toNat, 1, 0, 0]
def k0_off17 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v4700 : Index := Scalar.indexCast v4
  let c1_1849 : Index := 1#32
  let c0_1850 : Index := 0#32
  let c0_1851 : Index := 0#32
  ![v4700.toNat, 1, 0, 0]
def k0_off18 (i : grid0.Coords) : Fin 4 → Nat :=
  let arg1 : BitVec 32 := BitVec.ofNat 32 (i 1).val
  let c3_i32 : BitVec 32 := 3#32
  let v0 : BitVec 32 := Scalar.remsi arg1 c3_i32
  let v4707 : Index := Scalar.indexCast v0
  let c1_1855 : Index := 1#32
  let c128_1856 : Index := 128#32
  let c0_1857 : Index := 0#32
  ![v4707.toNat, 1, 128, 0]
def k0_off19 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v4710 : Index := Scalar.indexCast v4
  let c1_1858 : Index := 1#32
  let c128_1859 : Index := 128#32
  let c0_1860 : Index := 0#32
  ![v4710.toNat, 1, 128, 0]
def k0_off20 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v4720 : Index := Scalar.indexCast v4
  let c1_1870 : Index := 1#32
  let c0_1871 : Index := 0#32
  let c0_1872 : Index := 0#32
  ![v4720.toNat, 1, 0, 0]
def k0_off21 (i : grid0.Coords) : Fin 4 → Nat :=
  let arg1 : BitVec 32 := BitVec.ofNat 32 (i 1).val
  let c3_i32 : BitVec 32 := 3#32
  let v0 : BitVec 32 := Scalar.remsi arg1 c3_i32
  let v4728 : Index := Scalar.indexCast v0
  let c1_1878 : Index := 1#32
  let c0_1879 : Index := 0#32
  let c0_1880 : Index := 0#32
  ![v4728.toNat, 1, 0, 0]
def k0_off22 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v4744 : Index := Scalar.indexCast v2
  let c1_1888 : Index := 1#32
  let c0_1889 : Index := 0#32
  let c0_1890 : Index := 0#32
  ![v4744.toNat, 1, 0, 0]
def k0_off23 (i : grid0.Coords) : Fin 4 → Nat :=
  let arg1 : BitVec 32 := BitVec.ofNat 32 (i 1).val
  let c3_i32 : BitVec 32 := 3#32
  let v0 : BitVec 32 := Scalar.remsi arg1 c3_i32
  let v5537 : Index := Scalar.indexCast v0
  let c2_2209 : Index := 2#32
  let c0_2210 : Index := 0#32
  let c0_2211 : Index := 0#32
  ![v5537.toNat, 2, 0, 0]
def k0_off24 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v5540 : Index := Scalar.indexCast v4
  let c2_2212 : Index := 2#32
  let c0_2213 : Index := 0#32
  let c0_2214 : Index := 0#32
  ![v5540.toNat, 2, 0, 0]
def k0_off25 (i : grid0.Coords) : Fin 4 → Nat :=
  let arg1 : BitVec 32 := BitVec.ofNat 32 (i 1).val
  let c3_i32 : BitVec 32 := 3#32
  let v0 : BitVec 32 := Scalar.remsi arg1 c3_i32
  let v5547 : Index := Scalar.indexCast v0
  let c2_2218 : Index := 2#32
  let c128_2219 : Index := 128#32
  let c0_2220 : Index := 0#32
  ![v5547.toNat, 2, 128, 0]
def k0_off26 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v5550 : Index := Scalar.indexCast v4
  let c2_2221 : Index := 2#32
  let c128_2222 : Index := 128#32
  let c0_2223 : Index := 0#32
  ![v5550.toNat, 2, 128, 0]
def k0_off27 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v5560 : Index := Scalar.indexCast v4
  let c2_2233 : Index := 2#32
  let c0_2234 : Index := 0#32
  let c0_2235 : Index := 0#32
  ![v5560.toNat, 2, 0, 0]
def k0_off28 (i : grid0.Coords) : Fin 4 → Nat :=
  let arg1 : BitVec 32 := BitVec.ofNat 32 (i 1).val
  let c3_i32 : BitVec 32 := 3#32
  let v0 : BitVec 32 := Scalar.remsi arg1 c3_i32
  let v5568 : Index := Scalar.indexCast v0
  let c2_2241 : Index := 2#32
  let c0_2242 : Index := 0#32
  let c0_2243 : Index := 0#32
  ![v5568.toNat, 2, 0, 0]
def k0_off29 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v5584 : Index := Scalar.indexCast v2
  let c2_2251 : Index := 2#32
  let c0_2252 : Index := 0#32
  let c0_2253 : Index := 0#32
  ![v5584.toNat, 2, 0, 0]
def k0_off30 (i : grid0.Coords) : Fin 4 → Nat :=
  let arg1 : BitVec 32 := BitVec.ofNat 32 (i 1).val
  let c3_i32 : BitVec 32 := 3#32
  let v0 : BitVec 32 := Scalar.remsi arg1 c3_i32
  let v6377 : Index := Scalar.indexCast v0
  let c3_2572 : Index := 3#32
  let c0_2573 : Index := 0#32
  let c0_2574 : Index := 0#32
  ![v6377.toNat, 3, 0, 0]
def k0_off31 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v6380 : Index := Scalar.indexCast v4
  let c3_2575 : Index := 3#32
  let c0_2576 : Index := 0#32
  let c0_2577 : Index := 0#32
  ![v6380.toNat, 3, 0, 0]
def k0_off32 (i : grid0.Coords) : Fin 4 → Nat :=
  let arg1 : BitVec 32 := BitVec.ofNat 32 (i 1).val
  let c3_i32 : BitVec 32 := 3#32
  let v0 : BitVec 32 := Scalar.remsi arg1 c3_i32
  let v6387 : Index := Scalar.indexCast v0
  let c3_2581 : Index := 3#32
  let c128_2582 : Index := 128#32
  let c0_2583 : Index := 0#32
  ![v6387.toNat, 3, 128, 0]
def k0_off33 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v6390 : Index := Scalar.indexCast v4
  let c3_2584 : Index := 3#32
  let c128_2585 : Index := 128#32
  let c0_2586 : Index := 0#32
  ![v6390.toNat, 3, 128, 0]
def k0_off34 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v6400 : Index := Scalar.indexCast v4
  let c3_2596 : Index := 3#32
  let c0_2597 : Index := 0#32
  let c0_2598 : Index := 0#32
  ![v6400.toNat, 3, 0, 0]
def k0_off35 (i : grid0.Coords) : Fin 4 → Nat :=
  let arg1 : BitVec 32 := BitVec.ofNat 32 (i 1).val
  let c3_i32 : BitVec 32 := 3#32
  let v0 : BitVec 32 := Scalar.remsi arg1 c3_i32
  let v6408 : Index := Scalar.indexCast v0
  let c3_2604 : Index := 3#32
  let c0_2605 : Index := 0#32
  let c0_2606 : Index := 0#32
  ![v6408.toNat, 3, 0, 0]
def k0_off36 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v6424 : Index := Scalar.indexCast v2
  let c3_2614 : Index := 3#32
  let c0_2615 : Index := 0#32
  let c0_2616 : Index := 0#32
  ![v6424.toNat, 3, 0, 0]
def k0_cond3 (i : grid0.Coords) : BitVec 1 :=
  let arg1 : BitVec 32 := BitVec.ofNat 32 (i 1).val
  let c2_i32_1482 : BitVec 32 := 2#32
  let v3854 : BitVec 1 := Scalar.cmpi .slt arg1 c2_i32_1482
  let v3855 : BitVec 32 := Scalar.extui v3854
  let c0_i32_1483 : BitVec 32 := 0#32
  let v3856 : BitVec 1 := Scalar.cmpi .ne v3855 c0_i32_1483
  v3856

def k0_off37 (i : grid0.Coords) : Fin 4 → Nat :=
  let arg1 : BitVec 32 := BitVec.ofNat 32 (i 1).val
  let c3_i32 : BitVec 32 := 3#32
  let v0 : BitVec 32 := Scalar.remsi arg1 c3_i32
  let v3857 : Index := Scalar.indexCast v0
  let c0_1484 : Index := 0#32
  let c0_1485 : Index := 0#32
  let c0_1486 : Index := 0#32
  ![v3857.toNat, 0, 0, 0]
def k0_off38 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v3860 : Index := Scalar.indexCast v4
  let c0_1487 : Index := 0#32
  let c0_1488 : Index := 0#32
  let c0_1489 : Index := 0#32
  ![v3860.toNat, 0, 0, 0]
def k0_off39 (i : grid0.Coords) : Fin 4 → Nat :=
  let arg1 : BitVec 32 := BitVec.ofNat 32 (i 1).val
  let c3_i32 : BitVec 32 := 3#32
  let v0 : BitVec 32 := Scalar.remsi arg1 c3_i32
  let v3867 : Index := Scalar.indexCast v0
  let c0_1493 : Index := 0#32
  let c128 : Index := 128#32
  let c0_1494 : Index := 0#32
  ![v3867.toNat, 0, 128, 0]
def k0_off40 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v3870 : Index := Scalar.indexCast v4
  let c0_1495 : Index := 0#32
  let c128_1496 : Index := 128#32
  let c0_1497 : Index := 0#32
  ![v3870.toNat, 0, 128, 0]
def k0_off41 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v3880 : Index := Scalar.indexCast v4
  let c0_1507 : Index := 0#32
  let c0_1508 : Index := 0#32
  let c0_1509 : Index := 0#32
  ![v3880.toNat, 0, 0, 0]
def k0_off42 (i : grid0.Coords) : Fin 4 → Nat :=
  let arg1 : BitVec 32 := BitVec.ofNat 32 (i 1).val
  let c3_i32 : BitVec 32 := 3#32
  let v0 : BitVec 32 := Scalar.remsi arg1 c3_i32
  let v3888 : Index := Scalar.indexCast v0
  let c0_1515 : Index := 0#32
  let c0_1516 : Index := 0#32
  let c0_1517 : Index := 0#32
  ![v3888.toNat, 0, 0, 0]
def k0_off43 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v3910 : Index := Scalar.indexCast v2
  let c0_1529 : Index := 0#32
  let c0_1530 : Index := 0#32
  let c0_1531 : Index := 0#32
  ![v3910.toNat, 0, 0, 0]
def k0_off44 (i : grid0.Coords) : Fin 4 → Nat :=
  let arg1 : BitVec 32 := BitVec.ofNat 32 (i 1).val
  let c3_i32 : BitVec 32 := 3#32
  let v0 : BitVec 32 := Scalar.remsi arg1 c3_i32
  let v4727 : Index := Scalar.indexCast v0
  let c1_1866 : Index := 1#32
  let c0_1867 : Index := 0#32
  let c0_1868 : Index := 0#32
  ![v4727.toNat, 1, 0, 0]
def k0_off45 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v4730 : Index := Scalar.indexCast v4
  let c1_1869 : Index := 1#32
  let c0_1870 : Index := 0#32
  let c0_1871 : Index := 0#32
  ![v4730.toNat, 1, 0, 0]
def k0_off46 (i : grid0.Coords) : Fin 4 → Nat :=
  let arg1 : BitVec 32 := BitVec.ofNat 32 (i 1).val
  let c3_i32 : BitVec 32 := 3#32
  let v0 : BitVec 32 := Scalar.remsi arg1 c3_i32
  let v4737 : Index := Scalar.indexCast v0
  let c1_1875 : Index := 1#32
  let c128_1876 : Index := 128#32
  let c0_1877 : Index := 0#32
  ![v4737.toNat, 1, 128, 0]
def k0_off47 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v4740 : Index := Scalar.indexCast v4
  let c1_1878 : Index := 1#32
  let c128_1879 : Index := 128#32
  let c0_1880 : Index := 0#32
  ![v4740.toNat, 1, 128, 0]
def k0_off48 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v4750 : Index := Scalar.indexCast v4
  let c1_1890 : Index := 1#32
  let c0_1891 : Index := 0#32
  let c0_1892 : Index := 0#32
  ![v4750.toNat, 1, 0, 0]
def k0_off49 (i : grid0.Coords) : Fin 4 → Nat :=
  let arg1 : BitVec 32 := BitVec.ofNat 32 (i 1).val
  let c3_i32 : BitVec 32 := 3#32
  let v0 : BitVec 32 := Scalar.remsi arg1 c3_i32
  let v4758 : Index := Scalar.indexCast v0
  let c1_1898 : Index := 1#32
  let c0_1899 : Index := 0#32
  let c0_1900 : Index := 0#32
  ![v4758.toNat, 1, 0, 0]
def k0_off50 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v4780 : Index := Scalar.indexCast v2
  let c1_1912 : Index := 1#32
  let c0_1913 : Index := 0#32
  let c0_1914 : Index := 0#32
  ![v4780.toNat, 1, 0, 0]
def k0_off51 (i : grid0.Coords) : Fin 4 → Nat :=
  let arg1 : BitVec 32 := BitVec.ofNat 32 (i 1).val
  let c3_i32 : BitVec 32 := 3#32
  let v0 : BitVec 32 := Scalar.remsi arg1 c3_i32
  let v5597 : Index := Scalar.indexCast v0
  let c2_2249 : Index := 2#32
  let c0_2250 : Index := 0#32
  let c0_2251 : Index := 0#32
  ![v5597.toNat, 2, 0, 0]
def k0_off52 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v5600 : Index := Scalar.indexCast v4
  let c2_2252 : Index := 2#32
  let c0_2253 : Index := 0#32
  let c0_2254 : Index := 0#32
  ![v5600.toNat, 2, 0, 0]
def k0_off53 (i : grid0.Coords) : Fin 4 → Nat :=
  let arg1 : BitVec 32 := BitVec.ofNat 32 (i 1).val
  let c3_i32 : BitVec 32 := 3#32
  let v0 : BitVec 32 := Scalar.remsi arg1 c3_i32
  let v5607 : Index := Scalar.indexCast v0
  let c2_2258 : Index := 2#32
  let c128_2259 : Index := 128#32
  let c0_2260 : Index := 0#32
  ![v5607.toNat, 2, 128, 0]
def k0_off54 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v5610 : Index := Scalar.indexCast v4
  let c2_2261 : Index := 2#32
  let c128_2262 : Index := 128#32
  let c0_2263 : Index := 0#32
  ![v5610.toNat, 2, 128, 0]
def k0_off55 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v5620 : Index := Scalar.indexCast v4
  let c2_2273 : Index := 2#32
  let c0_2274 : Index := 0#32
  let c0_2275 : Index := 0#32
  ![v5620.toNat, 2, 0, 0]
def k0_off56 (i : grid0.Coords) : Fin 4 → Nat :=
  let arg1 : BitVec 32 := BitVec.ofNat 32 (i 1).val
  let c3_i32 : BitVec 32 := 3#32
  let v0 : BitVec 32 := Scalar.remsi arg1 c3_i32
  let v5628 : Index := Scalar.indexCast v0
  let c2_2281 : Index := 2#32
  let c0_2282 : Index := 0#32
  let c0_2283 : Index := 0#32
  ![v5628.toNat, 2, 0, 0]
def k0_off57 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v5650 : Index := Scalar.indexCast v2
  let c2_2295 : Index := 2#32
  let c0_2296 : Index := 0#32
  let c0_2297 : Index := 0#32
  ![v5650.toNat, 2, 0, 0]
def k0_off58 (i : grid0.Coords) : Fin 4 → Nat :=
  let arg1 : BitVec 32 := BitVec.ofNat 32 (i 1).val
  let c3_i32 : BitVec 32 := 3#32
  let v0 : BitVec 32 := Scalar.remsi arg1 c3_i32
  let v6467 : Index := Scalar.indexCast v0
  let c3_2632 : Index := 3#32
  let c0_2633 : Index := 0#32
  let c0_2634 : Index := 0#32
  ![v6467.toNat, 3, 0, 0]
def k0_off59 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v6470 : Index := Scalar.indexCast v4
  let c3_2635 : Index := 3#32
  let c0_2636 : Index := 0#32
  let c0_2637 : Index := 0#32
  ![v6470.toNat, 3, 0, 0]
def k0_off60 (i : grid0.Coords) : Fin 4 → Nat :=
  let arg1 : BitVec 32 := BitVec.ofNat 32 (i 1).val
  let c3_i32 : BitVec 32 := 3#32
  let v0 : BitVec 32 := Scalar.remsi arg1 c3_i32
  let v6477 : Index := Scalar.indexCast v0
  let c3_2641 : Index := 3#32
  let c128_2642 : Index := 128#32
  let c0_2643 : Index := 0#32
  ![v6477.toNat, 3, 128, 0]
def k0_off61 (i : grid0.Coords) : Fin 4 → Nat :=
  let arg1 : BitVec 32 := BitVec.ofNat 32 (i 1).val
  let c1_i32 : BitVec 32 := 1#32
  let v3 : BitVec 32 := Scalar.addi arg1 c1_i32
  let c3_i32_1 : BitVec 32 := 3#32
  let v4 : BitVec 32 := Scalar.remsi v3 c3_i32_1
  let v6480 : Index := Scalar.indexCast v4
  let c3_2644 : Index := 3#32
  let c128_2645 : Index := 128#32
  let c0_2646 : Index := 0#32
  ![v6480.toNat, 3, 128, 0]
def k0_off62 (i : grid0.Coords) (c1_i32 : BitVec 32) : Fin 4 → Nat :=
  let arg1 : BitVec 32 := BitVec.ofNat 32 (i 1).val
  let v3 : BitVec 32 := Scalar.addi arg1 c1_i32
  let c3_i32_1 : BitVec 32 := 3#32
  let v4 : BitVec 32 := Scalar.remsi v3 c3_i32_1
  let v6490 : Index := Scalar.indexCast v4
  let c3_2656 : Index := 3#32
  let c0_2657 : Index := 0#32
  let c0_2658 : Index := 0#32
  ![v6490.toNat, 3, 0, 0]
def k0_off63 (i : grid0.Coords) : Fin 4 → Nat :=
  let arg1 : BitVec 32 := BitVec.ofNat 32 (i 1).val
  let c3_i32 : BitVec 32 := 3#32
  let v0 : BitVec 32 := Scalar.remsi arg1 c3_i32
  let v6498 : Index := Scalar.indexCast v0
  let c3_2664 : Index := 3#32
  let c0_2665 : Index := 0#32
  let c0_2666 : Index := 0#32
  ![v6498.toNat, 3, 0, 0]
def k0_off64 (i : grid0.Coords) : Fin 4 → Nat :=
  let arg1 : BitVec 32 := BitVec.ofNat 32 (i 1).val
  let c2_i32 : BitVec 32 := 2#32
  let v1 : BitVec 32 := Scalar.addi arg1 c2_i32
  let c3_i32_0 : BitVec 32 := 3#32
  let v2 : BitVec 32 := Scalar.remsi v1 c3_i32_0
  let v6520 : Index := Scalar.indexCast v2
  let c3_2678 : Index := 3#32
  let c0_2679 : Index := 0#32
  let c0_2680 : Index := 0#32
  ![v6520.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x20x256x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x20x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e_16" => some (((1 / 16) * (Real.log 2)⁻¹ : ℝ) : EReal)
  | _ => none
-- ==== ReferenceIdeal.lean ====
abbrev S3x12288x5120 : Shape := ⟨3, ![3, 12288, 5120]⟩
abbrev S3x12288x1024 : Shape := ⟨3, ![3, 12288, 1024]⟩
abbrev S3x12288x20x256 : Shape := ⟨4, ![3, 12288, 20, 256]⟩
abbrev S3x12288x4x256 : Shape := ⟨4, ![3, 12288, 4, 256]⟩
abbrev S3x12288x20 : Shape := ⟨3, ![3, 12288, 20]⟩
abbrev S3x12288x4 : Shape := ⟨3, ![3, 12288, 4]⟩
abbrev S3x12288x20x1 : Shape := ⟨4, ![3, 12288, 20, 1]⟩
abbrev S3x12288x4x1 : Shape := ⟨4, ![3, 12288, 4, 1]⟩
abbrev S3x12288x4x5x256 : Shape := ⟨5, ![3, 12288, 4, 5, 256]⟩
abbrev S3x12288x4x5 : Shape := ⟨4, ![3, 12288, 4, 5]⟩
abbrev S3x4x12288x12288x5 : Shape := ⟨5, ![3, 4, 12288, 12288, 5]⟩
abbrev S3x12288x4x5x12288 : Shape := ⟨5, ![3, 12288, 4, 5, 12288]⟩
abbrev S3x4x12288 : Shape := ⟨3, ![3, 4, 12288]⟩
abbrev S3x1x4x1x12288 : Shape := ⟨5, ![3, 1, 4, 1, 12288]⟩
abbrev S12288x12288 : Shape := ⟨2, ![12288, 12288]⟩
abbrev S_ : Shape := ⟨0, ![]⟩
abbrev S3x12288x4x5x1 : Shape := ⟨5, ![3, 12288, 4, 5, 1]⟩
abbrev S1x12288x1x1x12288 : Shape := ⟨5, ![1, 12288, 1, 1, 12288]⟩
abbrev S3x4x256x12288x5 : Shape := ⟨5, ![3, 4, 256, 12288, 5]⟩

abbrev nBuf : Space → Nat
  | .hbm => 74
  | .vmem => 12
  | .smem => 0
  | _ => 0

abbrev bufTy : (tb : Table) → Fin (tcTables nBuf tb) → BufTy
  | .hbm, ⟨0, _⟩ => ⟨S3x12288x5120, .bf16⟩
  | .hbm, ⟨1, _⟩ => ⟨S3x12288x1024, .bf16⟩
  | .hbm, ⟨2, _⟩ => ⟨S3x12288x1024, .bf16⟩
  | .hbm, ⟨3, _⟩ => ⟨S3x12288x20x256, .bf16⟩
  | .hbm, ⟨4, _⟩ => ⟨S3x12288x4x256, .bf16⟩
  | .hbm, ⟨5, _⟩ => ⟨S3x12288x4x256, .bf16⟩
  | .hbm, ⟨6, _⟩ => ⟨S3x12288x20x256, .fp8e4m3⟩
  | .hbm, ⟨7, _⟩ => ⟨S3x12288x20x256, .f32⟩
  | .hbm, ⟨8, _⟩ => ⟨S3x12288x20, .f32⟩
  | .hbm, ⟨9, _⟩ => ⟨S3x12288x4x256, .fp8e4m3⟩
  | .hbm, ⟨10, _⟩ => ⟨S3x12288x4x256, .f32⟩
  | .hbm, ⟨11, _⟩ => ⟨S3x12288x4, .f32⟩
  | .hbm, ⟨12, _⟩ => ⟨S3x12288x4x256, .fp8e4m3⟩
  | .hbm, ⟨13, _⟩ => ⟨S3x12288x4x256, .f32⟩
  | .hbm, ⟨14, _⟩ => ⟨S3x12288x4, .f32⟩
  | .hbm, ⟨15, _⟩ => ⟨S3x12288x4x5x256, .f32⟩
  | .hbm, ⟨16, _⟩ => ⟨S3x12288x4x5, .f32⟩
  | .hbm, ⟨17, _⟩ => ⟨S3x4x12288x12288x5, .f32⟩
  | .hbm, ⟨18, _⟩ => ⟨S3x12288x4x5x12288, .f32⟩
  | .hbm, ⟨19, _⟩ => ⟨S3x4x12288, .f32⟩
  | .hbm, ⟨20, _⟩ => ⟨S3x1x4x1x12288, .f32⟩
  | .hbm, ⟨21, _⟩ => ⟨S3x4x12288, .f32⟩
  | .hbm, ⟨22, _⟩ => ⟨S3x1x4x1x12288, .f32⟩
  | .hbm, ⟨23, _⟩ => ⟨S12288x12288, .i32⟩
  | .hbm, ⟨24, _⟩ => ⟨S12288x12288, .i32⟩
  | .hbm, ⟨25, _⟩ => ⟨S12288x12288, .i32⟩
  | .hbm, ⟨26, _⟩ => ⟨S_, .i32⟩
  | .hbm, ⟨27, _⟩ => ⟨S12288x12288, .i32⟩
  | .hbm, ⟨28, _⟩ => ⟨S12288x12288, .i1⟩
  | .hbm, ⟨29, _⟩ => ⟨S_, .i32⟩
  | .hbm, ⟨30, _⟩ => ⟨S12288x12288, .i32⟩
  | .hbm, ⟨31, _⟩ => ⟨S12288x12288, .i1⟩
  | .hbm, ⟨32, _⟩ => ⟨S12288x12288, .i1⟩
  | .hbm, ⟨33, _⟩ => ⟨S3x12288x4x5x1, .f32⟩
  | .hbm, ⟨34, _⟩ => ⟨S3x12288x4x5x12288, .f32⟩
  | .hbm, ⟨35, _⟩ => ⟨S3x12288x4x5x12288, .f32⟩
  | .hbm, ⟨36, _⟩ => ⟨S3x12288x4x5x12288, .f32⟩
  | .hbm, ⟨37, _⟩ => ⟨S3x12288x4x5x12288, .f32⟩
  | .hbm, ⟨38, _⟩ => ⟨S_, .f32⟩
  | .hbm, ⟨39, _⟩ => ⟨S3x12288x4x5x12288, .f32⟩
  | .hbm, ⟨40, _⟩ => ⟨S3x12288x4x5x12288, .f32⟩
  | .hbm, ⟨41, _⟩ => ⟨S1x12288x1x1x12288, .i1⟩
  | .hbm, ⟨42, _⟩ => ⟨S3x12288x4x5x12288, .i1⟩
  | .hbm, ⟨43, _⟩ => ⟨S_, .f32⟩
  | .hbm, ⟨44, _⟩ => ⟨S3x12288x4x5x12288, .f32⟩
  | .hbm, ⟨45, _⟩ => ⟨S3x12288x4x5x12288, .f32⟩
  | .hbm, ⟨46, _⟩ => ⟨S_, .f32⟩
  | .hbm, ⟨47, _⟩ => ⟨S3x12288x4x5, .f32⟩
  | .hbm, ⟨48, _⟩ => ⟨S3x12288x4x5x1, .f32⟩
  | .hbm, ⟨49, _⟩ => ⟨S3x12288x4x5x12288, .f32⟩
  | .hbm, ⟨50, _⟩ => ⟨S3x12288x4x5x12288, .f32⟩
  | .hbm, ⟨51, _⟩ => ⟨S3x12288x4x5x12288, .f32⟩
  | .hbm, ⟨52, _⟩ => ⟨S_, .f32⟩
  | .hbm, ⟨53, _⟩ => ⟨S3x12288x4x5, .f32⟩
  | .hbm, ⟨54, _⟩ => ⟨S_, .f32⟩
  | .hbm, ⟨55, _⟩ => ⟨S3x12288x4x5x12288, .f32⟩
  | .hbm, ⟨56, _⟩ => ⟨S3x12288x4x5x12288, .f32⟩
  | .hbm, ⟨57, _⟩ => ⟨S_, .f32⟩
  | .hbm, ⟨58, _⟩ => ⟨S3x12288x4x5x12288, .f32⟩
  | .hbm, ⟨59, _⟩ => ⟨S3x12288x4x5x12288, .f32⟩
  | .hbm, ⟨60, _⟩ => ⟨S3x12288x4x5x12288, .f32⟩
  | .hbm, ⟨61, _⟩ => ⟨S3x12288x4x5x12288, .f32⟩
  | .hbm, ⟨62, _⟩ => ⟨S3x12288x4x5x12288, .bf16⟩
  | .hbm, ⟨63, _⟩ => ⟨S3x12288x4x256, .bf16⟩
  | .hbm, ⟨64, _⟩ => ⟨S3x4x256x12288x5, .f32⟩
  | .hbm, ⟨65, _⟩ => ⟨S3x12288x4x5x256, .f32⟩
  | .hbm, ⟨66, _⟩ => ⟨S_, .f32⟩
  | .hbm, ⟨67, _⟩ => ⟨S3x12288x4x5, .f32⟩
  | .hbm, ⟨68, _⟩ => ⟨S3x12288x4x5, .f32⟩
  | .hbm, ⟨69, _⟩ => ⟨S3x12288x4x5x1, .f32⟩
  | .hbm, ⟨70, _⟩ => ⟨S3x12288x4x5x256, .f32⟩
  | .hbm, ⟨71, _⟩ => ⟨S3x12288x4x5x256, .f32⟩
  | .hbm, ⟨72, _⟩ => ⟨S3x12288x5120, .f32⟩
  | .hbm, ⟨73, _⟩ => ⟨S3x12288x5120, .bf16⟩
  | .local _ .vmem, ⟨0, _⟩ => ⟨S3x12288x20x256, .bf16⟩
  | .local _ .vmem, ⟨1, _⟩ => ⟨S3x12288x4x256, .bf16⟩
  | .local _ .vmem, ⟨2, _⟩ => ⟨S3x12288x4x256, .bf16⟩
  | .local _ .vmem, ⟨3, _⟩ => ⟨S3x12288x20x256, .fp8e4m3⟩
  | .local _ .vmem, ⟨4, _⟩ => ⟨S3x12288x20x256, .f32⟩
  | .local _ .vmem, ⟨5, _⟩ => ⟨S3x12288x20, .f32⟩
  | .local _ .vmem, ⟨6, _⟩ => ⟨S3x12288x4x256, .fp8e4m3⟩
  | .local _ .vmem, ⟨7, _⟩ => ⟨S3x12288x4x256, .f32⟩
  | .local _ .vmem, ⟨8, _⟩ => ⟨S3x12288x4, .f32⟩
  | .local _ .vmem, ⟨9, _⟩ => ⟨S3x12288x4x256, .fp8e4m3⟩
  | .local _ .vmem, ⟨10, _⟩ => ⟨S3x12288x4x256, .f32⟩
  | .local _ .vmem, ⟨11, _⟩ => ⟨S3x12288x4, .f32⟩
  | _, _ => ⟨S3x12288x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3x12288x20x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x12288x4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x12288x4x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x12288x20x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x12288x20x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x12288x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x12288x4x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x12288x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x12288x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x12288x4x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x12288x4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x12288x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Body.lean ====
/-
  The kernel's body, written once with the head as a parameter. The printed body is the same program unrolled: four
  key/value heads quantised, twenty query heads quantised, the scales, and in one of two branches the twenty heads'
  attention. Here each head is one definition, and the loops are loops; that the printed body is this program is
  `Printed.lean`'s. Everything here is for any float values and any signature, so that the printed program and its
  idealization share it.
-/
module

public import proofs.«01_k».proof.Proof.Gen.KernelIdeal
public import Idealize.ShloMosaic.Lib.Tactic

@[expose] public section

noncomputable section

namespace Cert.Gqa

open Cert.KernelIdeal Cert.KernelIdeal.Gen
open Idealize.ShloMosaic
open Idealize.ShloMosaic.TcCoe
open Idealize.SL.Sem

variable {F : FTy → Type} [FloatOps F]

/-! ### One head's arithmetic -/

/-- One step of the search for the exponent's bits: take `k` more if the power of two it stands for is not above `t`. -/
def expStep {s : Shape} (t : FVec F s .f32) (k : BitVec 32) (b : IVec s 32) : IVec s 32 :=
  select (cmpf .oge t (bitcastToFloat .f32 (shli (addi b (broadcast s k)) (broadcast s 23#32)))) (addi b (broadcast s k)) b

/-- The exponent's bits, by eight steps. -/
def expBits {s : Shape} (t : FVec F s .f32) : IVec s 32 :=
  expStep t 1#32 (expStep t 2#32 (expStep t 4#32 (expStep t 8#32 (expStep t 16#32 (expStep t 32#32
    (expStep t 64#32 (expStep t 128#32 (broadcast s 0#32))))))))

/-- The exponent of the scale: one above the exponent of `t`, 0 at 0. -/
def expOf {s : Shape} (t : FVec F s .f32) : IVec s 32 :=
  select (cmpf .oeq t (broadcast s (Scalar.ofBits .f32 0x00000000#32))) (broadcast s 0#32) (subi (expBits t) (broadcast s 126#32))

/-- A maximum over 448. -/
def over448 {s : Shape} (a : FVec F s .f32) : FVec F s .f32 := mulf a (broadcast s (Scalar.ofBits .f32 0x3B124925#32))

/-- Two to the scale's exponent, by its bits; -/
def scaleOf {s : Shape} (a : FVec F s .f32) : FVec F s .f32 :=
  bitcastToFloat .f32 (shli (addi (expOf (over448 a)) (broadcast s 127#32)) (broadcast s 23#32))
/-- and two to minus it. -/
def invOf {s : Shape} (a : FVec F s .f32) : FVec F s .f32 :=
  bitcastToFloat .f32 (shli (subi (broadcast s 127#32) (expOf (over448 a))) (broadcast s 23#32))

/-- A block's greatest magnitude, row by row. -/
def amaxOf (x : FVec F S256x256 .bf16) : FVec F S256x1 .f32 :=
  shapeCast S256x1 (multiReduction .maximumf [1] S256 (extf .f32 (absf x) bitsLt_bf16_f32) 0xFF800000#32 reduces_S256x256_S256 (.inl rfl) rfl)
    shapeCasts_S256_S256x1

/-- A block's codes. -/
def codesOf (x : FVec F S256x256 .bf16) : FVec F S256x256 .fp8e4m3 :=
  truncf .fp8e4m3 (minimumf (broadcast S256x256 (Scalar.ofBits .f32 0x43E00000#32))
    (maximumf (broadcast S256x256 (Scalar.ofBits .f32 0xC3E00000#32))
      (mulf (extf .f32 x bitsLt_bf16_f32) (broadcastTo S256x256 (invOf (amaxOf x)) broadcasts_S256x1_S256x256)))) bitsLt_fp8e4m3_f32

/-- The key scales, the same in every column. -/
def kscaleOf (x : FVec F S256x256 .bf16) : FVec F S256x128 .f32 :=
  broadcastTo S256x128 (shapeCast S256x1 (scaleOf (amaxOf x)) shapeCasts_S256x1_S256x1) broadcasts_S256x1_S256x128

/-- The values as the attention takes them: codes times scale, transposed. -/
def vringOf (x : FVec F S256x256 .bf16) : FVec F S256x256 .bf16 :=
  transpose S256x256 [1, 0] (truncf .bf16 (mulf (extf .f32 (codesOf x) bitsLt_fp8e4m3_f32)
    (broadcastTo S256x256 (scaleOf (amaxOf x)) broadcasts_S256x1_S256x256)) bitsLt_bf16_f32) transposes_S256x256_p1_0_S256x256

/-- The scales' table: the maxima, transposed, the first 32 rows, each to its scale. -/
def scaleTable (a : FVec F S256x128 .f32) : FVec F S32x256 .f32 :=
  scaleOf (extractStridedSlice S32x256 ![0, 0] (transpose S128x256 [1, 0] a transposes_S256x128_p1_0_S128x256) slices_S128x256_o0_0_S32x256)

/-- On and below the diagonal: the key is not after the query. -/
def causal : IVec S128x128 1 :=
  cmpi .sle (iota .tc S128x128 32 [0] iota_S128x128_d0_w32) (iota .tc S128x128 32 [1] iota_S128x128_d1_w32)

/-- A block of zero codes. -/
def zero8 : FVec F S128x128 .fp8e4m3 := broadcast S128x128 (Scalar.ofBits .fp8e4m3 0x00#8)

/-- In the first blocks of a sequence (`e`), the scores against a block before the sequence are minus infinity. -/
def edgeSel (e : Bool) (w k : BitVec 32) (s : FVec F S256x256 .f32) : FVec F S256x256 .f32 :=
  match e with
  | true => Scalar.select (Scalar.cmpi .sge w k) s (broadcast S256x256 (Scalar.ofBits .f32 0xFF800000#32))
  | false => s

def colMax128 (x : FVec F S128x128 .f32) : FVec F S1x128 .f32 :=
  shapeCast S1x128 (multiReduction .maximumf [0] S128 x 0xFF800000#32 reduces_S128x128_S128 (.inl rfl) rfl) shapeCasts_S128_S1x128
def colMax256 (x : FVec F S256x128 .f32) : FVec F S1x128 .f32 :=
  shapeCast S1x128 (multiReduction .maximumf [0] S128 x 0xFF800000#32 reduces_S256x128_S128 (.inl rfl) rfl) shapeCasts_S128_S1x128
def colSum128 (x : FVec F S128x128 .f32) : FVec F S1x128 .f32 :=
  shapeCast S1x128 (multiReduction .add [0] S128 x 0x00000000#32 reduces_S128x128_S128 (.inl rfl) rfl) shapeCasts_S128_S1x128
def colSum256 (x : FVec F S256x128 .f32) : FVec F S1x128 .f32 :=
  shapeCast S1x128 (multiReduction .add [0] S128 x 0x00000000#32 reduces_S256x128_S128 (.inl rfl) rfl) shapeCasts_S128_S1x128

/-- The shift of half a block's columns: the greatest logit less 8 over the query's factor. -/
def shiftOf (tri mid : FVec F S128x128 .f32) (full : FVec F S256x128 .f32) (ci : FVec F S1x128 .f32) : FVec F S1x128 .f32 :=
  subf (maximumf (colMax128 (maximumf tri mid)) (colMax256 full)) (divf (broadcast S1x128 (Scalar.ofBits .f32 0x41000000#32)) ci)

/-- The weights: two to the shifted logit times the query's factor; -/
def weight128 (m ci : FVec F S1x128 .f32) (x : FVec F S128x128 .f32) : FVec F S128x128 .f32 :=
  exp2 (mulf (subf x (broadcastTo S128x128 m broadcasts_S1x128_S128x128)) (broadcastTo S128x128 ci broadcasts_S1x128_S128x128))
def weight256 (m ci : FVec F S1x128 .f32) (x : FVec F S256x128 .f32) : FVec F S256x128 .f32 :=
  exp2 (mulf (subf x (broadcastTo S256x128 m broadcasts_S1x128_S256x128)) (broadcastTo S256x128 ci broadcasts_S1x128_S256x128))

/-- and the reciprocal of their sum. -/
def invSum (tri mid : FVec F S128x128 .f32) (full : FVec F S256x128 .f32) : FVec F S1x128 .f32 :=
  divf (broadcast S1x128 (Scalar.ofBits .f32 0x3F800000#32)) (addf (colSum128 (addf tri mid)) (colSum256 full))

def code128 (p : FVec F S128x128 .f32) : FVec F S128x128 .fp8e4m3 :=
  truncf .fp8e4m3 (minimumf p (broadcast S128x128 (Scalar.ofBits .f32 0x43E00000#32))) bitsLt_fp8e4m3_f32
def code256 (p : FVec F S256x128 .f32) : FVec F S256x128 .fp8e4m3 :=
  truncf .fp8e4m3 (minimumf p (broadcast S256x128 (Scalar.ofBits .f32 0x43E00000#32))) bitsLt_fp8e4m3_f32

def stack8 (a b : FVec F S128x128 .fp8e4m3) : FVec F S256x128 .fp8e4m3 :=
  concatenate S256x128 0 [⟨S128x128, a⟩, ⟨S128x128, b⟩] concatenates_S128x128_S128x128_S256x128_d0
def beside8 (a b : FVec F S256x128 .fp8e4m3) : FVec F S256x256 .fp8e4m3 :=
  concatenate S256x256 1 [⟨S256x128, a⟩, ⟨S256x128, b⟩] concatenates_S256x128_S256x128_S256x256_d1

/-- What one head reads. -/
structure HeadIn (F : FTy → Type) where
  q : FVec F S256x256 .fp8e4m3
  ci : FVec F S1x256 .f32
  k2 : FVec F S256x256 .fp8e4m3
  k1 : FVec F S256x256 .fp8e4m3
  k0 : FVec F S256x256 .fp8e4m3
  kc0 : FVec F S128x128 .f32
  kc1 : FVec F S128x128 .f32
  ks2 : FVec F S128x128 .f32
  ks1 : FVec F S256x128 .f32
  ks1' : FVec F S256x128 .f32
  ks0 : FVec F S128x128 .f32
  v2 : FVec F S256x256 .bf16
  v1 : FVec F S256x256 .bf16
  v0 : FVec F S256x256 .bf16

section Head
variable (e : Bool) (w : BitVec 32) (x : HeadIn F)

def zeroAcc : FVec F S256x256 .f32 := constant S256x256 .f32 0x00000000#32
/-- The scores against the block two before, the block before, and the block itself. -/
def sc2 : FVec F S256x256 .f32 := edgeSel e w 2#32 (matmul dot_S256x256_S256x256_S256x256_1_1_0_0_n_n none x.k2 x.q zeroAcc)
def sc1 : FVec F S256x256 .f32 := edgeSel e w 1#32 (matmul dot_S256x256_S256x256_S256x256_1_1_0_0_n_n none x.k1 x.q zeroAcc)
def sc0 : FVec F S256x256 .f32 := matmul dot_S256x256_S256x256_S256x256_1_1_0_0_n_n none x.k0 x.q zeroAcc

/-- The left half's columns. -/
def ciA : FVec F S1x128 .f32 := extractStridedSlice S1x128 ![0, 0] x.ci slices_S1x256_o0_0_S1x128
def triA : FVec F S128x128 .f32 :=
  mulf (select causal (extractStridedSlice S128x128 ![0, 0] (sc0 x) slices_S256x256_o0_0_S128x128)
    (extractStridedSlice S128x128 ![0, 0] (sc2 e w x) slices_S256x256_o0_0_S128x128)) x.kc0
def midA : FVec F S128x128 .f32 := mulf (extractStridedSlice S128x128 ![128, 0] (sc2 e w x) slices_S256x256_o128_0_S128x128) x.ks2
def fullA : FVec F S256x128 .f32 := mulf (extractStridedSlice S256x128 ![0, 0] (sc1 e w x) slices_S256x256_o0_0_S256x128) x.ks1
def shA : FVec F S1x128 .f32 := shiftOf (triA e w x) (midA e w x) (fullA e w x) (ciA x)
def pTriA : FVec F S128x128 .f32 := weight128 (shA e w x) (ciA x) (triA e w x)
def pMidA : FVec F S128x128 .f32 := weight128 (shA e w x) (ciA x) (midA e w x)
def pFullA : FVec F S256x128 .f32 := weight256 (shA e w x) (ciA x) (fullA e w x)
def invA : FVec F S1x128 .f32 := invSum (pTriA e w x) (pMidA e w x) (pFullA e w x)

/-- The right half's columns. -/
def ciB : FVec F S1x128 .f32 := extractStridedSlice S1x128 ![0, 128] x.ci slices_S1x256_o0_128_S1x128
def triB : FVec F S128x128 .f32 :=
  mulf (select causal (extractStridedSlice S128x128 ![128, 128] (sc0 x) slices_S256x256_o128_128_S128x128)
    (extractStridedSlice S128x128 ![128, 128] (sc2 e w x) slices_S256x256_o128_128_S128x128)) x.kc1
def midB : FVec F S128x128 .f32 := mulf (extractStridedSlice S128x128 ![0, 128] (sc0 x) slices_S256x256_o0_128_S128x128) x.ks0
def fullB : FVec F S256x128 .f32 := mulf (extractStridedSlice S256x128 ![0, 128] (sc1 e w x) slices_S256x256_o0_128_S256x128) x.ks1'
def shB : FVec F S1x128 .f32 := shiftOf (triB e w x) (midB x) (fullB e w x) (ciB x)
def pTriB : FVec F S128x128 .f32 := weight128 (shB e w x) (ciB x) (triB e w x)
def pMidB : FVec F S128x128 .f32 := weight128 (shB e w x) (ciB x) (midB x)
def pFullB : FVec F S256x128 .f32 := weight256 (shB e w x) (ciB x) (fullB e w x)
def invB : FVec F S1x128 .f32 := invSum (pTriB e w x) (pMidB e w x) (pFullB e w x)

/-- The weights' codes against the three blocks. -/
def w2 : FVec F S256x256 .fp8e4m3 :=
  beside8 (stack8 (select causal zero8 (code128 (pTriA e w x))) (code128 (pMidA e w x)))
    (stack8 zero8 (select causal zero8 (code128 (pTriB e w x))))
def w1 : FVec F S256x256 .fp8e4m3 := beside8 (code256 (pFullA e w x)) (code256 (pFullB e w x))
def w0 : FVec F S256x256 .fp8e4m3 :=
  beside8 (stack8 (select causal (code128 (pTriA e w x)) zero8) zero8)
    (stack8 (code128 (pMidB e w x)) (select causal (code128 (pTriB e w x)) zero8))

/-- The head's result: the weighted values over the weights' sum, transposed back. -/
def headOut : FVec F S256x256 .bf16 :=
  transpose S256x256 [1, 0] (truncf .bf16 (mulf
    (addf (addf (matmul dot_S256x256_S256x256_S256x256_1_0_0_1_n_n none x.v2 (w2 e w x) zeroAcc)
      (matmul dot_S256x256_S256x256_S256x256_1_0_0_1_n_n none x.v1 (w1 e w x) zeroAcc))
      (matmul dot_S256x256_S256x256_S256x256_1_0_0_1_n_n none x.v0 (w0 e w x) zeroAcc))
    (broadcastTo S256x256 (concatenate S1x256 1 [⟨S1x128, invA e w x⟩, ⟨S1x128, invB e w x⟩] concatenates_S1x128_S1x128_S1x256_d1)
      broadcasts_S1x256_S256x256)) bitsLt_bf16_f32) transposes_S256x256_p1_0_S256x256

end Head

/-! ### The accesses, for each head -/

theorem inb_x (h : Fin 20) : ∀ a, (![0, 0, 256 * h.val] : Fin 3 → Nat) a + S1x256x256.size a ≤ S1x256x5120.size a := by
  revert h; decide +kernel
theorem pk_o (h : Fin 20) : (Rect.unit (s := S1x256x5120) ![0, 0, 256 * h.val] S1x256x256.size (inb_x h)).PackedRows (EltTy.packing .bf16) := by
  revert h; decide +kernel
theorem inb_kv (h : Fin 4) : ∀ a, (![0, 0, 256 * h.val] : Fin 3 → Nat) a + S1x256x256.size a ≤ S1x256x1024.size a := by
  revert h; decide +kernel
theorem inb_code (h : Fin 4) : ∀ a, (![0, 0, h.val, 0] : Fin 4 → Nat) a + S1x256x1x256.size a ≤ S1x256x4x256.size a := by
  revert h; decide +kernel
theorem sl_code (h : Fin 4) : S1x256x4x256.Slices ![0, 0, h.val, 0] S1x256x1x256 := by
  revert h; decide +kernel
theorem inb_ring (c : Fin 3) (h : Fin 4) : ∀ a, (![c.val, h.val, 0, 0] : Fin 4 → Nat) a + S1x1x256x256.size a ≤ S3x4x256x256.size a := by
  revert h; revert c; decide +kernel
theorem pk_ring8 (c : Fin 3) (h : Fin 4) : (Rect.unit (s := S3x4x256x256) ![c.val, h.val, 0, 0] S1x1x256x256.size (inb_ring c h)).PackedRows (EltTy.packing .fp8e4m3) := by
  revert h; revert c; decide +kernel
theorem pk_ring16 (c : Fin 3) (h : Fin 4) : (Rect.unit (s := S3x4x256x256) ![c.val, h.val, 0, 0] S1x1x256x256.size (inb_ring c h)).PackedRows (EltTy.packing .bf16) := by
  revert h; revert c; decide +kernel
theorem inb_ks (c : Fin 3) (h : Fin 4) : ∀ a, (![c.val, h.val, 0, 0] : Fin 4 → Nat) a + S1x1x256x128.size a ≤ S3x4x256x128.size a := by
  revert h; revert c; decide +kernel
theorem inb_ksLo (c : Fin 3) (h : Fin 4) : ∀ a, (![c.val, h.val, 0, 0] : Fin 4 → Nat) a + S1x1x128x128.size a ≤ S3x4x256x128.size a := by
  revert h; revert c; decide +kernel
theorem inb_ksHi (c : Fin 3) (h : Fin 4) : ∀ a, (![c.val, h.val, 128, 0] : Fin 4 → Nat) a + S1x1x128x128.size a ≤ S3x4x256x128.size a := by
  revert h; revert c; decide +kernel
theorem inb_amax (j : Fin 28) : ∀ a, (![0, j.val] : Fin 2 → Nat) a + S256x1.size a ≤ S256x128.size a := by
  revert j; decide +kernel
theorem inb_q (h : Fin 20) : ∀ a, (![0, h.val, 0, 0] : Fin 4 → Nat) a + S1x1x256x256.size a ≤ S1x20x256x256.size a := by
  revert h; decide +kernel
theorem pk_q (h : Fin 20) : (Rect.unit (s := S1x20x256x256) ![0, h.val, 0, 0] S1x1x256x256.size (inb_q h)).PackedRows (EltTy.packing .fp8e4m3) := by
  revert h; decide +kernel
theorem inb_ci (h : Fin 20) : ∀ a, (![h.val, 0] : Fin 2 → Nat) a + S1x256.size a ≤ S24x256.size a := by
  revert h; decide +kernel

/-! ### The program -/

/-- A loop's first `n` turns, in order. -/
def upTo {nD : Nat} {τ : Topo} {sig : RefSig} {Λ : Labels} {N : Nat}
    (f : Fin N → Prog (TpuEff nD τ sig (Elt F) Λ .tc) PUnit) : (n : Nat) → n ≤ N → Prog (TpuEff nD τ sig (Elt F) Λ .tc) PUnit
  | 0, _ => pure ⟨⟩
  | n + 1, h => do
    upTo f n (Nat.le_of_succ_le h)
    f ⟨n, h⟩

variable {nD : Nat} {τ : Topo} {sig : RefSig} {Λ : Labels}
  (arg2 : Memref sig .tc .vmem S1x256x5120 .bf16) (arg3 : Memref sig .tc .vmem S1x256x1024 .bf16)
  (arg4 : Memref sig .tc .vmem S1x256x1024 .bf16)
  (arg5 : Memref sig .tc .vmem S1x256x5120 .bf16) (harg5 : arg5.IsWhole)
  (arg6 : Memref sig .tc .vmem S1x20x256x256 .fp8e4m3) (harg6 : arg6.IsWhole)
  (arg7 : Memref sig .tc .vmem S1x20x256 .f32)
  (arg8 : Memref sig .tc .vmem S1x256x4x256 .fp8e4m3) (harg8 : arg8.IsWhole)
  (arg9 : Memref sig .tc .vmem S1x4x256 .f32)
  (arg10 : Memref sig .tc .vmem S1x256x4x256 .fp8e4m3) (harg10 : arg10.IsWhole)
  (arg11 : Memref sig .tc .vmem S1x4x256 .f32)
  (arg12 : Memref sig .tc .vmem S3x4x256x256 .fp8e4m3) (harg12 : arg12.IsWhole)
  (arg13 : Memref sig .tc .vmem S3x4x256x256 .bf16) (harg13 : arg13.IsWhole)
  (arg14 : Memref sig .tc .vmem S3x4x256x128 .f32)
  (arg15 : Memref sig .tc .vmem S256x128 .f32)
  (arg16 : Memref sig .tc .vmem S24x256 .f32)
  (arg17 : Memref sig .tc .vmem S2x128x128 .f32)

/-- The rings' reset: no values, unit scales. -/
def reset : Prog (TpuEff nD τ sig (Elt F) Λ .tc) PUnit := do
  let _v : Vec F S3x4x256x256 .bf16 ← Prog.lift (.load arg13 (Rect.unit (s := S3x4x256x256) ![0, 0, 0, 0] S3x4x256x256.size inb_S3x4x256x256_S3x4x256x256_0_0_0_0).toLoadRect (View.loadsAt_vmem h_S3x4x256x256))
  Prog.lift (.store arg13 (Rect.unit (s := S3x4x256x256) ![0, 0, 0, 0] S3x4x256x256.size inb_S3x4x256x256_S3x4x256x256_0_0_0_0) (shapeCast S3x4x256x256 (broadcast S3x4x256x256 (Scalar.ofBits .bf16 0x0000#16)) shapeCasts_S3x4x256x256_S3x4x256x256) Finset.univ (View.stores_vmem h_S3x4x256x256 (harg13.storeExact_slice rfl _ packedbf16_S3x4x256x256_S3x4x256x256_0_0_0_0) (fun _ => rfl)) (.inl rfl))
  let _v : Vec F S3x4x256x128 .f32 ← Prog.lift (.load arg14 (Rect.unit (s := S3x4x256x128) ![0, 0, 0, 0] S3x4x256x128.size inb_S3x4x256x128_S3x4x256x128_0_0_0_0).toLoadRect (View.loadsAt_vmem h_S3x4x256x128))
  Prog.lift (.store arg14 (Rect.unit (s := S3x4x256x128) ![0, 0, 0, 0] S3x4x256x128.size inb_S3x4x256x128_S3x4x256x128_0_0_0_0) (shapeCast S3x4x256x128 (broadcast S3x4x256x128 (Scalar.ofBits .f32 0x3F800000#32)) shapeCasts_S3x4x256x128_S3x4x256x128) Finset.univ (View.stores_vmem_bits_univ h_S3x4x256x128 rfl) (.inl rfl))

/-- One key/value head: its codes to the results and to the rings' slot `c`, its scales to the ring, its maxima to the table. -/
def kvHead (c : Fin 3) (h : Fin 4) : Prog (TpuEff nD τ sig (Elt F) Λ .tc) PUnit := do
  let k : Vec F S1x256x256 .bf16 ← Prog.lift (.load arg3 (Rect.unit (s := S1x256x1024) ![0, 0, 256 * h.val] S1x256x256.size (inb_kv h)).toLoadRect (View.loadsAt_vmem h_S1x256x256))
  have x : FVec F S256x256 .bf16 := shapeCast S256x256 k shapeCasts_S1x256x256_S256x256
  let _o : Vec F S1x256x1x256 .fp8e4m3 ← Prog.lift (.load arg8 (Rect.unit (s := S1x256x4x256) ![0, 0, h.val, 0] S1x256x1x256.size (inb_code h)).toLoadRect (View.loadsAt_vmem h_S1x256x1x256))
  storeSubelements arg8 (Rect.unit (s := S1x256x4x256) ![0, 0, 0, 0] S1x256x4x256.size inb_S1x256x4x256_S1x256x4x256_0_0_0_0) (fun old => updateSlice old (shapeCast S1x256x1x256 (codesOf x) shapeCasts_S256x256_S1x256x1x256) ![0, 0, h.val, 0] (sl_code h)) (View.loadsAt_vmem h_S1x256x4x256) (View.stores_vmem h_S1x256x4x256 (harg8.storeExact_slice rfl _ packedfp8e4m3_S1x256x4x256_S1x256x4x256_0_0_0_0) (fun _ => rfl))
  let _o : Vec F S1x1x256x256 .fp8e4m3 ← Prog.lift (.load arg12 (Rect.unit (s := S3x4x256x256) ![c.val, h.val, 0, 0] S1x1x256x256.size (inb_ring c h)).toLoadRect (View.loadsAt_vmem h_S1x1x256x256))
  Prog.lift (.store arg12 (Rect.unit (s := S3x4x256x256) ![c.val, h.val, 0, 0] S1x1x256x256.size (inb_ring c h)) (shapeCast S1x1x256x256 (codesOf x) shapeCasts_S256x256_S1x1x256x256) Finset.univ (View.stores_vmem h_S1x1x256x256 (harg12.storeExact_slice rfl _ (pk_ring8 c h)) (fun _ => rfl)) (.inl rfl))
  let _o : Vec F S1x1x256x128 .f32 ← Prog.lift (.load arg14 (Rect.unit (s := S3x4x256x128) ![c.val, h.val, 0, 0] S1x1x256x128.size (inb_ks c h)).toLoadRect (View.loadsAt_vmem h_S1x1x256x128))
  Prog.lift (.store arg14 (Rect.unit (s := S3x4x256x128) ![c.val, h.val, 0, 0] S1x1x256x128.size (inb_ks c h)) (shapeCast S1x1x256x128 (kscaleOf x) shapeCasts_S256x128_S1x1x256x128) Finset.univ (View.stores_vmem_bits_univ h_S1x1x256x128 rfl) (.inl rfl))
  let _o : Vec F S256x1 .f32 ← Prog.lift (.load arg15 (Rect.unit (s := S256x128) ![0, 20 + h.val] S256x1.size (inb_amax ⟨20 + h.val, by omega⟩)).toLoadRect (View.loadsAt_vmem h_S256x1))
  Prog.lift (.store arg15 (Rect.unit (s := S256x128) ![0, 20 + h.val] S256x1.size (inb_amax ⟨20 + h.val, by omega⟩)) (shapeCast S256x1 (amaxOf x) shapeCasts_S256x1_S256x1) Finset.univ (View.stores_vmem_bits_univ h_S256x1 rfl) (.inl rfl))
  let v : Vec F S1x256x256 .bf16 ← Prog.lift (.load arg4 (Rect.unit (s := S1x256x1024) ![0, 0, 256 * h.val] S1x256x256.size (inb_kv h)).toLoadRect (View.loadsAt_vmem h_S1x256x256))
  have y : FVec F S256x256 .bf16 := shapeCast S256x256 v shapeCasts_S1x256x256_S256x256
  let _o : Vec F S1x256x1x256 .fp8e4m3 ← Prog.lift (.load arg10 (Rect.unit (s := S1x256x4x256) ![0, 0, h.val, 0] S1x256x1x256.size (inb_code h)).toLoadRect (View.loadsAt_vmem h_S1x256x1x256))
  storeSubelements arg10 (Rect.unit (s := S1x256x4x256) ![0, 0, 0, 0] S1x256x4x256.size inb_S1x256x4x256_S1x256x4x256_0_0_0_0) (fun old => updateSlice old (shapeCast S1x256x1x256 (codesOf y) shapeCasts_S256x256_S1x256x1x256) ![0, 0, h.val, 0] (sl_code h)) (View.loadsAt_vmem h_S1x256x4x256) (View.stores_vmem h_S1x256x4x256 (harg10.storeExact_slice rfl _ packedfp8e4m3_S1x256x4x256_S1x256x4x256_0_0_0_0) (fun _ => rfl))
  let _o : Vec F S256x1 .f32 ← Prog.lift (.load arg15 (Rect.unit (s := S256x128) ![0, 24 + h.val] S256x1.size (inb_amax ⟨24 + h.val, by omega⟩)).toLoadRect (View.loadsAt_vmem h_S256x1))
  Prog.lift (.store arg15 (Rect.unit (s := S256x128) ![0, 24 + h.val] S256x1.size (inb_amax ⟨24 + h.val, by omega⟩)) (shapeCast S256x1 (amaxOf y) shapeCasts_S256x1_S256x1) Finset.univ (View.stores_vmem_bits_univ h_S256x1 rfl) (.inl rfl))
  let _o : Vec F S1x1x256x256 .bf16 ← Prog.lift (.load arg13 (Rect.unit (s := S3x4x256x256) ![c.val, h.val, 0, 0] S1x1x256x256.size (inb_ring c h)).toLoadRect (View.loadsAt_vmem h_S1x1x256x256))
  Prog.lift (.store arg13 (Rect.unit (s := S3x4x256x256) ![c.val, h.val, 0, 0] S1x1x256x256.size (inb_ring c h)) (shapeCast S1x1x256x256 (vringOf y) shapeCasts_S256x256_S1x1x256x256) Finset.univ (View.stores_vmem h_S1x1x256x256 (harg13.storeExact_slice rfl _ (pk_ring16 c h)) (fun _ => rfl)) (.inl rfl))

/-- One query head: its codes to the result, its maxima to the table. -/
def qHead (h : Fin 20) : Prog (TpuEff nD τ sig (Elt F) Λ .tc) PUnit := do
  let q : Vec F S1x256x256 .bf16 ← Prog.lift (.load arg2 (Rect.unit (s := S1x256x5120) ![0, 0, 256 * h.val] S1x256x256.size (inb_x h)).toLoadRect (View.loadsAt_vmem h_S1x256x256))
  have x : FVec F S256x256 .bf16 := shapeCast S256x256 q shapeCasts_S1x256x256_S256x256
  let _o : Vec F S1x1x256x256 .fp8e4m3 ← Prog.lift (.load arg6 (Rect.unit (s := S1x20x256x256) ![0, h.val, 0, 0] S1x1x256x256.size (inb_q h)).toLoadRect (View.loadsAt_vmem h_S1x1x256x256))
  Prog.lift (.store arg6 (Rect.unit (s := S1x20x256x256) ![0, h.val, 0, 0] S1x1x256x256.size (inb_q h)) (shapeCast S1x1x256x256 (codesOf x) shapeCasts_S256x256_S1x1x256x256) Finset.univ (View.stores_vmem h_S1x1x256x256 (harg6.storeExact_slice rfl _ (pk_q h)) (fun _ => rfl)) (.inl rfl))
  let _o : Vec F S256x1 .f32 ← Prog.lift (.load arg15 (Rect.unit (s := S256x128) ![0, h.val] S256x1.size (inb_amax ⟨h.val, by omega⟩)).toLoadRect (View.loadsAt_vmem h_S256x1))
  Prog.lift (.store arg15 (Rect.unit (s := S256x128) ![0, h.val] S256x1.size (inb_amax ⟨h.val, by omega⟩)) (shapeCast S256x1 (amaxOf x) shapeCasts_S256x1_S256x1) Finset.univ (View.stores_vmem_bits_univ h_S256x1 rfl) (.inl rfl))

/-- The scales of all heads, from the maxima's table; the queries' factors, times the constant `lc`. -/
def scales (lc : F .f32) : Prog (TpuEff nD τ sig (Elt F) Λ .tc) PUnit := do
  let a : Vec F S256x128 .f32 ← Prog.lift (.load arg15 (Rect.unit (s := S256x128) ![0, 0] S256x128.size inb_S256x128_S256x128_0_0).toLoadRect (View.loadsAt_vmem h_S256x128))
  let _o : Vec F S1x20x256 .f32 ← Prog.lift (.load arg7 (Rect.unit (s := S1x20x256) ![0, 0, 0] S1x20x256.size inb_S1x20x256_S1x20x256_0_0_0).toLoadRect (View.loadsAt_vmem h_S1x20x256))
  Prog.lift (.store arg7 (Rect.unit (s := S1x20x256) ![0, 0, 0] S1x20x256.size inb_S1x20x256_S1x20x256_0_0_0) (shapeCast S1x20x256 (extractStridedSlice S20x256 ![0, 0] (scaleTable a) slices_S32x256_o0_0_S20x256) shapeCasts_S20x256_S1x20x256) Finset.univ (View.stores_vmem_bits_univ h_S1x20x256 rfl) (.inl rfl))
  let _o : Vec F S1x4x256 .f32 ← Prog.lift (.load arg9 (Rect.unit (s := S1x4x256) ![0, 0, 0] S1x4x256.size inb_S1x4x256_S1x4x256_0_0_0).toLoadRect (View.loadsAt_vmem h_S1x4x256))
  Prog.lift (.store arg9 (Rect.unit (s := S1x4x256) ![0, 0, 0] S1x4x256.size inb_S1x4x256_S1x4x256_0_0_0) (shapeCast S1x4x256 (extractStridedSlice S4x256 ![20, 0] (scaleTable a) slices_S32x256_o20_0_S4x256) shapeCasts_S4x256_S1x4x256) Finset.univ (View.stores_vmem_bits_univ h_S1x4x256 rfl) (.inl rfl))
  let _o : Vec F S1x4x256 .f32 ← Prog.lift (.load arg11 (Rect.unit (s := S1x4x256) ![0, 0, 0] S1x4x256.size inb_S1x4x256_S1x4x256_0_0_0).toLoadRect (View.loadsAt_vmem h_S1x4x256))
  Prog.lift (.store arg11 (Rect.unit (s := S1x4x256) ![0, 0, 0] S1x4x256.size inb_S1x4x256_S1x4x256_0_0_0) (shapeCast S1x4x256 (extractStridedSlice S4x256 ![24, 0] (scaleTable a) slices_S32x256_o24_0_S4x256) shapeCasts_S4x256_S1x4x256) Finset.univ (View.stores_vmem_bits_univ h_S1x4x256 rfl) (.inl rfl))
  let _o : Vec F S24x256 .f32 ← Prog.lift (.load arg16 (Rect.unit (s := S24x256) ![0, 0] S24x256.size inb_S24x256_S24x256_0_0).toLoadRect (View.loadsAt_vmem h_S24x256))
  Prog.lift (.store arg16 (Rect.unit (s := S24x256) ![0, 0] S24x256.size inb_S24x256_S24x256_0_0) (shapeCast S24x256 (mulf (extractStridedSlice S24x256 ![0, 0] (scaleTable a) slices_S32x256_o0_0_S24x256) (broadcast S24x256 lc)) shapeCasts_S24x256_S24x256) Finset.univ (View.stores_vmem_bits_univ h_S24x256 rfl) (.inl rfl))

/-- The key scales of the diagonal blocks: this block's where causal, the block two before's elsewhere. -/
def kcomb (c p2 : Fin 3) (g : Fin 4) : Prog (TpuEff nD τ sig (Elt F) Λ .tc) PUnit := do
  let a : Vec F S1x1x128x128 .f32 ← Prog.lift (.load arg14 (Rect.unit (s := S3x4x256x128) ![c.val, g.val, 0, 0] S1x1x128x128.size (inb_ksLo c g)).toLoadRect (View.loadsAt_vmem h_S1x1x128x128))
  let b : Vec F S1x1x128x128 .f32 ← Prog.lift (.load arg14 (Rect.unit (s := S3x4x256x128) ![p2.val, g.val, 0, 0] S1x1x128x128.size (inb_ksLo p2 g)).toLoadRect (View.loadsAt_vmem h_S1x1x128x128))
  let _o : Vec F S1x128x128 .f32 ← Prog.lift (.load arg17 (Rect.unit (s := S2x128x128) ![0, 0, 0] S1x128x128.size inb_S2x128x128_S1x128x128_0_0_0).toLoadRect (View.loadsAt_vmem h_S1x128x128))
  Prog.lift (.store arg17 (Rect.unit (s := S2x128x128) ![0, 0, 0] S1x128x128.size inb_S2x128x128_S1x128x128_0_0_0) (shapeCast S1x128x128 (select causal (shapeCast S128x128 a shapeCasts_S1x1x128x128_S128x128) (shapeCast S128x128 b shapeCasts_S1x1x128x128_S128x128)) shapeCasts_S128x128_S1x128x128) Finset.univ (View.stores_vmem_bits_univ h_S1x128x128 rfl) (.inl rfl))
  let a : Vec F S1x1x128x128 .f32 ← Prog.lift (.load arg14 (Rect.unit (s := S3x4x256x128) ![c.val, g.val, 128, 0] S1x1x128x128.size (inb_ksHi c g)).toLoadRect (View.loadsAt_vmem h_S1x1x128x128))
  let b : Vec F S1x1x128x128 .f32 ← Prog.lift (.load arg14 (Rect.unit (s := S3x4x256x128) ![p2.val, g.val, 128, 0] S1x1x128x128.size (inb_ksHi p2 g)).toLoadRect (View.loadsAt_vmem h_S1x1x128x128))
  let _o : Vec F S1x128x128 .f32 ← Prog.lift (.load arg17 (Rect.unit (s := S2x128x128) ![1, 0, 0] S1x128x128.size inb_S2x128x128_S1x128x128_1_0_0).toLoadRect (View.loadsAt_vmem h_S1x128x128))
  Prog.lift (.store arg17 (Rect.unit (s := S2x128x128) ![1, 0, 0] S1x128x128.size inb_S2x128x128_S1x128x128_1_0_0) (shapeCast S1x128x128 (select causal (shapeCast S128x128 a shapeCasts_S1x1x128x128_S128x128) (shapeCast S128x128 b shapeCasts_S1x1x128x128_S128x128)) shapeCasts_S128x128_S1x128x128) Finset.univ (View.stores_vmem_bits_univ h_S1x128x128 rfl) (.inl rfl))

/-- One query head's attention, against the rings' slots `c` (this block), `p1` and `p2` (the two before). -/
def head (e : Bool) (w : BitVec 32) (c p1 p2 : Fin 3) (g : Fin 4) (h : Fin 20) : Prog (TpuEff nD τ sig (Elt F) Λ .tc) PUnit := do
  let q : Vec F S1x1x256x256 .fp8e4m3 ← Prog.lift (.load arg6 (Rect.unit (s := S1x20x256x256) ![0, h.val, 0, 0] S1x1x256x256.size (inb_q h)).toLoadRect (View.loadsAt_vmem h_S1x1x256x256))
  let ci : Vec F S1x256 .f32 ← Prog.lift (.load arg16 (Rect.unit (s := S24x256) ![h.val, 0] S1x256.size (inb_ci h)).toLoadRect (View.loadsAt_vmem h_S1x256))
  let k2 : Vec F S1x1x256x256 .fp8e4m3 ← Prog.lift (.load arg12 (Rect.unit (s := S3x4x256x256) ![p2.val, g.val, 0, 0] S1x1x256x256.size (inb_ring p2 g)).toLoadRect (View.loadsAt_vmem h_S1x1x256x256))
  let k1 : Vec F S1x1x256x256 .fp8e4m3 ← Prog.lift (.load arg12 (Rect.unit (s := S3x4x256x256) ![p1.val, g.val, 0, 0] S1x1x256x256.size (inb_ring p1 g)).toLoadRect (View.loadsAt_vmem h_S1x1x256x256))
  let k0 : Vec F S1x1x256x256 .fp8e4m3 ← Prog.lift (.load arg12 (Rect.unit (s := S3x4x256x256) ![c.val, g.val, 0, 0] S1x1x256x256.size (inb_ring c g)).toLoadRect (View.loadsAt_vmem h_S1x1x256x256))
  let kc0 : Vec F S1x128x128 .f32 ← Prog.lift (.load arg17 (Rect.unit (s := S2x128x128) ![0, 0, 0] S1x128x128.size inb_S2x128x128_S1x128x128_0_0_0).toLoadRect (View.loadsAt_vmem h_S1x128x128))
  let ks2 : Vec F S1x1x128x128 .f32 ← Prog.lift (.load arg14 (Rect.unit (s := S3x4x256x128) ![p2.val, g.val, 128, 0] S1x1x128x128.size (inb_ksHi p2 g)).toLoadRect (View.loadsAt_vmem h_S1x1x128x128))
  let ks1 : Vec F S1x1x256x128 .f32 ← Prog.lift (.load arg14 (Rect.unit (s := S3x4x256x128) ![p1.val, g.val, 0, 0] S1x1x256x128.size (inb_ks p1 g)).toLoadRect (View.loadsAt_vmem h_S1x1x256x128))
  let kc1 : Vec F S1x128x128 .f32 ← Prog.lift (.load arg17 (Rect.unit (s := S2x128x128) ![1, 0, 0] S1x128x128.size inb_S2x128x128_S1x128x128_1_0_0).toLoadRect (View.loadsAt_vmem h_S1x128x128))
  let ks0 : Vec F S1x1x128x128 .f32 ← Prog.lift (.load arg14 (Rect.unit (s := S3x4x256x128) ![c.val, g.val, 0, 0] S1x1x128x128.size (inb_ksLo c g)).toLoadRect (View.loadsAt_vmem h_S1x1x128x128))
  let ks1' : Vec F S1x1x256x128 .f32 ← Prog.lift (.load arg14 (Rect.unit (s := S3x4x256x128) ![p1.val, g.val, 0, 0] S1x1x256x128.size (inb_ks p1 g)).toLoadRect (View.loadsAt_vmem h_S1x1x256x128))
  let v2 : Vec F S1x1x256x256 .bf16 ← Prog.lift (.load arg13 (Rect.unit (s := S3x4x256x256) ![p2.val, g.val, 0, 0] S1x1x256x256.size (inb_ring p2 g)).toLoadRect (View.loadsAt_vmem h_S1x1x256x256))
  let v1 : Vec F S1x1x256x256 .bf16 ← Prog.lift (.load arg13 (Rect.unit (s := S3x4x256x256) ![p1.val, g.val, 0, 0] S1x1x256x256.size (inb_ring p1 g)).toLoadRect (View.loadsAt_vmem h_S1x1x256x256))
  let v0 : Vec F S1x1x256x256 .bf16 ← Prog.lift (.load arg13 (Rect.unit (s := S3x4x256x256) ![c.val, g.val, 0, 0] S1x1x256x256.size (inb_ring c g)).toLoadRect (View.loadsAt_vmem h_S1x1x256x256))
  let _o : Vec F S1x256x256 .bf16 ← Prog.lift (.load arg5 (Rect.unit (s := S1x256x5120) ![0, 0, 256 * h.val] S1x256x256.size (inb_x h)).toLoadRect (View.loadsAt_vmem h_S1x256x256))
  Prog.lift (.store arg5 (Rect.unit (s := S1x256x5120) ![0, 0, 256 * h.val] S1x256x256.size (inb_x h)) (shapeCast S1x256x256 (headOut e w
    { q := shapeCast S256x256 q shapeCasts_S1x1x256x256_S256x256, ci := ci,
      k2 := shapeCast S256x256 k2 shapeCasts_S1x1x256x256_S256x256, k1 := shapeCast S256x256 k1 shapeCasts_S1x1x256x256_S256x256,
      k0 := shapeCast S256x256 k0 shapeCasts_S1x1x256x256_S256x256,
      kc0 := shapeCast S128x128 kc0 shapeCasts_S1x128x128_S128x128, kc1 := shapeCast S128x128 kc1 shapeCasts_S1x128x128_S128x128,
      ks2 := shapeCast S128x128 ks2 shapeCasts_S1x1x128x128_S128x128, ks1 := shapeCast S256x128 ks1 shapeCasts_S1x1x256x128_S256x128,
      ks1' := shapeCast S256x128 ks1' shapeCasts_S1x1x256x128_S256x128,
      ks0 := shapeCast S128x128 ks0 shapeCasts_S1x1x128x128_S128x128,
      v2 := shapeCast S256x256 v2 shapeCasts_S1x1x256x256_S256x256, v1 := shapeCast S256x256 v1 shapeCasts_S1x1x256x256_S256x256,
      v0 := shapeCast S256x256 v0 shapeCasts_S1x1x256x256_S256x256 }) shapeCasts_S256x256_S1x256x256) Finset.univ
    (View.stores_vmem h_S1x256x256 (harg5.storeExact_slice rfl _ (pk_o h)) (fun _ => rfl)) (.inl rfl))

/-- A key/value head's five query heads. -/
def group (e : Bool) (w : BitVec 32) (c p1 p2 : Fin 3) (g : Fin 4) : Prog (TpuEff nD τ sig (Elt F) Λ .tc) PUnit := do
  kcomb arg14 arg17 c p2 g
  upTo (fun j : Fin 5 => head arg5 harg5 arg6 arg12 arg13 arg14 arg16 arg17 e w c p1 p2 g ⟨5 * g.val + j.val, by omega⟩) 5 (Nat.le_refl 5)

/-- The attention of all heads. -/
def attend (e : Bool) (w : BitVec 32) (c p1 p2 : Fin 3) : Prog (TpuEff nD τ sig (Elt F) Λ .tc) PUnit :=
  upTo (group arg5 harg5 arg6 arg12 arg13 arg14 arg16 arg17 e w c p1 p2) 4 (Nat.le_refl 4)

/-- The quantised heads and the scales. -/
def quantise (lc : F .f32) (c : Fin 3) : Prog (TpuEff nD τ sig (Elt F) Λ .tc) PUnit := do
  upTo (kvHead arg3 arg4 arg8 harg8 arg10 harg10 arg12 harg12 arg13 harg13 arg14 arg15 c) 4 (Nat.le_refl 4)
  upTo (qHead arg2 arg6 harg6 arg15) 20 (Nat.le_refl 20)
  scales arg7 arg9 arg11 arg15 arg16 lc

/-- A statement and two branches: the branches as statements of their own. -/
theorem branches {E : Type → Type} (A B C : Prog E PUnit) (b2 b3 : BitVec 1) :
    (do
      A
      if _h : b2 = 1#1 then do
        B
        pure ⟨⟩
      else do
        pure ⟨⟩
      if _h : b3 = 1#1 then do
        C
        pure ⟨⟩
      else do
        pure ⟨⟩
      pure ⟨⟩ : Prog E PUnit)
    = A.bind fun _ => (if b2 = 1#1 then B else .ret ⟨⟩).bind fun _ => (if b3 = 1#1 then C else .ret ⟨⟩) := by
  have hr : ∀ D : Prog E PUnit, (D.bind fun _ => .ret ⟨⟩) = D := bind_pure
  refine congrArg (Prog.bind A) (funext fun _ => ?_)
  by_cases h2 : b2 = 1#1 <;> by_cases h3 : b3 = 1#1
  · subst h2; subst h3; exact congrArg (Prog.bind B) (funext fun _ => hr C)
  · rw [if_pos h2, if_neg h3]; subst h2; exact congrArg (Prog.bind B) (funext fun _ => dif_neg h3)
  · rw [if_neg h2]; subst h3; exact (dif_neg h2).trans (hr C)
  · rw [if_neg h2, if_neg h3]; exact (dif_neg h2).trans (dif_neg h3)

/-- The body after the reset, at the slots and conditions of one grid point. -/
def rest (lc : F .f32) (w : BitVec 32) (c p1 p2 : Fin 3) (b2 b3 : BitVec 1) : Prog (TpuEff nD τ sig (Elt F) Λ .tc) PUnit := do
  quantise arg2 arg3 arg4 arg6 harg6 arg7 arg8 harg8 arg9 arg10 harg10 arg11 arg12 harg12 arg13 harg13 arg14 arg15 arg16 lc c
  if _h : b2 = 1#1 then do
    attend arg5 harg5 arg6 arg12 arg13 arg14 arg16 arg17 false w c p1 p2
    pure ⟨⟩
  else do
    pure ⟨⟩
  if _h : b3 = 1#1 then do
    attend arg5 harg5 arg6 arg12 arg13 arg14 arg16 arg17 true w c p1 p2
    pure ⟨⟩
  else do
    pure ⟨⟩
  pure ⟨⟩

/-- The same with the branches as statements of their own. -/
theorem rest_eq (lc : F .f32) (w : BitVec 32) (c p1 p2 : Fin 3) (b2 b3 : BitVec 1) :
    (rest arg2 arg3 arg4 arg5 harg5 arg6 harg6 arg7 arg8 harg8 arg9 arg10 harg10 arg11 arg12 harg12 arg13 harg13 arg14 arg15 arg16 arg17
      lc w c p1 p2 b2 b3 : Prog (TpuEff nD τ sig (Elt F) Λ .tc) PUnit)
    = (quantise arg2 arg3 arg4 arg6 harg6 arg7 arg8 harg8 arg9 arg10 harg10 arg11 arg12 harg12 arg13 harg13 arg14 arg15 arg16 lc c).bind fun _ =>
      (if b2 = 1#1 then attend arg5 harg5 arg6 arg12 arg13 arg14 arg16 arg17 false w c p1 p2 else .ret ⟨⟩).bind fun _ =>
      (if b3 = 1#1 then attend arg5 harg5 arg6 arg12 arg13 arg14 arg16 arg17 true w c p1 p2 else .ret ⟨⟩) := by
  exact branches _ _ _ _ _

end Cert.Gqa

end
-- ==== Proof.Values.lean ====
/-
  What the body leaves in each buffer, as functions of what it found there: one block's codes, scales and maxima, the
  rings with this block's slot replaced, one head's reads, and all heads' results. A buffer written piece by piece is
  described by the part already written (`upd`), and each piece extends that part (`put_mask`).
-/
module

public import proofs.«01_k».proof.Proof.Body
public import Idealize.ShloMosaic.Lib.VecWindow
public import Idealize.ShloMosaic.Lib.Pointwise

@[expose] public section

noncomputable section

namespace Cert.Gqa

open Cert.KernelIdeal Cert.KernelIdeal.Gen
open Idealize.ShloMosaic

variable {α : Type}

/-! ### Reshapes, windows and pieces at an index -/

theorem cast_x (v : S1x256x256.Idx → α) (h) (j : S256x256.Idx) : shapeCast S256x256 v h j = v (ix3 0 (j 0) (j 1)) := by
  idx_vars j; pointwise
theorem cast_kv (v : S256x256.Idx → α) (h) (j : S1x256x1x256.Idx) : shapeCast S1x256x1x256 v h j = v (ix2 (j 1) (j 3)) := by
  idx_vars j; pointwise
theorem cast_11 (v : S256x256.Idx → α) (h) (j : S1x1x256x256.Idx) : shapeCast S1x1x256x256 v h j = v (ix2 (j 2) (j 3)) := by
  idx_vars j; pointwise
theorem cast_11' (v : S1x1x256x256.Idx → α) (h) (j : S256x256.Idx) : shapeCast S256x256 v h j = v (ix4 0 0 (j 0) (j 1)) := by
  idx_vars j; pointwise
theorem cast_ks (v : S256x128.Idx → α) (h) (j : S1x1x256x128.Idx) : shapeCast S1x1x256x128 v h j = v (ix2 (j 2) (j 3)) := by
  idx_vars j; pointwise
theorem cast_ks' (v : S1x1x256x128.Idx → α) (h) (j : S256x128.Idx) : shapeCast S256x128 v h j = v (ix4 0 0 (j 0) (j 1)) := by
  idx_vars j; pointwise
theorem cast_kt' (v : S1x1x128x128.Idx → α) (h) (j : S128x128.Idx) : shapeCast S128x128 v h j = v (ix4 0 0 (j 0) (j 1)) := by
  idx_vars j; pointwise
theorem cast_kt (v : S128x128.Idx → α) (h) (j : S1x128x128.Idx) : shapeCast S1x128x128 v h j = v (ix2 (j 1) (j 2)) := by
  idx_vars j; pointwise
theorem cast_kc' (v : S1x128x128.Idx → α) (h) (j : S128x128.Idx) : shapeCast S128x128 v h j = v (ix3 0 (j 0) (j 1)) := by
  idx_vars j; pointwise
theorem cast_o (v : S256x256.Idx → α) (h) (j : S1x256x256.Idx) : shapeCast S1x256x256 v h j = v (ix2 (j 1) (j 2)) := by
  idx_vars j; pointwise

/-- A window read at an index is the vector at the offset index. -/
theorem window_at {s : Shape} (x : s.Idx → α) (off size : Fin s.rank → ℕ) (inb) (j k) (h : ∀ a, (k a).val = off a + (j a).val) :
    VecWindow.window x off size inb j = x k := by
  refine congrArg x (funext fun a => Fin.ext ?_)
  have e : ((Rect.unit off size inb).emb j a).val = off a + 1 * (j a).val := rfl
  rw [h]; omega

open scoped Classical in
/-- `X` with `G` on the part `M`. -/
def upd {s : Shape} (M : s.Idx → Prop) (G X : s.Idx → α) : s.Idx → α := fun j => if M j then G j else X j

theorem upd_of {s : Shape} {M : s.Idx → Prop} {G X : s.Idx → α} {j} (h : M j) : upd M G X j = G j := if_pos h
theorem upd_not {s : Shape} {M : s.Idx → Prop} {G X : s.Idx → α} {j} (h : ¬ M j) : upd M G X j = X j := if_neg h
theorem upd_all {s : Shape} {M : s.Idx → Prop} {G X : s.Idx → α} (h : ∀ j, M j) : upd M G X = G := funext fun j => if_pos (h j)
theorem upd_none {s : Shape} {M : s.Idx → Prop} {G X : s.Idx → α} (h : ∀ j, ¬ M j) : upd M G X = X := funext fun j => if_neg (h j)
theorem upd_congr {s : Shape} {M M' : s.Idx → Prop} {G X : s.Idx → α} (h : ∀ j, M j ↔ M' j) : upd M G X = upd M' G X :=
  congrArg (fun M => upd M G X) (funext fun j => propext (h j))

/-- A piece put where it agrees with `G` extends the part. -/
theorem put_mask {s : Shape} (X G : s.Idx → α) (M M' : s.Idx → Prop) (off size : Fin s.rank → ℕ) (w)
    (hM : ∀ j, M' j ↔ M j ∨ ∀ a, off a ≤ (j a).val ∧ (j a).val < off a + size a)
    (hw : ∀ j (h : ∀ a, off a ≤ (j a).val ∧ (j a).val < off a + size a), w (Rect.unitLocal (s := s) (off := off) (size := size) j h) = G j) :
    VecWindow.put (upd M G X) off size w = upd M' G X := by
  funext j
  unfold VecWindow.put
  split
  · rw [hw, upd_of ((hM j).mpr (.inr ‹_›))]
  · by_cases hm : M j
    · rw [upd_of hm, upd_of ((hM j).mpr (.inl hm))]
    · rw [upd_not hm, upd_not (fun h => ((hM j).mp h).elim hm ‹_›)]

variable {F : FTy → Type} [FloatOps F]

/-! ### The heads of a block -/

/-- One query head's columns of a block. -/
def xh (X : FVec F S1x256x5120 .bf16) (h : Fin 20) : FVec F S256x256 .bf16 :=
  fun j => X (ix3 0 (j 0) ⟨256 * h.val + (j 1).val, by have := h.isLt; have : (j 1).val < 256 := (j 1).isLt; omega⟩)
/-- One key/value head's columns of a block. -/
def kh (X : FVec F S1x256x1024 .bf16) (h : Fin 4) : FVec F S256x256 .bf16 :=
  fun j => X (ix3 0 (j 0) ⟨256 * h.val + (j 1).val, by have := h.isLt; have : (j 1).val < 256 := (j 1).isLt; omega⟩)

theorem xh_eq (X : FVec F S1x256x5120 .bf16) (h : Fin 20) (inb) :
    shapeCast S256x256 (VecWindow.window X ![0, 0, 256 * h.val] S1x256x256.size inb) shapeCasts_S1x256x256_S256x256 = xh X h := by
  funext j
  refine (cast_x _ _ _).trans ?_
  exact window_at _ _ _ _ _ _ (fun a => by fin_cases a <;> simp [ix3])
theorem kh_eq (X : FVec F S1x256x1024 .bf16) (h : Fin 4) (inb) :
    shapeCast S256x256 (VecWindow.window X ![0, 0, 256 * h.val] S1x256x256.size inb) shapeCasts_S1x256x256_S256x256 = kh X h := by
  funext j
  refine (cast_x _ _ _).trans ?_
  exact window_at _ _ _ _ _ _ (fun a => by fin_cases a <;> simp [ix3])

/-! ### A block's codes and the maxima's table -/

/-- The query codes; -/
def qcOf (X : FVec F S1x256x5120 .bf16) : FVec F S1x20x256x256 .fp8e4m3 := fun j => codesOf (xh X (j 1)) (ix2 (j 2) (j 3))
/-- the key or value codes; -/
def kcOf (X : FVec F S1x256x1024 .bf16) : FVec F S1x256x4x256 .fp8e4m3 := fun j => codesOf (kh X (j 2)) (ix2 (j 1) (j 3))
/-- what one block puts into the rings: key codes, values, key scales; -/
def r12Of (X : FVec F S1x256x1024 .bf16) : FVec F S3x4x256x256 .fp8e4m3 := fun j => codesOf (kh X (j 1)) (ix2 (j 2) (j 3))
def r13Of (X : FVec F S1x256x1024 .bf16) : FVec F S3x4x256x256 .bf16 := fun j => vringOf (kh X (j 1)) (ix2 (j 2) (j 3))
def r14Of (X : FVec F S1x256x1024 .bf16) : FVec F S3x4x256x128 .f32 := fun j => kscaleOf (kh X (j 1)) (ix2 (j 2) (j 3))
/-- and the maxima: column `h` for query head `h`, then 4 of the keys, then 4 of the values. -/
def amaxTab (X : FVec F S1x256x5120 .bf16) (K V : FVec F S1x256x1024 .bf16) : FVec F S256x128 .f32 := fun j =>
  if h : (j 1).val < 20 then amaxOf (xh X ⟨(j 1).val, h⟩) (ix2 (j 0) 0)
  else if h : (j 1).val - 20 < 4 then amaxOf (kh K ⟨(j 1).val - 20, h⟩) (ix2 (j 0) 0)
  else if h : (j 1).val - 24 < 4 then amaxOf (kh V ⟨(j 1).val - 24, h⟩) (ix2 (j 0) 0)
  else amaxOf (kh V 0) (ix2 (j 0) 0)

/-- Which part is written after `n` heads. -/
def mQ (n : ℕ) : S1x20x256x256.Idx → Prop := fun j => (j 1).val < n
def mK (n : ℕ) : S1x256x4x256.Idx → Prop := fun j => (j 2).val < n
def mR (c : Fin 3) (n : ℕ) : S3x4x256x256.Idx → Prop := fun j => (j 0).val = c.val ∧ (j 1).val < n
def mS (c : Fin 3) (n : ℕ) : S3x4x256x128.Idx → Prop := fun j => (j 0).val = c.val ∧ (j 1).val < n
def mA (n k v : ℕ) : S256x128.Idx → Prop := fun j => (j 1).val < n ∨ (20 ≤ (j 1).val ∧ (j 1).val < 20 + k) ∨ (24 ≤ (j 1).val ∧ (j 1).val < 24 + v)
def mO (n : ℕ) : S1x256x5120.Idx → Prop := fun j => (j 2).val < 256 * n

theorem forall4 {p : Fin 4 → Prop} : (∀ a, p a) ↔ p 0 ∧ p 1 ∧ p 2 ∧ p 3 := by
  constructor
  · exact fun h => ⟨h 0, h 1, h 2, h 3⟩
  · rintro ⟨h0, h1, h2, h3⟩ a; fin_cases a <;> assumption

theorem qc_put (X : FVec F S1x256x5120 .bf16) (Y) (h : Fin 20) :
    VecWindow.put (upd (mQ h.val) (qcOf X) Y) ![0, h.val, 0, 0] S1x1x256x256.size (shapeCast S1x1x256x256 (codesOf (xh X h)) shapeCasts_S256x256_S1x1x256x256)
      = upd (mQ (h.val + 1)) (qcOf X) Y := by
  refine put_mask _ _ _ _ _ _ _ (fun j => ?_) fun j hj => ?_
  · have := (j 0).isLt; have := (j 2).isLt; have := (j 3).isLt
    rw [show (∀ a, _) ↔ _ from forall4]; unfold mQ
    simp at *; omega
  · have h1 := hj 1
    have : j 1 = h := Fin.ext (by simp at h1; omega)
    refine (cast_11 _ _ _).trans ?_
    unfold qcOf; rw [this]; rfl
theorem kc_put (X : FVec F S1x256x1024 .bf16) (Y) (h : Fin 4) :
    VecWindow.put (upd (mK h.val) (kcOf X) Y) ![0, 0, h.val, 0] S1x256x1x256.size (shapeCast S1x256x1x256 (codesOf (kh X h)) shapeCasts_S256x256_S1x256x1x256)
      = upd (mK (h.val + 1)) (kcOf X) Y := by
  refine put_mask _ _ _ _ _ _ _ (fun j => ?_) fun j hj => ?_
  · have := (j 0).isLt; have := (j 1).isLt; have := (j 3).isLt
    rw [show (∀ a, _) ↔ _ from forall4]; unfold mK
    simp at *; omega
  · have h1 := hj 2
    have : j 2 = h := Fin.ext (by simp at h1; omega)
    refine (cast_kv _ _ _).trans ?_
    unfold kcOf; rw [this]; rfl
theorem r12_put (X : FVec F S1x256x1024 .bf16) (Y) (c : Fin 3) (h : Fin 4) :
    VecWindow.put (upd (mR c h.val) (r12Of X) Y) ![c.val, h.val, 0, 0] S1x1x256x256.size (shapeCast S1x1x256x256 (codesOf (kh X h)) shapeCasts_S256x256_S1x1x256x256)
      = upd (mR c (h.val + 1)) (r12Of X) Y := by
  refine put_mask _ _ _ _ _ _ _ (fun j => ?_) fun j hj => ?_
  · have := (j 2).isLt; have := (j 3).isLt
    rw [show (∀ a, _) ↔ _ from forall4]; unfold mR
    simp at *; omega
  · have h1 := hj 1
    have : j 1 = h := Fin.ext (by simp at h1; omega)
    refine (cast_11 _ _ _).trans ?_
    unfold r12Of; rw [this]; rfl
theorem r13_put (X : FVec F S1x256x1024 .bf16) (Y) (c : Fin 3) (h : Fin 4) :
    VecWindow.put (upd (mR c h.val) (r13Of X) Y) ![c.val, h.val, 0, 0] S1x1x256x256.size (shapeCast S1x1x256x256 (vringOf (kh X h)) shapeCasts_S256x256_S1x1x256x256)
      = upd (mR c (h.val + 1)) (r13Of X) Y := by
  refine put_mask _ _ _ _ _ _ _ (fun j => ?_) fun j hj => ?_
  · have := (j 2).isLt; have := (j 3).isLt
    rw [show (∀ a, _) ↔ _ from forall4]; unfold mR
    simp at *; omega
  · have h1 := hj 1
    have : j 1 = h := Fin.ext (by simp at h1; omega)
    refine (cast_11 _ _ _).trans ?_
    unfold r13Of; rw [this]; rfl
theorem r14_put (X : FVec F S1x256x1024 .bf16) (Y) (c : Fin 3) (h : Fin 4) :
    VecWindow.put (upd (mS c h.val) (r14Of X) Y) ![c.val, h.val, 0, 0] S1x1x256x128.size (shapeCast S1x1x256x128 (kscaleOf (kh X h)) shapeCasts_S256x128_S1x1x256x128)
      = upd (mS c (h.val + 1)) (r14Of X) Y := by
  refine put_mask _ _ _ _ _ _ _ (fun j => ?_) fun j hj => ?_
  · have := (j 2).isLt; have := (j 3).isLt
    rw [show (∀ a, _) ↔ _ from forall4]; unfold mS
    simp at *; omega
  · have h1 := hj 1
    have : j 1 = h := Fin.ext (by simp at h1; omega)
    refine (cast_ks _ _ _).trans ?_
    unfold r14Of; rw [this]; rfl

theorem forall2 {p : Fin 2 → Prop} : (∀ a, p a) ↔ p 0 ∧ p 1 := Fin.forall_fin_two
theorem forall3 {p : Fin 3 → Prop} : (∀ a, p a) ↔ p 0 ∧ p 1 ∧ p 2 := by
  constructor
  · exact fun h => ⟨h 0, h 1, h 2⟩
  · rintro ⟨h0, h1, h2⟩ a; fin_cases a <;> assumption

theorem cast_same {s : Shape} (v : s.Idx → α) (h : s.ShapeCasts s) : shapeCast s v h = v := shapeCast_self v h

theorem amax_putK (X : FVec F S1x256x5120 .bf16) (K V : FVec F S1x256x1024 .bf16) (Y) (h : Fin 4) :
    VecWindow.put (upd (mA 0 h.val h.val) (amaxTab X K V) Y) ![0, 20 + h.val] S256x1.size (shapeCast S256x1 (amaxOf (kh K h)) shapeCasts_S256x1_S256x1)
      = upd (mA 0 (h.val + 1) h.val) (amaxTab X K V) Y := by
  rw [cast_same]
  refine put_mask _ _ _ _ _ _ _ (fun j => ?_) fun j hj => ?_
  · have := (j 0).isLt
    rw [show (∀ a, _) ↔ _ from forall2]; unfold mA
    simp at *; omega
  · have h1 := hj 1
    have e : (j 1).val = 20 + h.val := by simp at h1; omega
    have := h.isLt
    unfold amaxTab
    rw [dif_neg (by omega), dif_pos (by omega)]
    have e' : (⟨(j 1).val - 20, by omega⟩ : Fin 4) = h := Fin.ext (by simp; omega)
    rw [e']
    refine congrArg _ ?_
    funext a; fin_cases a
    · rfl
    · exact Subsingleton.elim (α := Fin 1) _ _
theorem amax_putV (X : FVec F S1x256x5120 .bf16) (K V : FVec F S1x256x1024 .bf16) (Y) (h : Fin 4) :
    VecWindow.put (upd (mA 0 (h.val + 1) h.val) (amaxTab X K V) Y) ![0, 24 + h.val] S256x1.size (shapeCast S256x1 (amaxOf (kh V h)) shapeCasts_S256x1_S256x1)
      = upd (mA 0 (h.val + 1) (h.val + 1)) (amaxTab X K V) Y := by
  rw [cast_same]
  refine put_mask _ _ _ _ _ _ _ (fun j => ?_) fun j hj => ?_
  · have := (j 0).isLt
    rw [show (∀ a, _) ↔ _ from forall2]; unfold mA
    simp at *; omega
  · have h1 := hj 1
    have e : (j 1).val = 24 + h.val := by simp at h1; omega
    have := h.isLt
    unfold amaxTab
    rw [dif_neg (by omega), dif_neg (by omega), dif_pos (by omega)]
    have e' : (⟨(j 1).val - 24, by omega⟩ : Fin 4) = h := Fin.ext (by simp; omega)
    rw [e']
    refine congrArg _ ?_
    funext a; fin_cases a
    · rfl
    · exact Subsingleton.elim (α := Fin 1) _ _
theorem amax_putQ (X : FVec F S1x256x5120 .bf16) (K V : FVec F S1x256x1024 .bf16) (Y) (h : Fin 20) :
    VecWindow.put (upd (mA h.val 4 4) (amaxTab X K V) Y) ![0, h.val] S256x1.size (shapeCast S256x1 (amaxOf (xh X h)) shapeCasts_S256x1_S256x1)
      = upd (mA (h.val + 1) 4 4) (amaxTab X K V) Y := by
  rw [cast_same]
  refine put_mask _ _ _ _ _ _ _ (fun j => ?_) fun j hj => ?_
  · have := (j 0).isLt
    rw [show (∀ a, _) ↔ _ from forall2]; unfold mA
    simp at *; omega
  · have h1 := hj 1
    have e : (j 1).val = h.val := by simp at h1; omega
    have := h.isLt
    unfold amaxTab
    rw [dif_pos (by omega)]
    have e' : (⟨(j 1).val, by omega⟩ : Fin 20) = h := Fin.ext e
    rw [e']
    refine congrArg _ ?_
    funext a; fin_cases a
    · rfl
    · exact Subsingleton.elim (α := Fin 1) _ _

/-! ### The scales from the table -/

def sQ (A : FVec F S256x128 .f32) : FVec F S1x20x256 .f32 :=
  shapeCast S1x20x256 (extractStridedSlice S20x256 ![0, 0] (scaleTable A) slices_S32x256_o0_0_S20x256) shapeCasts_S20x256_S1x20x256
def sK (A : FVec F S256x128 .f32) : FVec F S1x4x256 .f32 :=
  shapeCast S1x4x256 (extractStridedSlice S4x256 ![20, 0] (scaleTable A) slices_S32x256_o20_0_S4x256) shapeCasts_S4x256_S1x4x256
def sV (A : FVec F S256x128 .f32) : FVec F S1x4x256 .f32 :=
  shapeCast S1x4x256 (extractStridedSlice S4x256 ![24, 0] (scaleTable A) slices_S32x256_o24_0_S4x256) shapeCasts_S4x256_S1x4x256
def sC (lc : F .f32) (A : FVec F S256x128 .f32) : FVec F S24x256 .f32 :=
  mulf (extractStridedSlice S24x256 ![0, 0] (scaleTable A) slices_S32x256_o0_0_S24x256) (broadcast S24x256 lc)

/-! ### One head's reads -/

/-- A ring's slot at one head. -/
def slot (R : S3x4x256x256.Idx → α) (s : Fin 3) (g : Fin 4) : S256x256.Idx → α := fun j => R (ix4 s g (j 0) (j 1))
/-- The scale ring's slot: all rows, the upper half's, the lower half's. -/
def slotS (R : FVec F S3x4x256x128 .f32) (s : Fin 3) (g : Fin 4) : FVec F S256x128 .f32 := fun j => R (ix4 s g (j 0) (j 1))
def slotLo (R : FVec F S3x4x256x128 .f32) (s : Fin 3) (g : Fin 4) : FVec F S128x128 .f32 :=
  fun j => R (ix4 s g ⟨(j 0).val, by have : (j 0).val < 128 := (j 0).isLt; omega⟩ (j 1))
def slotHi (R : FVec F S3x4x256x128 .f32) (s : Fin 3) (g : Fin 4) : FVec F S128x128 .f32 :=
  fun j => R (ix4 s g ⟨128 + (j 0).val, by have : (j 0).val < 128 := (j 0).isLt; omega⟩ (j 1))

/-- The diagonal blocks' key scales. -/
def kcombOf (R : FVec F S3x4x256x128 .f32) (c p2 : Fin 3) (g : Fin 4) : FVec F S2x128x128 .f32 := fun j =>
  if (j 0).val = 0 then select causal (slotLo R c g) (slotLo R p2 g) (ix2 (j 1) (j 2))
  else select causal (slotHi R c g) (slotHi R p2 g) (ix2 (j 1) (j 2))

theorem slot_eq (R : S3x4x256x256.Idx → α) (s : Fin 3) (g : Fin 4) (inb) :
    shapeCast S256x256 (VecWindow.window R ![s.val, g.val, 0, 0] S1x1x256x256.size inb) shapeCasts_S1x1x256x256_S256x256 = slot R s g := by
  funext j
  refine (cast_11' _ _ _).trans ?_
  exact window_at _ _ _ _ _ _ (fun a => by fin_cases a <;> simp [ix4])
theorem slotS_eq (R : FVec F S3x4x256x128 .f32) (s : Fin 3) (g : Fin 4) (inb) :
    shapeCast S256x128 (VecWindow.window R ![s.val, g.val, 0, 0] S1x1x256x128.size inb) shapeCasts_S1x1x256x128_S256x128 = slotS R s g := by
  funext j
  refine (cast_ks' _ _ _).trans ?_
  exact window_at _ _ _ _ _ _ (fun a => by fin_cases a <;> simp [ix4])
theorem slotLo_eq (R : FVec F S3x4x256x128 .f32) (s : Fin 3) (g : Fin 4) (inb) :
    shapeCast S128x128 (VecWindow.window R ![s.val, g.val, 0, 0] S1x1x128x128.size inb) shapeCasts_S1x1x128x128_S128x128 = slotLo R s g := by
  funext j
  refine (cast_kt' _ _ _).trans ?_
  exact window_at _ _ _ _ _ _ (fun a => by fin_cases a <;> simp [ix4])
theorem slotHi_eq (R : FVec F S3x4x256x128 .f32) (s : Fin 3) (g : Fin 4) (inb) :
    shapeCast S128x128 (VecWindow.window R ![s.val, g.val, 128, 0] S1x1x128x128.size inb) shapeCasts_S1x1x128x128_S128x128 = slotHi R s g := by
  funext j
  refine (cast_kt' _ _ _).trans ?_
  exact window_at _ _ _ _ _ _ (fun a => by fin_cases a <;> simp [ix4])

theorem kcomb_put (R : FVec F S3x4x256x128 .f32) (c p2 : Fin 3) (g : Fin 4) (Y : FVec F S2x128x128 .f32) :
    VecWindow.put (VecWindow.put Y ![0, 0, 0] S1x128x128.size (shapeCast S1x128x128 (select causal (slotLo R c g) (slotLo R p2 g)) shapeCasts_S128x128_S1x128x128))
      ![1, 0, 0] S1x128x128.size (shapeCast S1x128x128 (select causal (slotHi R c g) (slotHi R p2 g)) shapeCasts_S128x128_S1x128x128) = kcombOf R c p2 g := by
  have e0 := put_mask Y (kcombOf R c p2 g) (fun _ => False) (fun j => (j 0).val = 0) ![0, 0, 0] S1x128x128.size
    (shapeCast S1x128x128 (select causal (slotLo R c g) (slotLo R p2 g)) shapeCasts_S128x128_S1x128x128) (fun j => by
      have := (j 0).isLt; have := (j 1).isLt; have := (j 2).isLt
      rw [show (∀ a, _) ↔ _ from forall3]; simp at *; omega) (fun j hj => by
      have h0 := hj 0
      have : (j 0).val = 0 := by simp at h0; omega
      refine (cast_kt _ _ _).trans ?_
      unfold kcombOf; rw [if_pos this]; rfl)
  rw [upd_none (fun _ h => h)] at e0
  rw [e0, put_mask Y (kcombOf R c p2 g) (fun j => (j 0).val = 0) (fun _ => True) ![1, 0, 0] S1x128x128.size
    (shapeCast S1x128x128 (select causal (slotHi R c g) (slotHi R p2 g)) shapeCasts_S128x128_S1x128x128) (fun j => by
      have : (j 0).val < 2 := (j 0).isLt; have := (j 1).isLt; have := (j 2).isLt
      rw [show (∀ a, _) ↔ _ from forall3]; simp at *; omega) (fun j hj => by
      have h0 := hj 0
      have : (j 0).val ≠ 0 := by simp at h0; omega
      refine (cast_kt _ _ _).trans ?_
      unfold kcombOf; rw [if_neg this]; rfl)]
  exact upd_all fun _ => trivial

/-- What query head `h` of key/value head `g` reads. -/
def inAt (Q : FVec F S1x20x256x256 .fp8e4m3) (R12 : FVec F S3x4x256x256 .fp8e4m3) (R13 : FVec F S3x4x256x256 .bf16)
    (R14 : FVec F S3x4x256x128 .f32) (C : FVec F S24x256 .f32) (c p1 p2 : Fin 3) (g : Fin 4) (h : Fin 20) : HeadIn F where
  q := fun j => Q (ix4 0 h (j 0) (j 1))
  ci := fun j => C (ix2 ⟨h.val, by omega⟩ (j 1))
  k2 := slot R12 p2 g
  k1 := slot R12 p1 g
  k0 := slot R12 c g
  kc0 := select causal (slotLo R14 c g) (slotLo R14 p2 g)
  kc1 := select causal (slotHi R14 c g) (slotHi R14 p2 g)
  ks2 := slotHi R14 p2 g
  ks1 := slotS R14 p1 g
  ks1' := slotS R14 p1 g
  ks0 := slotLo R14 c g
  v2 := slot R13 p2 g
  v1 := slot R13 p1 g
  v0 := slot R13 c g

theorem kc0_eq (R : FVec F S3x4x256x128 .f32) (c p2 : Fin 3) (g : Fin 4) (inb) :
    shapeCast S128x128 (VecWindow.window (kcombOf R c p2 g) ![0, 0, 0] S1x128x128.size inb) shapeCasts_S1x128x128_S128x128
      = select causal (slotLo R c g) (slotLo R p2 g) := by
  funext j
  refine (cast_kc' _ _ _).trans ?_
  refine (window_at _ _ _ _ _ (ix3 0 (j 0) (j 1)) (fun a => by fin_cases a <;> simp [ix3])).trans ?_
  unfold kcombOf; rw [if_pos (by rfl)]; exact congrArg _ (eq_ix2 j).symm
theorem kc1_eq (R : FVec F S3x4x256x128 .f32) (c p2 : Fin 3) (g : Fin 4) (inb) :
    shapeCast S128x128 (VecWindow.window (kcombOf R c p2 g) ![1, 0, 0] S1x128x128.size inb) shapeCasts_S1x128x128_S128x128
      = select causal (slotHi R c g) (slotHi R p2 g) := by
  funext j
  refine (cast_kc' _ _ _).trans ?_
  refine (window_at _ _ _ _ _ (ix3 1 (j 0) (j 1)) (fun a => by fin_cases a <;> simp [ix3])).trans ?_
  unfold kcombOf; rw [if_neg (by decide +revert)]; exact congrArg _ (eq_ix2 j).symm
theorem inq_eq (Q : FVec F S1x20x256x256 .fp8e4m3) (h : Fin 20) (inb) :
    shapeCast S256x256 (VecWindow.window Q ![0, h.val, 0, 0] S1x1x256x256.size inb) shapeCasts_S1x1x256x256_S256x256
      = fun j => Q (ix4 0 h (j 0) (j 1)) := by
  funext j
  refine (cast_11' _ _ _).trans ?_
  exact window_at _ _ _ _ _ _ (fun a => by fin_cases a <;> simp [ix4])
theorem inc_eq (C : FVec F S24x256 .f32) (h : Fin 20) (inb) :
    VecWindow.window C ![h.val, 0] S1x256.size inb = fun j : S1x256.Idx => C (ix2 ⟨h.val, by omega⟩ (j 1)) := by
  funext j
  exact window_at _ _ _ _ _ _ (fun a => by
    have : (j 0).val < 1 := (j 0).isLt
    fin_cases a <;> simp [ix2] <;> omega)

/-- All heads' results. -/
def outOf (e : Bool) (w : BitVec 32) (I : Fin 20 → HeadIn F) : FVec F S1x256x5120 .bf16 := fun j =>
  headOut e w (I ⟨(j 2).val / 256, by have : (j 2).val < 5120 := (j 2).isLt; omega⟩) (ix2 (j 1) ⟨(j 2).val % 256, Nat.mod_lt _ (by decide)⟩)

theorem out_put (e : Bool) (w : BitVec 32) (I : Fin 20 → HeadIn F) (Y) (h : Fin 20) :
    VecWindow.put (upd (mO h.val) (outOf e w I) Y) ![0, 0, 256 * h.val] S1x256x256.size (shapeCast S1x256x256 (headOut e w (I h)) shapeCasts_S256x256_S1x256x256)
      = upd (mO (h.val + 1)) (outOf e w I) Y := by
  refine put_mask _ _ _ _ _ _ _ (fun j => ?_) fun j hj => ?_
  · have := (j 0).isLt; have := (j 1).isLt
    rw [show (∀ a, _) ↔ _ from forall3]; unfold mO
    simp at *; omega
  · have h1 := hj 2
    simp at h1
    have e1 : (⟨(j 2).val / 256, by have : (j 2).val < 5120 := (j 2).isLt; omega⟩ : Fin 20) = h := Fin.ext (by simp; omega)
    refine (cast_o _ _ _).trans ?_
    unfold outOf; rw [e1]
    refine congrArg _ (congrArg₂ ix2 rfl (Fin.ext ?_))
    show (j 2).val - 256 * h.val = (j 2).val % 256
    omega

end Cert.Gqa

end
-- ==== Proof.Triples.lean ====
/-
  The body's pieces run: from the buffers read as `Values.lean`'s functions to the buffers read as the next ones, one
  head at a time, then the loops.
-/
module

public import proofs.«01_k».proof.Proof.Values
public import Idealize.ShloMosaic.Lib.Tactic
public import proofs.«01_k».proof.Proof.Gen.KernelIdeal.Frame

@[expose] public section

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {nD : Nat} {τ : Topo} {sig : RefSig} {Λ : Labels}
local notation "𝕄" => MT nD τ sig Unit (Elt F) ℕ (UR sig nD τ) ℕ

/-- A memref's elements held, reading `X`. -/
abbrev hold (d : Dev nD) {sp : Space} {S : Shape} {e : EltTy} (M : Memref sig .tc sp S e) (X : S.Idx → Elt F e) : sProp 𝕄 :=
  owns (d : Thread nD τ) M fullShare X

theorem hold_of (d : Dev nD) {sp : Space} {S : Shape} {e : EltTy} (M : Memref sig .tc sp S e) (X : S.Idx → Elt F e) (f)
    (h : M.view.read (Elt F) f = X) : (M.view.loc (d : Thread nD τ) ↦[M.view.set]{fullShare} f : sProp 𝕄) ⊢ hold d M X := by
  subst h; exact owns_intro _ _ _ _

/-- A piece stored through the words that hold it. -/
theorem read_updateSlice (M : Memref sig .tc .vmem S1x256x4x256 .fp8e4m3) (f g : M.view.ty.Contents (Elt F)) (v : FVec F S1x256x1x256 .fp8e4m3) (h : Fin 4) (inb) :
    M.view.read (Elt F) (M.view.writes (Elt F) f [⟨Rect.unit (s := S1x256x4x256) ![0, 0, 0, 0] S1x256x4x256.size inb,
        updateSlice (M.view.readAt (Elt F) (Rect.unit (s := S1x256x4x256) ![0, 0, 0, 0] S1x256x4x256.size inb).toLoadRect g) v ![0, 0, h.val, 0] (sl_code h)⟩])
      = VecWindow.put (M.view.read (Elt F) g) ![0, 0, h.val, 0] S1x256x1x256.size v := by
  rw [View.read_writes_full, View.readAt_full]
  exact (VecWindow.put_eq_updateSlice _ _ _ (inb_code h) _).symm

/-- A loop, by its invariant. -/
theorem upTo_wp (defs : Defs nD τ sig (Elt F) Λ) (d : Dev nD) {N : ℕ} (f : Fin N → Prog (TpuEff nD τ sig (Elt F) Λ .tc) PUnit) (I : ℕ → sProp 𝕄)
    (hstep : ∀ (i : Fin N) (Q : PUnit → sProp 𝕄), iprop(I i.val ∗ (I (i.val + 1) -∗ Q ⟨⟩)) ⊢ wp frame (wpE defs Variants.none (d : Thread nD τ) none) Set.univ (f i) Q) :
    ∀ (n : ℕ) (hn : n ≤ N) (Q : PUnit → sProp 𝕄), iprop(I 0 ∗ (I n -∗ Q ⟨⟩)) ⊢ wp frame (wpE defs Variants.none (d : Thread nD τ) none) Set.univ (upTo f n hn) Q
  | 0, _, Q => by
    iintro ⟨HI, Hk⟩
    unfold upTo
    sl_step
    iapply Hk; iexact HI
  | n + 1, hn, Q => by
    unfold upTo
    rw [wp_bind]
    iintro ⟨HI, Hk⟩
    iapply (upTo_wp defs d f I hstep n (Nat.le_of_succ_le hn))
    isplitl [HI]; · iexact HI
    iintro HI
    iapply (hstep ⟨n, hn⟩ Q)
    isplitl [HI]; · iexact HI
    iexact Hk

-- a loop is taken by its invariant, never opened
attribute [local irreducible] upTo

section Heads
variable
  (arg2 : Memref sig .tc .vmem S1x256x5120 .bf16) (arg3 : Memref sig .tc .vmem S1x256x1024 .bf16)
  (arg4 : Memref sig .tc .vmem S1x256x1024 .bf16)
  (arg5 : Memref sig .tc .vmem S1x256x5120 .bf16) (harg5 : arg5.IsWhole)
  (arg6 : Memref sig .tc .vmem S1x20x256x256 .fp8e4m3) (harg6 : arg6.IsWhole)
  (arg7 : Memref sig .tc .vmem S1x20x256 .f32)
  (arg8 : Memref sig .tc .vmem S1x256x4x256 .fp8e4m3) (harg8 : arg8.IsWhole)
  (arg9 : Memref sig .tc .vmem S1x4x256 .f32)
  (arg10 : Memref sig .tc .vmem S1x256x4x256 .fp8e4m3) (harg10 : arg10.IsWhole)
  (arg11 : Memref sig .tc .vmem S1x4x256 .f32)
  (arg12 : Memref sig .tc .vmem S3x4x256x256 .fp8e4m3) (harg12 : arg12.IsWhole)
  (arg13 : Memref sig .tc .vmem S3x4x256x256 .bf16) (harg13 : arg13.IsWhole)
  (arg14 : Memref sig .tc .vmem S3x4x256x128 .f32)
  (arg15 : Memref sig .tc .vmem S256x128 .f32)
  (arg16 : Memref sig .tc .vmem S24x256 .f32)
  (arg17 : Memref sig .tc .vmem S2x128x128 .f32)
  (defs : Defs nD τ sig (Elt F) Λ) (d : Dev nD)

theorem qHead_wp (h : Fin 20) (X : FVec F S1x256x5120 .bf16) (K V : FVec F S1x256x1024 .bf16) (Y6 : FVec F S1x20x256x256 .fp8e4m3) (Y15 : FVec F S256x128 .f32)
    (Q : PUnit → sProp 𝕄) :
    iprop((hold d arg2 X ∗ hold d arg6 (upd (mQ h.val) (qcOf X) Y6) ∗ hold d arg15 (upd (mA h.val 4 4) (amaxTab X K V) Y15))
      ∗ ((hold d arg2 X ∗ hold d arg6 (upd (mQ (h.val + 1)) (qcOf X) Y6) ∗ hold d arg15 (upd (mA (h.val + 1) 4 4) (amaxTab X K V) Y15)) -∗ Q ⟨⟩))
    ⊢ wp frame (wpE defs Variants.none (d : Thread nD τ) none) Set.univ (qHead arg2 arg6 harg6 arg15 h) Q := by
  unfold hold owns
  iintro ⟨⟨⟨%f2, %h2, H2⟩, ⟨%f6, %h6, H6⟩, ⟨%f15, %h15, H15⟩⟩, Hk⟩
  unfold qHead
  sl_exec!
  have hx : qHead_wp.sl.x arg2 d h f2 = xh X h := by subst h2; exact xh_eq _ h (inb_x h)
  rw [hx]
  sl_step
  iapply Hk
  isplitl [H2]; · iexists f2; isplitr; · ipureintro; exact h2
                  iexact H2
  isplitl [H6]
  · iexists _; isplitr; swap; (· iexact H6); ipureintro
    rw [View.read_writes_cons_put _ _ _ _ [] rfl, View.writes_nil, h6]; exact qc_put X Y6 h
  iexists _; isplitr; swap; (· iexact H15); ipureintro
  rw [View.read_writes_cons_put _ _ _ _ [] rfl, View.writes_nil, h15]; exact amax_putQ X K V Y15 h

set_option maxHeartbeats 1000000 in
theorem kvHead_wp (c : Fin 3) (h : Fin 4) (X : FVec F S1x256x5120 .bf16) (K V : FVec F S1x256x1024 .bf16) (Y8 Y10 : FVec F S1x256x4x256 .fp8e4m3)
    (Y12 : FVec F S3x4x256x256 .fp8e4m3) (Y13 : FVec F S3x4x256x256 .bf16) (Y14 : FVec F S3x4x256x128 .f32) (Y15 : FVec F S256x128 .f32)
    (Q : PUnit → sProp 𝕄) :
    iprop((hold d arg3 K ∗ hold d arg4 V ∗ hold d arg8 (upd (mK h.val) (kcOf K) Y8) ∗ hold d arg10 (upd (mK h.val) (kcOf V) Y10)
        ∗ hold d arg12 (upd (mR c h.val) (r12Of K) Y12) ∗ hold d arg13 (upd (mR c h.val) (r13Of V) Y13) ∗ hold d arg14 (upd (mS c h.val) (r14Of K) Y14)
        ∗ hold d arg15 (upd (mA 0 h.val h.val) (amaxTab X K V) Y15))
      ∗ ((hold d arg3 K ∗ hold d arg4 V ∗ hold d arg8 (upd (mK (h.val + 1)) (kcOf K) Y8) ∗ hold d arg10 (upd (mK (h.val + 1)) (kcOf V) Y10)
        ∗ hold d arg12 (upd (mR c (h.val + 1)) (r12Of K) Y12) ∗ hold d arg13 (upd (mR c (h.val + 1)) (r13Of V) Y13) ∗ hold d arg14 (upd (mS c (h.val + 1)) (r14Of K) Y14)
        ∗ hold d arg15 (upd (mA 0 (h.val + 1) (h.val + 1)) (amaxTab X K V) Y15)) -∗ Q ⟨⟩))
    ⊢ wp frame (wpE defs Variants.none (d : Thread nD τ) none) Set.univ
        (kvHead arg3 arg4 arg8 harg8 arg10 harg10 arg12 harg12 arg13 harg13 arg14 arg15 c h) Q := by
  unfold hold owns
  iintro ⟨⟨⟨%f3, %h3, H3⟩, ⟨%f4, %h4, H4⟩, ⟨%f8, %h8, H8⟩, ⟨%f10, %h10, H10⟩, ⟨%f12, %h12, H12⟩, ⟨%f13, %h13, H13⟩, ⟨%f14, %h14, H14⟩, ⟨%f15, %h15, H15⟩⟩, Hk⟩
  unfold kvHead
  sl_exec!
  have hx : kvHead_wp.sl.x arg3 d h f3 = kh K h := by subst h3; exact kh_eq _ h (inb_kv h)
  have hy : kvHead_wp.sl.y arg4 d h f4 = kh V h := by subst h4; exact kh_eq _ h (inb_kv h)
  have e8 : arg8.view.read (Elt F) (arg8.view.writes (Elt F) arg8.view.junk (kvHead_wp.sl.H8_1 arg3 arg8 d h f3 f8))
      = upd (mK (h.val + 1)) (kcOf K) Y8 := by
    refine (read_updateSlice arg8 _ f8 _ h _).trans ?_
    rw [hx, h8]; exact kc_put K Y8 h
  have e10 : arg10.view.read (Elt F) (arg10.view.writes (Elt F) arg10.view.junk (kvHead_wp.sl.H10_1 arg4 arg10 d h f4 f10))
      = upd (mK (h.val + 1)) (kcOf V) Y10 := by
    refine (read_updateSlice arg10 _ f10 _ h _).trans ?_
    rw [hy, h10]; exact kc_put V Y10 h
  rw [hx, hy]
  sl_step
  iapply Hk
  isplitl [H3]; · iexists f3; isplitr; · ipureintro; exact h3
                  iexact H3
  isplitl [H4]; · iexists f4; isplitr; · ipureintro; exact h4
                  iexact H4
  isplitl [H8]; · iexists _; isplitr; swap; (· iexact H8); ipureintro; exact e8
  isplitl [H10]; · iexists _; isplitr; swap; (· iexact H10); ipureintro; exact e10
  isplitl [H12]
  · iexists _; isplitr; swap; (· iexact H12); ipureintro
    rw [View.read_writes_cons_put _ _ _ _ [] rfl, View.writes_nil, h12]; exact r12_put K Y12 c h
  isplitl [H13]
  · iexists _; isplitr; swap; (· iexact H13); ipureintro
    rw [View.read_writes_cons_put _ _ _ _ [] rfl, View.writes_nil, h13]; exact r13_put V Y13 c h
  isplitl [H14]
  · iexists _; isplitr; swap; (· iexact H14); ipureintro
    rw [View.read_writes_cons_put _ _ _ _ [] rfl, View.writes_nil, h14]; exact r14_put K Y14 c h
  iexists _; isplitr; swap; (· iexact H15); ipureintro
  rw [View.read_writes_cons_put _ _ _ _ _ rfl, View.read_writes_cons_put _ _ _ _ [] rfl, View.writes_nil, h15]
  refine (congrArg (fun y => VecWindow.put y _ _ _) (amax_putK X K V Y15 h)).trans ?_
  exact amax_putV X K V Y15 h

theorem scales_wp (lc : F .f32) (A : FVec F S256x128 .f32) (Y7 : FVec F S1x20x256 .f32) (Y9 Y11 : FVec F S1x4x256 .f32) (Y16 : FVec F S24x256 .f32) (Q : PUnit → sProp 𝕄) :
    iprop((hold d arg7 Y7 ∗ hold d arg9 Y9 ∗ hold d arg11 Y11 ∗ hold d arg15 A ∗ hold d arg16 Y16)
      ∗ ((hold d arg7 (sQ A) ∗ hold d arg9 (sK A) ∗ hold d arg11 (sV A) ∗ hold d arg15 A ∗ hold d arg16 (sC lc A)) -∗ Q ⟨⟩))
    ⊢ wp frame (wpE defs Variants.none (d : Thread nD τ) none) Set.univ (scales arg7 arg9 arg11 arg15 arg16 lc) Q := by
  unfold hold owns
  iintro ⟨⟨⟨%f7, %h7, H7⟩, ⟨%f9, %h9, H9⟩, ⟨%f11, %h11, H11⟩, ⟨%f15, %h15, H15⟩, ⟨%f16, %h16, H16⟩⟩, Hk⟩
  unfold scales
  sl_exec!
  sl_step
  iapply Hk
  isplitl [H7]
  · iexists _; isplitr; swap; (· iexact H7); ipureintro
    refine (View.read_writes_full _ _ _ _ []).trans ?_
    subst h15; exact congrArg sQ (View.readAt_full _ _ _)
  isplitl [H9]
  · iexists _; isplitr; swap; (· iexact H9); ipureintro
    refine (View.read_writes_full _ _ _ _ []).trans ?_
    subst h15; exact congrArg sK (View.readAt_full _ _ _)
  isplitl [H11]
  · iexists _; isplitr; swap; (· iexact H11); ipureintro
    refine (View.read_writes_full _ _ _ _ []).trans ?_
    subst h15; exact congrArg sV (View.readAt_full _ _ _)
  isplitl [H15]; · iexists f15; isplitr; · ipureintro; exact h15
                   iexact H15
  iexists _; isplitr; swap; (· iexact H16); ipureintro
  refine (View.read_writes_full _ _ _ _ []).trans ?_
  subst h15; exact (cast_same _ _).trans (congrArg (sC lc) (View.readAt_full _ _ _))

theorem kcomb_wp (c p2 : Fin 3) (g : Fin 4) (R : FVec F S3x4x256x128 .f32) (Y17 : FVec F S2x128x128 .f32) (Q : PUnit → sProp 𝕄) :
    iprop((hold d arg14 R ∗ hold d arg17 Y17) ∗ ((hold d arg14 R ∗ hold d arg17 (kcombOf R c p2 g)) -∗ Q ⟨⟩))
    ⊢ wp frame (wpE defs Variants.none (d : Thread nD τ) none) Set.univ (kcomb arg14 arg17 c p2 g) Q := by
  unfold hold owns
  iintro ⟨⟨⟨%f14, %h14, H14⟩, ⟨%f17, %h17, H17⟩⟩, Hk⟩
  unfold kcomb
  sl_exec!
  sl_step
  iapply Hk
  isplitl [H14]; · iexists f14; isplitr; · ipureintro; exact h14
                   iexact H14
  iexists _; isplitr; swap; (· iexact H17); ipureintro
  refine (View.read_writes_cons_put _ _ _ _ _ rfl).trans ?_
  refine (congrArg (fun y => VecWindow.put y _ _ _) (View.read_writes_cons_put _ _ _ _ [] rfl)).trans ?_
  subst h14
  have eL : ∀ s, shapeCast S128x128 (View.readAt (Elt F) arg14.view (Rect.unit (s := S3x4x256x128) ![s.val, g.val, 0, 0] S1x1x128x128.size (inb_ksLo s g)).toLoadRect f14) shapeCasts_S1x1x128x128_S128x128
      = slotLo (arg14.view.read (Elt F) f14) s g := fun s => slotLo_eq _ s g (inb_ksLo s g)
  have eH : ∀ s, shapeCast S128x128 (View.readAt (Elt F) arg14.view (Rect.unit (s := S3x4x256x128) ![s.val, g.val, 128, 0] S1x1x128x128.size (inb_ksHi s g)).toLoadRect f14) shapeCasts_S1x1x128x128_S128x128
      = slotHi (arg14.view.read (Elt F) f14) s g := fun s => slotHi_eq _ s g (inb_ksHi s g)
  rw [eL, eL, eH, eH]
  exact kcomb_put _ c p2 g _

theorem reset_wp (Y13 : FVec F S3x4x256x256 .bf16) (Y14 : FVec F S3x4x256x128 .f32) (Q : PUnit → sProp 𝕄) :
    iprop((hold d arg13 Y13 ∗ hold d arg14 Y14)
      ∗ ((hold d arg13 (broadcast S3x4x256x256 (Scalar.ofBits .bf16 0x0000#16)) ∗ hold d arg14 (broadcast S3x4x256x128 (Scalar.ofBits .f32 0x3F800000#32))) -∗ Q ⟨⟩))
    ⊢ wp frame (wpE defs Variants.none (d : Thread nD τ) none) Set.univ (reset arg13 harg13 arg14) Q := by
  unfold hold owns
  iintro ⟨⟨⟨%f13, %h13, H13⟩, ⟨%f14, %h14, H14⟩⟩, Hk⟩
  unfold reset
  sl_exec!
  sl_step
  iapply Hk
  isplitl [H13]
  · iexists _; isplitr; swap; (· iexact H13); ipureintro
    exact (View.read_writes_full _ _ _ _ []).trans (cast_same _ _)
  iexists _; isplitr; swap; (· iexact H14); ipureintro
  exact (View.read_writes_full _ _ _ _ []).trans (cast_same _ _)

set_option maxHeartbeats 1000000 in
theorem head_wp (e : Bool) (w : BitVec 32) (c p1 p2 : Fin 3) (g : Fin 4) (h : Fin 20) (I : Fin 20 → HeadIn F)
    (X6 : FVec F S1x20x256x256 .fp8e4m3) (R12 : FVec F S3x4x256x256 .fp8e4m3) (R13 : FVec F S3x4x256x256 .bf16) (R14 : FVec F S3x4x256x128 .f32)
    (C : FVec F S24x256 .f32) (Y5 : FVec F S1x256x5120 .bf16) (hI : I h = inAt X6 R12 R13 R14 C c p1 p2 g h) (Q : PUnit → sProp 𝕄) :
    iprop((hold d arg5 (upd (mO h.val) (outOf e w I) Y5) ∗ hold d arg6 X6 ∗ hold d arg12 R12 ∗ hold d arg13 R13 ∗ hold d arg14 R14 ∗ hold d arg16 C
        ∗ hold d arg17 (kcombOf R14 c p2 g))
      ∗ ((hold d arg5 (upd (mO (h.val + 1)) (outOf e w I) Y5) ∗ hold d arg6 X6 ∗ hold d arg12 R12 ∗ hold d arg13 R13 ∗ hold d arg14 R14 ∗ hold d arg16 C
        ∗ hold d arg17 (kcombOf R14 c p2 g)) -∗ Q ⟨⟩))
    ⊢ wp frame (wpE defs Variants.none (d : Thread nD τ) none) Set.univ
        (head arg5 harg5 arg6 arg12 arg13 arg14 arg16 arg17 e w c p1 p2 g h) Q := by
  unfold hold owns
  iintro ⟨⟨⟨%f5, %h5, H5⟩, ⟨%f6, %h6, H6⟩, ⟨%f12, %h12, H12⟩, ⟨%f13, %h13, H13⟩, ⟨%f14, %h14, H14⟩, ⟨%f16, %h16, H16⟩, ⟨%f17, %h17, H17⟩⟩, Hk⟩
  unfold head
  sl_exec!
  subst h6; subst h12; subst h13; subst h14; subst h16
  sl_step
  iapply Hk
  isplitl [H5]
  · iexists _; isplitr; swap; (· iexact H5); ipureintro
    refine (View.read_writes_cons_put _ _ _ _ [] rfl).trans ?_
    rw [View.writes_nil, h5]
    refine (congrArg (fun y => VecWindow.put (upd (mO h.val) (outOf e w I) Y5) ![0, 0, 256 * h.val] S1x256x256.size
      (shapeCast S1x256x256 (headOut e w y) shapeCasts_S256x256_S1x256x256)) ?_).trans (out_put e w I Y5 h)
    rw [hI]; unfold inAt
    exact congr (congr (congr (congr (congr (congr (congr (congr (congr (congr (congr (congr (congr (congrArg HeadIn.mk
      (inq_eq _ h (inb_q h))) (inc_eq _ h (inb_ci h))) (slot_eq _ p2 g (inb_ring p2 g))) (slot_eq _ p1 g (inb_ring p1 g))) (slot_eq _ c g (inb_ring c g)))
      ((congrArg (fun X => shapeCast S128x128 (VecWindow.window X _ _ inb_S2x128x128_S1x128x128_0_0_0) _) h17).trans (kc0_eq _ c p2 g inb_S2x128x128_S1x128x128_0_0_0)))
      ((congrArg (fun X => shapeCast S128x128 (VecWindow.window X _ _ inb_S2x128x128_S1x128x128_1_0_0) _) h17).trans (kc1_eq _ c p2 g inb_S2x128x128_S1x128x128_1_0_0)))
      (slotHi_eq _ p2 g (inb_ksHi p2 g))) (slotS_eq _ p1 g (inb_ks p1 g))) (slotS_eq _ p1 g (inb_ks p1 g))) (slotLo_eq _ c g (inb_ksLo c g)))
      (slot_eq _ p2 g (inb_ring p2 g))) (slot_eq _ p1 g (inb_ring p1 g))) (slot_eq _ c g (inb_ring c g))
  isplitl [H6]; · iexists f6; isplitr; · ipureintro; rfl
                  iexact H6
  isplitl [H12]; · iexists f12; isplitr; · ipureintro; rfl
                   iexact H12
  isplitl [H13]; · iexists f13; isplitr; · ipureintro; rfl
                   iexact H13
  isplitl [H14]; · iexists f14; isplitr; · ipureintro; rfl
                   iexact H14
  isplitl [H16]; · iexists f16; isplitr; · ipureintro; rfl
                   iexact H16
  iexists f17; isplitr; · ipureintro; exact h17
  iexact H17

/-- A key/value head's five query heads. -/
theorem group_wp (e : Bool) (w : BitVec 32) (c p1 p2 : Fin 3) (g : Fin 4) (I : Fin 20 → HeadIn F)
    (X6 : FVec F S1x20x256x256 .fp8e4m3) (R12 : FVec F S3x4x256x256 .fp8e4m3) (R13 : FVec F S3x4x256x256 .bf16) (R14 : FVec F S3x4x256x128 .f32)
    (C : FVec F S24x256 .f32) (Y5 : FVec F S1x256x5120 .bf16) (Y17 : FVec F S2x128x128 .f32)
    (hI : ∀ j : Fin 5, I ⟨5 * g.val + j.val, by omega⟩ = inAt X6 R12 R13 R14 C c p1 p2 g ⟨5 * g.val + j.val, by omega⟩) (Q : PUnit → sProp 𝕄) :
    iprop((hold d arg5 (upd (mO (5 * g.val)) (outOf e w I) Y5) ∗ hold d arg6 X6 ∗ hold d arg12 R12 ∗ hold d arg13 R13 ∗ hold d arg14 R14 ∗ hold d arg16 C
        ∗ hold d arg17 Y17)
      ∗ ((hold d arg5 (upd (mO (5 * (g.val + 1))) (outOf e w I) Y5) ∗ hold d arg6 X6 ∗ hold d arg12 R12 ∗ hold d arg13 R13 ∗ hold d arg14 R14 ∗ hold d arg16 C
        ∗ hold d arg17 (kcombOf R14 c p2 g)) -∗ Q ⟨⟩))
    ⊢ wp frame (wpE defs Variants.none (d : Thread nD τ) none) Set.univ
        (group arg5 harg5 arg6 arg12 arg13 arg14 arg16 arg17 e w c p1 p2 g) Q := by
  unfold group
  rw [wp_bind]
  iintro ⟨⟨H5, H6, H12, H13, H14, H16, H17⟩, Hk⟩
  iapply (kcomb_wp arg14 arg17 defs d c p2 g R14 Y17)
  isplitl [H14 H17]; · isplitl [H14]; · iexact H14
                       iexact H17
  iintro ⟨H14, H17⟩
  iapply (upTo_wp defs d (fun j : Fin 5 => head arg5 harg5 arg6 arg12 arg13 arg14 arg16 arg17 e w c p1 p2 g ⟨5 * g.val + j.val, by omega⟩)
    (fun n => iprop(hold d arg5 (upd (mO (5 * g.val + n)) (outOf e w I) Y5) ∗ hold d arg6 X6 ∗ hold d arg12 R12 ∗ hold d arg13 R13 ∗ hold d arg14 R14 ∗ hold d arg16 C
        ∗ hold d arg17 (kcombOf R14 c p2 g)))
    (fun j Q => head_wp arg5 harg5 arg6 arg12 arg13 arg14 arg16 arg17 defs d e w c p1 p2 g ⟨5 * g.val + j.val, by omega⟩ I X6 R12 R13 R14 C Y5 (hI j) Q) 5 (Nat.le_refl 5) Q)
  isplitl [H5 H6 H12 H13 H14 H16 H17]
  · isplitl [H5]; · iexact H5
    isplitl [H6]; · iexact H6
    isplitl [H12]; · iexact H12
    isplitl [H13]; · iexact H13
    isplitl [H14]; · iexact H14
    isplitl [H16]; · iexact H16
    iexact H17
  iexact Hk

/-- What every head reads, given the buffers. -/
def inAll (X6 : FVec F S1x20x256x256 .fp8e4m3) (R12 : FVec F S3x4x256x256 .fp8e4m3) (R13 : FVec F S3x4x256x256 .bf16) (R14 : FVec F S3x4x256x128 .f32)
    (C : FVec F S24x256 .f32) (c p1 p2 : Fin 3) (h : Fin 20) : HeadIn F := inAt X6 R12 R13 R14 C c p1 p2 ⟨h.val / 5, by omega⟩ h

theorem attend_wp (e : Bool) (w : BitVec 32) (c p1 p2 : Fin 3)
    (X6 : FVec F S1x20x256x256 .fp8e4m3) (R12 : FVec F S3x4x256x256 .fp8e4m3) (R13 : FVec F S3x4x256x256 .bf16) (R14 : FVec F S3x4x256x128 .f32)
    (C : FVec F S24x256 .f32) (Y5 : FVec F S1x256x5120 .bf16) (Y17 : FVec F S2x128x128 .f32) (Q : PUnit → sProp 𝕄) :
    iprop((hold d arg5 Y5 ∗ hold d arg6 X6 ∗ hold d arg12 R12 ∗ hold d arg13 R13 ∗ hold d arg14 R14 ∗ hold d arg16 C ∗ hold d arg17 Y17)
      ∗ ((hold d arg5 (outOf e w (inAll X6 R12 R13 R14 C c p1 p2)) ∗ hold d arg6 X6 ∗ hold d arg12 R12 ∗ hold d arg13 R13 ∗ hold d arg14 R14 ∗ hold d arg16 C
        ∗ ∃ Z, hold d arg17 Z) -∗ Q ⟨⟩))
    ⊢ wp frame (wpE defs Variants.none (d : Thread nD τ) none) Set.univ
        (attend arg5 harg5 arg6 arg12 arg13 arg14 arg16 arg17 e w c p1 p2) Q := by
  unfold attend
  iintro ⟨⟨H5, H6, H12, H13, H14, H16, H17⟩, Hk⟩
  iapply (upTo_wp defs d (group arg5 harg5 arg6 arg12 arg13 arg14 arg16 arg17 e w c p1 p2)
    (fun n => iprop(hold d arg5 (upd (mO (5 * n)) (outOf e w (inAll X6 R12 R13 R14 C c p1 p2)) Y5) ∗ hold d arg6 X6 ∗ hold d arg12 R12 ∗ hold d arg13 R13 ∗ hold d arg14 R14 ∗ hold d arg16 C
        ∗ ∃ Z, hold d arg17 Z))
    (fun g Q => by
      iintro ⟨⟨H5, H6, H12, H13, H14, H16, ⟨%Z, H17⟩⟩, Hk⟩
      iapply (group_wp arg5 harg5 arg6 arg12 arg13 arg14 arg16 arg17 defs d e w c p1 p2 g (inAll X6 R12 R13 R14 C c p1 p2) X6 R12 R13 R14 C Y5 Z
        (fun j => by
          have : (⟨(5 * g.val + j.val) / 5, by omega⟩ : Fin 4) = g := Fin.ext (by simp; omega)
          unfold inAll; rw [this]) Q)
      isplitl [H5 H6 H12 H13 H14 H16 H17]
      · isplitl [H5]; · iexact H5
        isplitl [H6]; · iexact H6
        isplitl [H12]; · iexact H12
        isplitl [H13]; · iexact H13
        isplitl [H14]; · iexact H14
        isplitl [H16]; · iexact H16
        iexact H17
      iintro ⟨H5, H6, H12, H13, H14, H16, H17⟩
      iapply Hk
      isplitl [H5]; · iexact H5
      isplitl [H6]; · iexact H6
      isplitl [H12]; · iexact H12
      isplitl [H13]; · iexact H13
      isplitl [H14]; · iexact H14
      isplitl [H16]; · iexact H16
      iexists _; iexact H17) 4 (Nat.le_refl 4) Q)
  rw [show upd (mO (5 * 0)) (outOf e w (inAll X6 R12 R13 R14 C c p1 p2)) Y5 = Y5 from upd_none fun j h => by unfold mO at h; omega,
    show upd (mO (5 * 4)) (outOf e w (inAll X6 R12 R13 R14 C c p1 p2)) Y5 = outOf e w (inAll X6 R12 R13 R14 C c p1 p2) from
      upd_all fun j => by unfold mO; have : (j 2).val < 5120 := (j 2).isLt; omega]
  isplitl [H5 H6 H12 H13 H14 H16 H17]
  · isplitl [H5]; · iexact H5
    isplitl [H6]; · iexact H6
    isplitl [H12]; · iexact H12
    isplitl [H13]; · iexact H13
    isplitl [H14]; · iexact H14
    isplitl [H16]; · iexact H16
    iexists _; iexact H17
  iexact Hk

/-- The rings with the block's slot replaced. -/
def ring12 (c : Fin 3) (K : FVec F S1x256x1024 .bf16) (Y : FVec F S3x4x256x256 .fp8e4m3) : FVec F S3x4x256x256 .fp8e4m3 := upd (mR c 4) (r12Of K) Y
def ring13 (c : Fin 3) (V : FVec F S1x256x1024 .bf16) (Y : FVec F S3x4x256x256 .bf16) : FVec F S3x4x256x256 .bf16 := upd (mR c 4) (r13Of V) Y
def ring14 (c : Fin 3) (K : FVec F S1x256x1024 .bf16) (Y : FVec F S3x4x256x128 .f32) : FVec F S3x4x256x128 .f32 := upd (mS c 4) (r14Of K) Y
/-- The maxima's table of a block. -/
def tabOf (X : FVec F S1x256x5120 .bf16) (K V : FVec F S1x256x1024 .bf16) (Y : FVec F S256x128 .f32) : FVec F S256x128 .f32 :=
  upd (mA 20 4 4) (amaxTab X K V) Y

theorem qHeads_wp (X : FVec F S1x256x5120 .bf16) (K V : FVec F S1x256x1024 .bf16) (Y6 : FVec F S1x20x256x256 .fp8e4m3) (Y15 : FVec F S256x128 .f32)
    (Q : PUnit → sProp 𝕄) :
    iprop((hold d arg2 X ∗ hold d arg6 Y6 ∗ hold d arg15 (upd (mA 0 4 4) (amaxTab X K V) Y15))
      ∗ ((hold d arg2 X ∗ hold d arg6 (qcOf X) ∗ hold d arg15 (tabOf X K V Y15)) -∗ Q ⟨⟩))
    ⊢ wp frame (wpE defs Variants.none (d : Thread nD τ) none) Set.univ (upTo (qHead arg2 arg6 harg6 arg15) 20 (Nat.le_refl 20)) Q := by
  have key := upTo_wp defs d (qHead arg2 arg6 harg6 arg15)
    (fun n => iprop(hold d arg2 X ∗ hold d arg6 (upd (mQ n) (qcOf X) Y6) ∗ hold d arg15 (upd (mA n 4 4) (amaxTab X K V) Y15)))
    (fun h Q => qHead_wp arg2 arg6 harg6 arg15 defs d h X K V Y6 Y15 Q) 20 (Nat.le_refl 20) Q
  dsimp only at key
  rw [show upd (mQ 0) (qcOf X) Y6 = Y6 from upd_none fun j h => by unfold mQ at h; omega,
    show upd (mQ 20) (qcOf X) Y6 = qcOf X from upd_all fun j => (j 1).isLt] at key
  exact key

theorem quantise_wp (lc : F .f32) (c : Fin 3) (X : FVec F S1x256x5120 .bf16) (K V : FVec F S1x256x1024 .bf16) (Y6 : FVec F S1x20x256x256 .fp8e4m3)
    (Y7 : FVec F S1x20x256 .f32) (Y8 Y10 : FVec F S1x256x4x256 .fp8e4m3) (Y9 Y11 : FVec F S1x4x256 .f32)
    (Y12 : FVec F S3x4x256x256 .fp8e4m3) (Y13 : FVec F S3x4x256x256 .bf16) (Y14 : FVec F S3x4x256x128 .f32) (Y15 : FVec F S256x128 .f32)
    (Y16 : FVec F S24x256 .f32) (Q : PUnit → sProp 𝕄) :
    iprop((hold d arg2 X ∗ hold d arg3 K ∗ hold d arg4 V ∗ hold d arg6 Y6 ∗ hold d arg7 Y7 ∗ hold d arg8 Y8 ∗ hold d arg9 Y9 ∗ hold d arg10 Y10 ∗ hold d arg11 Y11
        ∗ hold d arg12 Y12 ∗ hold d arg13 Y13 ∗ hold d arg14 Y14 ∗ hold d arg15 Y15 ∗ hold d arg16 Y16)
      ∗ ((hold d arg2 X ∗ hold d arg3 K ∗ hold d arg4 V ∗ hold d arg6 (qcOf X) ∗ hold d arg7 (sQ (tabOf X K V Y15)) ∗ hold d arg8 (kcOf K)
        ∗ hold d arg9 (sK (tabOf X K V Y15)) ∗ hold d arg10 (kcOf V) ∗ hold d arg11 (sV (tabOf X K V Y15))
        ∗ hold d arg12 (ring12 c K Y12) ∗ hold d arg13 (ring13 c V Y13) ∗ hold d arg14 (ring14 c K Y14) ∗ hold d arg15 (tabOf X K V Y15)
        ∗ hold d arg16 (sC lc (tabOf X K V Y15))) -∗ Q ⟨⟩))
    ⊢ wp frame (wpE defs Variants.none (d : Thread nD τ) none) Set.univ
        (quantise arg2 arg3 arg4 arg6 harg6 arg7 arg8 harg8 arg9 arg10 harg10 arg11 arg12 harg12 arg13 harg13 arg14 arg15 arg16 lc c) Q := by
  unfold quantise
  rw [wp_bind]
  iintro ⟨⟨H2, H3, H4, H6, H7, H8, H9, H10, H11, H12, H13, H14, H15, H16⟩, Hk⟩
  iapply (upTo_wp defs d (kvHead arg3 arg4 arg8 harg8 arg10 harg10 arg12 harg12 arg13 harg13 arg14 arg15 c)
    (fun n => iprop(hold d arg3 K ∗ hold d arg4 V ∗ hold d arg8 (upd (mK n) (kcOf K) Y8) ∗ hold d arg10 (upd (mK n) (kcOf V) Y10)
        ∗ hold d arg12 (upd (mR c n) (r12Of K) Y12) ∗ hold d arg13 (upd (mR c n) (r13Of V) Y13) ∗ hold d arg14 (upd (mS c n) (r14Of K) Y14)
        ∗ hold d arg15 (upd (mA 0 n n) (amaxTab X K V) Y15)))
    (fun h Q => kvHead_wp arg3 arg4 arg8 harg8 arg10 harg10 arg12 harg12 arg13 harg13 arg14 arg15 defs d c h X K V Y8 Y10 Y12 Y13 Y14 Y15 Q) 4 (Nat.le_refl 4) _)
  rw [show upd (mK 0) (kcOf K) Y8 = Y8 from upd_none fun j h => by unfold mK at h; omega,
    show upd (mK 0) (kcOf V) Y10 = Y10 from upd_none fun j h => by unfold mK at h; omega,
    show upd (mR c 0) (r12Of K) Y12 = Y12 from upd_none fun j h => by unfold mR at h; omega,
    show upd (mR c 0) (r13Of V) Y13 = Y13 from upd_none fun j h => by unfold mR at h; omega,
    show upd (mS c 0) (r14Of K) Y14 = Y14 from upd_none fun j h => by unfold mS at h; omega,
    show upd (mA 0 0 0) (amaxTab X K V) Y15 = Y15 from upd_none fun j h => by unfold mA at h; omega,
    show upd (mK 4) (kcOf K) Y8 = kcOf K from upd_all fun j => (j 2).isLt,
    show upd (mK 4) (kcOf V) Y10 = kcOf V from upd_all fun j => (j 2).isLt]
  isplitl [H3 H4 H8 H10 H12 H13 H14 H15]
  · isplitl [H3]; · iexact H3
    isplitl [H4]; · iexact H4
    isplitl [H8]; · iexact H8
    isplitl [H10]; · iexact H10
    isplitl [H12]; · iexact H12
    isplitl [H13]; · iexact H13
    isplitl [H14]; · iexact H14
    iexact H15
  iintro ⟨H3, H4, H8, H10, H12, H13, H14, H15⟩
  rw [wp_bind]
  iapply (qHeads_wp arg2 arg6 harg6 arg15 defs d X K V Y6 Y15 _)
  isplitl [H2 H6 H15]
  · isplitl [H2]; · iexact H2
    isplitl [H6]; · iexact H6
    iexact H15
  iintro ⟨H2, H6, H15⟩
  iapply (scales_wp arg7 arg9 arg11 arg15 arg16 defs d lc (tabOf X K V Y15) Y7 Y9 Y11 Y16 Q)
  isplitl [H7 H9 H11 H15 H16]
  · isplitl [H7]; · iexact H7
    isplitl [H9]; · iexact H9
    isplitl [H11]; · iexact H11
    isplitl [H15]; · iexact H15
    iexact H16
  iintro ⟨H7, H9, H11, H15, H16⟩
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Heads

end Cert.Gqa
end
-- ==== Proof.Point.lean ====
/-
  One grid point: the body from the buffers at something and the rings as the points before left them, to every result
  block as a function of the point's blocks and the two points' before it.
-/
module

public import proofs.«01_k».proof.Proof.Triples

@[expose] public section

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The scales of a block, whatever the table's other columns hold -/

/-- A shape of one element, to name scalars as vectors. -/
abbrev S0 : Shape := ⟨0, ![]⟩
/-- One element's scale. -/
def scale1 (t : F .f32) : F .f32 := scaleOf (s := S0) (fun _ => t) (fun a => a.elim0)

theorem expStep_at {s : Shape} (t : FVec F s .f32) (k : BitVec 32) (b : IVec s 32) (i : s.Idx) :
    expStep t k b i = expStep (s := S0) (fun _ => t i) k (fun _ => b i) (fun a => a.elim0) := rfl
theorem expStep_fun (t : F .f32) (k : BitVec 32) (b : IVec S0 32) : expStep (s := S0) (fun _ => t) k b = fun _ => expStep (s := S0) (fun _ => t) k b (fun a => a.elim0) :=
  funext fun j => by rw [show j = fun a => a.elim0 from funext fun a => a.elim0]
theorem expBits_at {s : Shape} (t : FVec F s .f32) (i : s.Idx) : expBits t i = expBits (s := S0) (fun _ => t i) (fun a => a.elim0) := by
  unfold expBits
  have step : ∀ (k : BitVec 32) (b : IVec s 32) (b' : IVec S0 32), (fun _ => b i) = b' → (fun _ : S0.Idx => expStep t k b i) = expStep (s := S0) (fun _ => t i) k b' := by
    intro k b b' h; subst h; rw [expStep_fun]; exact funext fun _ => expStep_at t k b i
  exact congrFun (step _ _ _ (step _ _ _ (step _ _ _ (step _ _ _ (step _ _ _ (step _ _ _ (step _ _ _ (step _ _ _ rfl)))))))) (fun a => a.elim0)
theorem expOf_at {s : Shape} (t : FVec F s .f32) (i : s.Idx) : expOf t i = expOf (s := S0) (fun _ => t i) (fun a => a.elim0) := by
  show Scalar.select _ _ (IntOp.subi (expBits t i) _) = Scalar.select _ _ (IntOp.subi (expBits (s := S0) (fun _ => t i) _) _)
  rw [expBits_at]; rfl
theorem pow_at {s : Shape} (e : IVec s 32) (i : s.Idx) :
    bitcastToFloat (F := F) .f32 (shli (addi e (broadcast s 127#32)) (broadcast s 23#32)) i
      = bitcastToFloat (F := F) .f32 (shli (addi (fun _ : S0.Idx => e i) (broadcast S0 127#32)) (broadcast S0 23#32)) (fun a => a.elim0) := rfl
theorem scaleOf_at {s : Shape} (a : FVec F s .f32) (i : s.Idx) : scaleOf a i = scale1 (a i) := by
  unfold scale1 scaleOf
  rw [pow_at]
  have e : expOf (over448 a) i = expOf (s := S0) (over448 fun _ => a i) (fun a => a.elim0) := expOf_at _ _
  rw [e]
  have e' : (fun _ : S0.Idx => expOf (s := S0) (over448 fun _ => a i) (fun a => a.elim0)) = expOf (s := S0) (over448 fun _ => a i) :=
    funext fun j => congrArg _ (funext fun a => a.elim0)
  rw [e']

/-- The query scales; -/
def qsOf (X : FVec F S1x256x5120 .bf16) : FVec F S1x20x256 .f32 := fun j => scale1 (amaxOf (xh X (j 1)) (ix2 (j 2) 0))
/-- the key or value scales. -/
def ksOf (X : FVec F S1x256x1024 .bf16) : FVec F S1x4x256 .f32 := fun j => scale1 (amaxOf (kh X (j 1)) (ix2 (j 2) 0))

theorem scaleTable_at (A : FVec F S256x128 .f32) (r : Fin 32) (i : Fin 256) : scaleTable A (ix2 r i) = scale1 (A (ix2 i ⟨r.val, by omega⟩)) := by
  unfold scaleTable
  rw [scaleOf_at]
  pointwise

theorem tab_at (X : FVec F S1x256x5120 .bf16) (K V : FVec F S1x256x1024 .bf16) (Y : FVec F S256x128 .f32) (i : Fin 256) (r : Fin 128) (h : r.val < 28) :
    tabOf X K V Y (ix2 i r) = amaxTab X K V (ix2 i r) := upd_of (by unfold mA; simp; omega)

theorem sQ_tab (X : FVec F S1x256x5120 .bf16) (K V : FVec F S1x256x1024 .bf16) (Y : FVec F S256x128 .f32) : sQ (tabOf X K V Y) = qsOf X := by
  funext j
  obtain ⟨j0, j1, j2, rfl⟩ : ∃ (a : Fin 1) (b : Fin 20) (c : Fin 256), j = ix3 a b c := ⟨j 0, j 1, j 2, eq_ix3 j⟩
  have e : sQ (tabOf X K V Y) (ix3 j0 j1 j2) = scaleTable (tabOf X K V Y) (ix2 ⟨j1.val, by omega⟩ j2) := by
    unfold sQ; pointwise
  rw [e, scaleTable_at, tab_at _ _ _ _ _ _ (by simp; omega)]
  unfold amaxTab qsOf
  rw [dif_pos (show ((ix2 j2 (⟨j1.val, by omega⟩ : Fin 128) : S256x128.Idx) 1).val < 20 from j1.isLt)]
  rfl
theorem sK_tab (X : FVec F S1x256x5120 .bf16) (K V : FVec F S1x256x1024 .bf16) (Y : FVec F S256x128 .f32) : sK (tabOf X K V Y) = ksOf K := by
  funext j
  obtain ⟨j0, j1, j2, rfl⟩ : ∃ (a : Fin 1) (b : Fin 4) (c : Fin 256), j = ix3 a b c := ⟨j 0, j 1, j 2, eq_ix3 j⟩
  have e : sK (tabOf X K V Y) (ix3 j0 j1 j2) = scaleTable (tabOf X K V Y) (ix2 ⟨20 + j1.val, by omega⟩ j2) := by
    unfold sK; pointwise
  rw [e, scaleTable_at, tab_at _ _ _ _ _ _ (by simp; omega)]
  unfold amaxTab ksOf
  have e1 : ((ix2 j2 (⟨20 + j1.val, by omega⟩ : Fin 128) : S256x128.Idx) 1).val = 20 + j1.val := rfl
  rw [dif_neg (by rw [e1]; omega), dif_pos (by rw [e1]; omega)]
  have : (⟨((ix2 j2 (⟨20 + j1.val, by omega⟩ : Fin 128) : S256x128.Idx) 1).val - 20, by rw [e1]; omega⟩ : Fin 4) = j1 := Fin.ext (by simp only [e1]; omega)
  rw [this]; rfl
theorem sV_tab (X : FVec F S1x256x5120 .bf16) (K V : FVec F S1x256x1024 .bf16) (Y : FVec F S256x128 .f32) : sV (tabOf X K V Y) = ksOf V := by
  funext j
  obtain ⟨j0, j1, j2, rfl⟩ : ∃ (a : Fin 1) (b : Fin 4) (c : Fin 256), j = ix3 a b c := ⟨j 0, j 1, j 2, eq_ix3 j⟩
  have e : sV (tabOf X K V Y) (ix3 j0 j1 j2) = scaleTable (tabOf X K V Y) (ix2 ⟨24 + j1.val, by omega⟩ j2) := by
    unfold sV; pointwise
  rw [e, scaleTable_at, tab_at _ _ _ _ _ _ (by simp; omega)]
  unfold amaxTab ksOf
  have e1 : ((ix2 j2 (⟨24 + j1.val, by omega⟩ : Fin 128) : S256x128.Idx) 1).val = 24 + j1.val := rfl
  rw [dif_neg (by rw [e1]; omega), dif_neg (by rw [e1]; omega), dif_pos (by rw [e1]; omega)]
  have : (⟨((ix2 j2 (⟨24 + j1.val, by omega⟩ : Fin 128) : S256x128.Idx) 1).val - 24, by rw [e1]; omega⟩ : Fin 4) = j1 := Fin.ext (by simp only [e1]; omega)
  rw [this]; rfl
theorem sC_tab (lc : F .f32) (X : FVec F S1x256x5120 .bf16) (K V : FVec F S1x256x1024 .bf16) (Y : FVec F S256x128 .f32) (h : Fin 20) (i : Fin 256) :
    sC lc (tabOf X K V Y) (ix2 ⟨h.val, by omega⟩ i) = FloatOps.mulf (scale1 (amaxOf (xh X h) (ix2 i 0))) lc := by
  have e : sC lc (tabOf X K V Y) (ix2 ⟨h.val, by omega⟩ i) = FloatOps.mulf (scaleTable (tabOf X K V Y) (ix2 ⟨h.val, by omega⟩ i)) lc := by
    unfold sC; pointwise
  rw [e, scaleTable_at, tab_at _ _ _ _ _ _ (by simp; omega)]
  unfold amaxTab
  rw [dif_pos (show ((ix2 i (⟨h.val, by omega⟩ : Fin 128) : S256x128.Idx) 1).val < 20 from h.isLt)]
  rfl

/-! ### The blocks in the rings -/

section Points
variable (bx : ℕ → FVec F S1x256x5120 .bf16) (bk bv : ℕ → FVec F S1x256x1024 .bf16)

/-- The key codes, values and key scales of the block `j` before point `n`, which is its sequence's `qi`-th: before the
    sequence, no codes, no values, unit scales. -/
def kAt (n qi j : ℕ) (g : Fin 4) : FVec F S256x256 .fp8e4m3 :=
  if j ≤ qi then codesOf (kh (bk (n - j)) g) else broadcast S256x256 (Scalar.ofBits .fp8e4m3 0x00#8)
def vAt (n qi j : ℕ) (g : Fin 4) : FVec F S256x256 .bf16 :=
  if j ≤ qi then vringOf (kh (bv (n - j)) g) else broadcast S256x256 (Scalar.ofBits .bf16 0x0000#16)
def sAt (n qi j : ℕ) (g : Fin 4) : FVec F S256x128 .f32 :=
  if j ≤ qi then kscaleOf (kh (bk (n - j)) g) else broadcast S256x128 (Scalar.ofBits .f32 0x3F800000#32)

/-- The rings hold the two blocks before point `n`. -/
def Good (n qi : ℕ) (R12 : FVec F S3x4x256x256 .fp8e4m3) (R13 : FVec F S3x4x256x256 .bf16) (R14 : FVec F S3x4x256x128 .f32) : Prop :=
  ∀ (j : ℕ) (s : Fin 3) (g : Fin 4), (j = 1 ∨ j = 2) → s.val = (qi + (3 - j)) % 3 →
    (j ≤ qi → slot R12 s g = kAt bk n qi j g) ∧ slot R13 s g = vAt bv n qi j g ∧ slotS R14 s g = sAt bk n qi j g

/-- The reset makes the rings good at a sequence's first point. -/
theorem good_reset (n : ℕ) (R12 : FVec F S3x4x256x256 .fp8e4m3) :
    Good bk bv n 0 R12 (broadcast S3x4x256x256 (Scalar.ofBits .bf16 0x0000#16)) (broadcast S3x4x256x128 (Scalar.ofBits .f32 0x3F800000#32)) := by
  intro j s g hj _
  refine ⟨fun h => by omega, ?_, ?_⟩
  · unfold vAt; rw [if_neg (by omega)]; rfl
  · unfold sAt; rw [if_neg (by omega)]; rfl

theorem slot_upd_same {α : Type} (c : Fin 3) (G Y : S3x4x256x256.Idx → α) (g : Fin 4) : slot (upd (mR c 4) G Y) c g = slot G c g :=
  funext fun _ => upd_of ⟨rfl, g.isLt⟩
theorem slot_upd_ne {α : Type} (c s : Fin 3) (h : s.val ≠ c.val) (G Y : S3x4x256x256.Idx → α) (g : Fin 4) : slot (upd (mR c 4) G Y) s g = slot Y s g :=
  funext fun _ => upd_not fun hm => h hm.1
theorem slotS_upd_same (c : Fin 3) (G Y : FVec F S3x4x256x128 .f32) (g : Fin 4) : slotS (upd (mS c 4) G Y) c g = slotS G c g :=
  funext fun _ => upd_of ⟨rfl, g.isLt⟩
theorem slotS_upd_ne (c s : Fin 3) (h : s.val ≠ c.val) (G Y : FVec F S3x4x256x128 .f32) (g : Fin 4) : slotS (upd (mS c 4) G Y) s g = slotS Y s g :=
  funext fun _ => upd_not fun hm => h hm.1

theorem slot_r12 (K : FVec F S1x256x1024 .bf16) (c : Fin 3) (g : Fin 4) : slot (r12Of K) c g = codesOf (kh K g) :=
  funext fun j => congrArg (codesOf (kh K g)) (eq_ix2 j).symm
theorem slot_r13 (K : FVec F S1x256x1024 .bf16) (c : Fin 3) (g : Fin 4) : slot (r13Of K) c g = vringOf (kh K g) :=
  funext fun j => congrArg (vringOf (kh K g)) (eq_ix2 j).symm
theorem slot_r14 (K : FVec F S1x256x1024 .bf16) (c : Fin 3) (g : Fin 4) : slotS (r14Of K) c g = kscaleOf (kh K g) :=
  funext fun j => congrArg (kscaleOf (kh K g)) (eq_ix2 j).symm

/-- A point leaves the rings good for the next of its sequence. -/
theorem good_next (n qi : ℕ) (c : Fin 3) (hc : c.val = qi % 3) (R12 : FVec F S3x4x256x256 .fp8e4m3) (R13 : FVec F S3x4x256x256 .bf16) (R14 : FVec F S3x4x256x128 .f32)
    (hG : Good bk bv n qi R12 R13 R14) : Good bk bv (n + 1) (qi + 1) (ring12 c (bk n) R12) (ring13 c (bv n) R13) (ring14 c (bk n) R14) := by
  intro j s g hj hs
  rcases hj with rfl | rfl
  · have e : s = c := Fin.ext (by omega)
    subst e
    unfold ring12 ring13 ring14
    rw [slot_upd_same, slot_upd_same, slotS_upd_same, slot_r12, slot_r13, slot_r14]
    unfold kAt vAt sAt
    rw [if_pos (by omega), if_pos (by omega), if_pos (by omega), Nat.add_sub_cancel]
    exact ⟨fun _ => rfl, rfl, rfl⟩
  · have ne : s.val ≠ c.val := by omega
    unfold ring12 ring13 ring14
    rw [slot_upd_ne _ _ ne, slot_upd_ne _ _ ne, slotS_upd_ne _ _ ne]
    obtain ⟨h1, h2, h3⟩ := hG 1 s g (.inl rfl) (by omega)
    have e1 : n + 1 - 2 = n - 1 := by omega
    have e2 : (2 ≤ qi + 1) = (1 ≤ qi) := propext (by omega)
    have eK : kAt bk (n + 1) (qi + 1) 2 g = kAt bk n qi 1 g := by unfold kAt; simp only [e1, e2]
    have eV : vAt bv (n + 1) (qi + 1) 2 g = vAt bv n qi 1 g := by unfold vAt; simp only [e1, e2]
    have eS : sAt bk (n + 1) (qi + 1) 2 g = sAt bk n qi 1 g := by unfold sAt; simp only [e1, e2]
    rw [eK, eV, eS]
    exact ⟨fun h => h1 (by omega), h2, h3⟩

/-- The upper and the lower half of a block's scales. -/
def loS (S : FVec F S256x128 .f32) : FVec F S128x128 .f32 := fun j => S (ix2 ⟨(j 0).val, by have : (j 0).val < 128 := (j 0).isLt; omega⟩ (j 1))
def hiS (S : FVec F S256x128 .f32) : FVec F S128x128 .f32 := fun j => S (ix2 ⟨128 + (j 0).val, by have : (j 0).val < 128 := (j 0).isLt; omega⟩ (j 1))

/-- What one head reads at point `n`. -/
def headAt (lc : F .f32) (n qi : ℕ) (h : Fin 20) : HeadIn F where
  q := codesOf (xh (bx n) h)
  ci := fun j => FloatOps.mulf (scale1 (amaxOf (xh (bx n) h) (ix2 (j 1) 0))) lc
  k2 := kAt bk n qi 2 ⟨h.val / 5, by omega⟩
  k1 := kAt bk n qi 1 ⟨h.val / 5, by omega⟩
  k0 := kAt bk n qi 0 ⟨h.val / 5, by omega⟩
  kc0 := select causal (loS (sAt bk n qi 0 ⟨h.val / 5, by omega⟩)) (loS (sAt bk n qi 2 ⟨h.val / 5, by omega⟩))
  kc1 := select causal (hiS (sAt bk n qi 0 ⟨h.val / 5, by omega⟩)) (hiS (sAt bk n qi 2 ⟨h.val / 5, by omega⟩))
  ks2 := hiS (sAt bk n qi 2 ⟨h.val / 5, by omega⟩)
  ks1 := sAt bk n qi 1 ⟨h.val / 5, by omega⟩
  ks1' := sAt bk n qi 1 ⟨h.val / 5, by omega⟩
  ks0 := loS (sAt bk n qi 0 ⟨h.val / 5, by omega⟩)
  v2 := vAt bv n qi 2 ⟨h.val / 5, by omega⟩
  v1 := vAt bv n qi 1 ⟨h.val / 5, by omega⟩
  v0 := vAt bv n qi 0 ⟨h.val / 5, by omega⟩

theorem slotLo_loS (R : FVec F S3x4x256x128 .f32) (s : Fin 3) (g : Fin 4) : slotLo R s g = loS (slotS R s g) := rfl
theorem slotHi_hiS (R : FVec F S3x4x256x128 .f32) (s : Fin 3) (g : Fin 4) : slotHi R s g = hiS (slotS R s g) := rfl

/-- The rings read by a head are those blocks, but for the key codes before the sequence. -/
theorem inAll_eq (lc : F .f32) (n qi : ℕ) (c p1 p2 : Fin 3) (hc : c.val = qi % 3) (h1 : p1.val = (qi + 2) % 3) (h2 : p2.val = (qi + 1) % 3)
    (R12 : FVec F S3x4x256x256 .fp8e4m3) (R13 : FVec F S3x4x256x256 .bf16) (R14 : FVec F S3x4x256x128 .f32) (hG : Good bk bv n qi R12 R13 R14)
    (Y15 : FVec F S256x128 .f32) (h : Fin 20) :
    ∃ A2 A1, (2 ≤ qi → A2 = kAt bk n qi 2 ⟨h.val / 5, by omega⟩) ∧ (1 ≤ qi → A1 = kAt bk n qi 1 ⟨h.val / 5, by omega⟩) ∧
      inAll (qcOf (bx n)) (ring12 c (bk n) R12) (ring13 c (bv n) R13) (ring14 c (bk n) R14) (sC lc (tabOf (bx n) (bk n) (bv n) Y15)) c p1 p2 h
        = { headAt bx bk bv lc n qi h with k2 := A2, k1 := A1 } := by
  have n1 : p1.val ≠ c.val := by omega
  have n2 : p2.val ≠ c.val := by omega
  obtain ⟨a1, b1, c1⟩ := hG 1 p1 ⟨h.val / 5, by omega⟩ (.inl rfl) (by omega)
  obtain ⟨a2, b2, c2⟩ := hG 2 p2 ⟨h.val / 5, by omega⟩ (.inr rfl) (by omega)
  refine ⟨slot R12 p2 ⟨h.val / 5, by omega⟩, slot R12 p1 ⟨h.val / 5, by omega⟩, a2, a1, ?_⟩
  have k0 : kAt bk n qi 0 ⟨h.val / 5, by omega⟩ = codesOf (kh (bk n) ⟨h.val / 5, by omega⟩) := if_pos (Nat.zero_le _)
  have v0 : vAt bv n qi 0 ⟨h.val / 5, by omega⟩ = vringOf (kh (bv n) ⟨h.val / 5, by omega⟩) := if_pos (Nat.zero_le _)
  have s0 : sAt bk n qi 0 ⟨h.val / 5, by omega⟩ = kscaleOf (kh (bk n) ⟨h.val / 5, by omega⟩) := if_pos (Nat.zero_le _)
  have q0 : (fun j : S256x256.Idx => qcOf (bx n) (ix4 0 h (j 0) (j 1))) = codesOf (xh (bx n) h) :=
    funext fun j => congrArg (codesOf (xh (bx n) h)) (eq_ix2 j).symm
  unfold inAll inAt ring12 ring13 ring14 headAt
  simp only [slotLo_loS, slotHi_hiS, slot_upd_same, slot_upd_ne _ _ n1, slot_upd_ne _ _ n2, slotS_upd_same, slotS_upd_ne _ _ n1, slotS_upd_ne _ _ n2,
    slot_r12, slot_r13, slot_r14, b1, b2, c1, c2, k0, v0, s0, q0]
  have ci : (fun j : S1x256.Idx => sC lc (tabOf (bx n) (bk n) (bv n) Y15) (ix2 ⟨h.val, by omega⟩ (j 1)))
      = fun j => FloatOps.mulf (scale1 (amaxOf (xh (bx n) h) (ix2 (j 1) 0))) lc := funext fun j => sC_tab lc _ _ _ _ h (j 1)
  exact congrArg (fun y : FVec F S1x256 .f32 => HeadIn.mk (codesOf (xh (bx n) h)) y _ _ _ _ _ _ _ _ _ _ _ _) ci

/-! ### The edge -/

theorem edge_in (w : BitVec 32) (k : BitVec 32) (s : FVec F S256x256 .f32) (h : Scalar.cmpi .sge w k = 1#1) (e : Bool) : edgeSel e w k s = s := by
  cases e
  · rfl
  · show Scalar.select _ _ _ = _; rw [h]; rfl
theorem edge_out (w : BitVec 32) (k : BitVec 32) (s s' : FVec F S256x256 .f32) (h : Scalar.cmpi .sge w k ≠ 1#1) : edgeSel true w k s = edgeSel true w k s' := by
  show Scalar.select _ _ _ = Scalar.select _ _ _
  unfold Scalar.select; exact (if_neg h).trans (if_neg h).symm

/-- The head's result takes the key codes only where the scores are kept. -/
theorem headOut_congr (e e' : Bool) (w : BitVec 32) (x : HeadIn F) (A2 A1 : FVec F S256x256 .fp8e4m3)
    (h2 : sc2 e w { x with k2 := A2, k1 := A1 } = sc2 e' w x) (h1 : sc1 e w { x with k2 := A2, k1 := A1 } = sc1 e' w x) :
    headOut e w { x with k2 := A2, k1 := A1 } = headOut e' w x := by
  have tA : triA e w { x with k2 := A2, k1 := A1 } = triA e' w x := by unfold triA; rw [h2]; rfl
  have mA' : midA e w { x with k2 := A2, k1 := A1 } = midA e' w x := by unfold midA; rw [h2]
  have fA : fullA e w { x with k2 := A2, k1 := A1 } = fullA e' w x := by unfold fullA; rw [h1]
  have tB : triB e w { x with k2 := A2, k1 := A1 } = triB e' w x := by unfold triB; rw [h2]; rfl
  have fB : fullB e w { x with k2 := A2, k1 := A1 } = fullB e' w x := by unfold fullB; rw [h1]
  have sA' : shA e w { x with k2 := A2, k1 := A1 } = shA e' w x := by unfold shA; rw [tA, mA', fA]; rfl
  have sB : shB e w { x with k2 := A2, k1 := A1 } = shB e' w x := by unfold shB; rw [tB, fB]; rfl
  have pA : pTriA e w { x with k2 := A2, k1 := A1 } = pTriA e' w x := by unfold pTriA; rw [tA, sA']; rfl
  have qA : pMidA e w { x with k2 := A2, k1 := A1 } = pMidA e' w x := by unfold pMidA; rw [mA', sA']; rfl
  have rA : pFullA e w { x with k2 := A2, k1 := A1 } = pFullA e' w x := by unfold pFullA; rw [fA, sA']; rfl
  have pB : pTriB e w { x with k2 := A2, k1 := A1 } = pTriB e' w x := by unfold pTriB; rw [tB, sB]; rfl
  have qB : pMidB e w { x with k2 := A2, k1 := A1 } = pMidB e' w x := by unfold pMidB; rw [sB]; rfl
  have rB : pFullB e w { x with k2 := A2, k1 := A1 } = pFullB e' w x := by unfold pFullB; rw [fB, sB]; rfl
  unfold headOut w2 w1 w0 invA invB
  rw [pA, qA, rA, pB, qB, rB]

theorem sge_word (qi k : ℕ) (hq : qi < 48) (hk : k < 3) : Scalar.cmpi .sge (BitVec.ofNat 32 qi) (BitVec.ofNat 32 k) = 1#1 ↔ k ≤ qi := by
  interval_cases k <;> (revert qi; decide)

theorem headOut_edge (lc : F .f32) (n qi : ℕ) (hq : qi < 48) (e : Bool) (he : e = false → 2 ≤ qi) (h : Fin 20) (A2 A1 : FVec F S256x256 .fp8e4m3)
    (h2 : 2 ≤ qi → A2 = kAt bk n qi 2 ⟨h.val / 5, by omega⟩) (h1 : 1 ≤ qi → A1 = kAt bk n qi 1 ⟨h.val / 5, by omega⟩) :
    headOut e (BitVec.ofNat 32 qi) { headAt bx bk bv lc n qi h with k2 := A2, k1 := A1 } = headOut true (BitVec.ofNat 32 qi) (headAt bx bk bv lc n qi h) := by
  apply headOut_congr
  · unfold sc2
    by_cases hq2 : 2 ≤ qi
    · rw [edge_in _ _ _ ((sge_word qi 2 hq (by omega)).mpr hq2), edge_in _ _ _ ((sge_word qi 2 hq (by omega)).mpr hq2), h2 hq2]; rfl
    · have : e = true := by cases e; exact absurd (he rfl) hq2; rfl
      subst this
      exact edge_out _ _ _ _ (fun hc => hq2 ((sge_word qi 2 hq (by omega)).mp hc))
  · unfold sc1
    by_cases hq2 : 1 ≤ qi
    · rw [edge_in _ _ _ ((sge_word qi 1 hq (by omega)).mpr hq2), edge_in _ _ _ ((sge_word qi 1 hq (by omega)).mpr hq2), h1 hq2]; rfl
    · have : e = true := by cases e; exact absurd (he rfl) (by omega); rfl
      subst this
      exact edge_out _ _ _ _ (fun hc => hq2 ((sge_word qi 1 hq (by omega)).mp hc))

/-- The block of results at point `n`. -/
def outAt (lc : F .f32) (n qi : ℕ) : FVec F S1x256x5120 .bf16 := outOf true (BitVec.ofNat 32 qi) (headAt bx bk bv lc n qi)

theorem outOf_eq (lc : F .f32) (n qi : ℕ) (hq : qi < 48) (e : Bool) (he : e = false → 2 ≤ qi)
    (c p1 p2 : Fin 3) (hc : c.val = qi % 3) (h1 : p1.val = (qi + 2) % 3) (h2 : p2.val = (qi + 1) % 3)
    (R12 : FVec F S3x4x256x256 .fp8e4m3) (R13 : FVec F S3x4x256x256 .bf16) (R14 : FVec F S3x4x256x128 .f32) (hG : Good bk bv n qi R12 R13 R14)
    (Y15 : FVec F S256x128 .f32) :
    outOf e (BitVec.ofNat 32 qi) (inAll (qcOf (bx n)) (ring12 c (bk n) R12) (ring13 c (bv n) R13) (ring14 c (bk n) R14) (sC lc (tabOf (bx n) (bk n) (bv n) Y15)) c p1 p2)
      = outAt bx bk bv lc n qi := by
  funext j
  unfold outAt outOf
  obtain ⟨A2, A1, a2, a1, e'⟩ := inAll_eq bx bk bv lc n qi c p1 p2 hc h1 h2 R12 R13 R14 hG Y15 ⟨(j 2).val / 256, by have : (j 2).val < 5120 := (j 2).isLt; omega⟩
  rw [e', headOut_edge bx bk bv lc n qi hq e he _ A2 A1 a2 a1]

end Points

end Cert.Gqa
end
-- ==== Proof.PointRun.lean ====
/-
  A grid point's body run: the reset at a sequence's first point, the quantised heads, the scales, and one of the two
  branches, from the point's blocks in the inputs' buffers and the rings good, to the results' blocks and the rings good.
-/
module

public import proofs.«01_k».proof.Proof.Point

@[expose] public section

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] upTo quantise attend

variable {F : FTy → Type} [FloatOps F]
variable {nD : Nat} {τ : Topo} {sig : RefSig} {Λ : Labels}
local notation "𝕄" => MT nD τ sig Unit (Elt F) ℕ (UR sig nD τ) ℕ

theorem bind_eq {E : Type → Type} (p : Prog E PUnit) (k : PUnit → Prog E PUnit) : p.bind k = p >>= k := rfl

variable (arg2 : Memref sig .tc .vmem S1x256x5120 .bf16) (arg3 : Memref sig .tc .vmem S1x256x1024 .bf16) (arg4 : Memref sig .tc .vmem S1x256x1024 .bf16) (arg5 : Memref sig .tc .vmem S1x256x5120 .bf16) (harg5 : arg5.IsWhole) (arg6 : Memref sig .tc .vmem S1x20x256x256 .fp8e4m3) (harg6 : arg6.IsWhole) (arg7 : Memref sig .tc .vmem S1x20x256 .f32) (arg8 : Memref sig .tc .vmem S1x256x4x256 .fp8e4m3) (harg8 : arg8.IsWhole) (arg9 : Memref sig .tc .vmem S1x4x256 .f32) (arg10 : Memref sig .tc .vmem S1x256x4x256 .fp8e4m3) (harg10 : arg10.IsWhole) (arg11 : Memref sig .tc .vmem S1x4x256 .f32) (arg12 : Memref sig .tc .vmem S3x4x256x256 .fp8e4m3) (harg12 : arg12.IsWhole) (arg13 : Memref sig .tc .vmem S3x4x256x256 .bf16) (harg13 : arg13.IsWhole) (arg14 : Memref sig .tc .vmem S3x4x256x128 .f32) (arg15 : Memref sig .tc .vmem S256x128 .f32) (arg16 : Memref sig .tc .vmem S24x256 .f32) (arg17 : Memref sig .tc .vmem S2x128x128 .f32)
  (defs : Defs nD τ sig (Elt F) Λ) (d : Dev nD)

set_option maxHeartbeats 1000000 in
/-- After the reset: which of the two branches runs is `e`. -/
theorem rest_wp (lc : F .f32) (e : Bool) (w : BitVec 32) (c p1 p2 : Fin 3) (b2 b3 : BitVec 1)
    (he : (e = false ∧ b2 = 1#1 ∧ ¬ b3 = 1#1) ∨ (e = true ∧ ¬ b2 = 1#1 ∧ b3 = 1#1))
    (X : FVec F S1x256x5120 .bf16) (K V : FVec F S1x256x1024 .bf16) (Y5 : FVec F S1x256x5120 .bf16) (Y6 : FVec F S1x20x256x256 .fp8e4m3) (Y7 : FVec F S1x20x256 .f32) (Y8 : FVec F S1x256x4x256 .fp8e4m3) (Y9 : FVec F S1x4x256 .f32) (Y10 : FVec F S1x256x4x256 .fp8e4m3) (Y11 : FVec F S1x4x256 .f32) (Y12 : FVec F S3x4x256x256 .fp8e4m3) (Y13 : FVec F S3x4x256x256 .bf16) (Y14 : FVec F S3x4x256x128 .f32) (Y15 : FVec F S256x128 .f32) (Y16 : FVec F S24x256 .f32) (Y17 : FVec F S2x128x128 .f32) (Q : PUnit → sProp 𝕄) :
    iprop((hold d arg2 X ∗ hold d arg3 K ∗ hold d arg4 V ∗ hold d arg5 Y5 ∗ hold d arg6 Y6 ∗ hold d arg7 Y7 ∗ hold d arg8 Y8 ∗ hold d arg9 Y9 ∗ hold d arg10 Y10 ∗ hold d arg11 Y11 ∗ hold d arg12 Y12 ∗ hold d arg13 Y13 ∗ hold d arg14 Y14 ∗ hold d arg15 Y15 ∗ hold d arg16 Y16 ∗ hold d arg17 Y17)
      ∗ ((hold d arg2 X ∗ hold d arg3 K ∗ hold d arg4 V ∗ hold d arg5 (outOf e w (inAll (qcOf X) (ring12 c K Y12) (ring13 c V Y13) (ring14 c K Y14) (sC lc (tabOf X K V Y15)) c p1 p2)) ∗ hold d arg6 (qcOf X) ∗ hold d arg7 (qsOf X) ∗ hold d arg8 (kcOf K) ∗ hold d arg9 (ksOf K) ∗ hold d arg10 (kcOf V) ∗ hold d arg11 (ksOf V) ∗ hold d arg12 (ring12 c K Y12) ∗ hold d arg13 (ring13 c V Y13) ∗ hold d arg14 (ring14 c K Y14) ∗ (∃ Z, hold d arg15 Z) ∗ (∃ Z, hold d arg16 Z) ∗ ∃ Z, hold d arg17 Z) -∗ Q ⟨⟩))
    ⊢ wp frame (wpE defs Variants.none (d : Thread nD τ) none) Set.univ (rest arg2 arg3 arg4 arg5 harg5 arg6 harg6 arg7 arg8 harg8 arg9 arg10 harg10 arg11 arg12 harg12 arg13 harg13 arg14 arg15 arg16 arg17 lc w c p1 p2 b2 b3) Q := by
  rw [rest_eq]; simp only [bind_eq]; rw [wp_bind]
  iintro ⟨⟨H2, H3, H4, H5, H6, H7, H8, H9, H10, H11, H12, H13, H14, H15, H16, H17⟩, Hk⟩
  iapply (quantise_wp arg2 arg3 arg4 arg6 harg6 arg7 arg8 harg8 arg9 arg10 harg10 arg11 arg12 harg12 arg13 harg13 arg14 arg15 arg16 defs d lc c X K V Y6 Y7 Y8 Y10 Y9 Y11 Y12 Y13 Y14 Y15 Y16)
  isplitl [H2 H3 H4 H6 H7 H8 H9 H10 H11 H12 H13 H14 H15 H16]
  · isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  rw [sQ_tab, sK_tab, sV_tab]
  iintro ⟨H2, H3, H4, H6, H7, H8, H9, H10, H11, H12, H13, H14, H15, H16⟩
  rw [wp_bind]
  rcases he with ⟨rfl, h2, h3⟩ | ⟨rfl, h2, h3⟩
  · rw [if_pos h2, if_neg h3]
    iapply (attend_wp arg5 harg5 arg6 arg12 arg13 arg14 arg16 arg17 defs d false w c p1 p2 (qcOf X) (ring12 c K Y12) (ring13 c V Y13) (ring14 c K Y14) (sC lc (tabOf X K V Y15)) Y5 Y17)
    isplitl [H5 H6 H12 H13 H14 H16 H17]
    · isplitl [H5]; · iexact H5
      isplitl [H6]; · iexact H6
      isplitl [H12]; · iexact H12
      isplitl [H13]; · iexact H13
      isplitl [H14]; · iexact H14
      isplitl [H16]; · iexact H16
      iexact H17
    iintro ⟨H5, H6, H12, H13, H14, H16, H17⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iexact H17
  · rw [if_neg h2, if_pos h3]
    sl_step
    iapply (attend_wp arg5 harg5 arg6 arg12 arg13 arg14 arg16 arg17 defs d true w c p1 p2 (qcOf X) (ring12 c K Y12) (ring13 c V Y13) (ring14 c K Y14) (sC lc (tabOf X K V Y15)) Y5 Y17)
    isplitl [H5 H6 H12 H13 H14 H16 H17]
    · isplitl [H5]; · iexact H5
      isplitl [H6]; · iexact H6
      isplitl [H12]; · iexact H12
      isplitl [H13]; · iexact H13
      isplitl [H14]; · iexact H14
      isplitl [H16]; · iexact H16
      iexact H17
    iintro ⟨H5, H6, H12, H13, H14, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iexact H17

/-- The scratch buffers before the point `n`, its sequence's `qi`-th: the rings good, but before a sequence. -/
def Scratch (bk bv : ℕ → FVec F S1x256x1024 .bf16) (n qi : ℕ) : sProp 𝕄 :=
  iprop(∃ Y12 Y13 Y14 Y15 Y16 Y17, ⌜qi ≠ 0 → Good bk bv n qi Y12 Y13 Y14⌝ ∗ hold d arg12 Y12 ∗ hold d arg13 Y13 ∗ hold d arg14 Y14
    ∗ hold d arg15 Y15 ∗ hold d arg16 Y16 ∗ hold d arg17 Y17)

set_option maxHeartbeats 1000000 in
/-- A point's body. -/
theorem point_wp (bx : ℕ → FVec F S1x256x5120 .bf16) (bk bv : ℕ → FVec F S1x256x1024 .bf16) (n qi : ℕ) (hq : qi < 48)
    (lc : F .f32) (c p1 p2 : Fin 3) (hc : c.val = qi % 3) (h1 : p1.val = (qi + 2) % 3) (h2 : p2.val = (qi + 1) % 3) (b2 b3 : BitVec 1)
    (hb : (2 ≤ qi ∧ b2 = 1#1 ∧ ¬ b3 = 1#1) ∨ (qi < 2 ∧ ¬ b2 = 1#1 ∧ b3 = 1#1))
    (p : Prog (TpuEff nD τ sig (Elt F) Λ .tc) PUnit)
    (hp : (qi = 0 ∧ p = (reset arg13 harg13 arg14).bind fun _ => rest arg2 arg3 arg4 arg5 harg5 arg6 harg6 arg7 arg8 harg8 arg9 arg10 harg10 arg11 arg12 harg12 arg13 harg13 arg14 arg15 arg16 arg17 lc (BitVec.ofNat 32 qi) c p1 p2 b2 b3)
      ∨ (qi ≠ 0 ∧ p = rest arg2 arg3 arg4 arg5 harg5 arg6 harg6 arg7 arg8 harg8 arg9 arg10 harg10 arg11 arg12 harg12 arg13 harg13 arg14 arg15 arg16 arg17 lc (BitVec.ofNat 32 qi) c p1 p2 b2 b3))
    (Y5 : FVec F S1x256x5120 .bf16) (Y6 : FVec F S1x20x256x256 .fp8e4m3) (Y7 : FVec F S1x20x256 .f32) (Y8 : FVec F S1x256x4x256 .fp8e4m3) (Y9 : FVec F S1x4x256 .f32) (Y10 : FVec F S1x256x4x256 .fp8e4m3) (Y11 : FVec F S1x4x256 .f32) (Q : PUnit → sProp 𝕄) :
    iprop(Scratch arg12 arg13 arg14 arg15 arg16 arg17 d bk bv n qi
      ∗ (hold d arg2 (bx n) ∗ hold d arg3 (bk n) ∗ hold d arg4 (bv n) ∗ hold d arg5 Y5 ∗ hold d arg6 Y6 ∗ hold d arg7 Y7 ∗ hold d arg8 Y8 ∗ hold d arg9 Y9 ∗ hold d arg10 Y10 ∗ hold d arg11 Y11)
      ∗ ((Scratch arg12 arg13 arg14 arg15 arg16 arg17 d bk bv (n + 1) (qi + 1)
        ∗ hold d arg2 (bx n) ∗ hold d arg3 (bk n) ∗ hold d arg4 (bv n) ∗ hold d arg5 (outAt bx bk bv lc n qi)
        ∗ hold d arg6 (qcOf (bx n)) ∗ hold d arg7 (qsOf (bx n)) ∗ hold d arg8 (kcOf (bk n)) ∗ hold d arg9 (ksOf (bk n)) ∗ hold d arg10 (kcOf (bv n)) ∗ hold d arg11 (ksOf (bv n))) -∗ Q ⟨⟩))
    ⊢ wp frame (wpE defs Variants.none (d : Thread nD τ) none) Set.univ p Q := by
  obtain ⟨e, he, he2⟩ : ∃ e : Bool, ((e = false ∧ b2 = 1#1 ∧ ¬ b3 = 1#1) ∨ (e = true ∧ ¬ b2 = 1#1 ∧ b3 = 1#1)) ∧ (e = false → 2 ≤ qi) := by
    rcases hb with ⟨a, b, c⟩ | ⟨a, b, c⟩
    · exact ⟨false, .inl ⟨rfl, b, c⟩, fun _ => a⟩
    · exact ⟨true, .inr ⟨rfl, b, c⟩, fun h => Bool.noConfusion h⟩
  have run : ∀ (Y12 : FVec F S3x4x256x256 .fp8e4m3) (Y13 : FVec F S3x4x256x256 .bf16) (Y14 : FVec F S3x4x256x128 .f32) (Y15 : FVec F S256x128 .f32)
      (Y16 : FVec F S24x256 .f32) (Y17 : FVec F S2x128x128 .f32), Good bk bv n qi Y12 Y13 Y14 →
      (iprop((hold d arg12 Y12 ∗ hold d arg13 Y13 ∗ hold d arg14 Y14 ∗ hold d arg15 Y15 ∗ hold d arg16 Y16 ∗ hold d arg17 Y17)
        ∗ (hold d arg2 (bx n) ∗ hold d arg3 (bk n) ∗ hold d arg4 (bv n) ∗ hold d arg5 Y5 ∗ hold d arg6 Y6 ∗ hold d arg7 Y7 ∗ hold d arg8 Y8 ∗ hold d arg9 Y9 ∗ hold d arg10 Y10 ∗ hold d arg11 Y11)
        ∗ ((Scratch arg12 arg13 arg14 arg15 arg16 arg17 d bk bv (n + 1) (qi + 1)
          ∗ hold d arg2 (bx n) ∗ hold d arg3 (bk n) ∗ hold d arg4 (bv n) ∗ hold d arg5 (outAt bx bk bv lc n qi)
          ∗ hold d arg6 (qcOf (bx n)) ∗ hold d arg7 (qsOf (bx n)) ∗ hold d arg8 (kcOf (bk n)) ∗ hold d arg9 (ksOf (bk n)) ∗ hold d arg10 (kcOf (bv n)) ∗ hold d arg11 (ksOf (bv n))) -∗ Q ⟨⟩)) : sProp 𝕄)
      ⊢ wp frame (wpE defs Variants.none (d : Thread nD τ) none) Set.univ (rest arg2 arg3 arg4 arg5 harg5 arg6 harg6 arg7 arg8 harg8 arg9 arg10 harg10 arg11 arg12 harg12 arg13 harg13 arg14 arg15 arg16 arg17 lc (BitVec.ofNat 32 qi) c p1 p2 b2 b3) Q := by
    intro Y12 Y13 Y14 Y15 Y16 Y17 hG
    have hN := good_next bk bv n qi c hc Y12 Y13 Y14 hG
    iintro ⟨⟨H12, H13, H14, H15, H16, H17⟩, ⟨H2, H3, H4, H5, H6, H7, H8, H9, H10, H11⟩, Hk⟩
    iapply (rest_wp arg2 arg3 arg4 arg5 harg5 arg6 harg6 arg7 arg8 harg8 arg9 arg10 harg10 arg11 arg12 harg12 arg13 harg13 arg14 arg15 arg16 arg17 defs d lc e (BitVec.ofNat 32 qi) c p1 p2 b2 b3 he (bx n) (bk n) (bv n) Y5 Y6 Y7 Y8 Y9 Y10 Y11 Y12 Y13 Y14 Y15 Y16 Y17)
    isplitl [H2 H3 H4 H5 H6 H7 H8 H9 H10 H11 H12 H13 H14 H15 H16 H17]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    rw [outOf_eq bx bk bv lc n qi hq e he2 c p1 p2 hc h1 h2 Y12 Y13 Y14 hG Y15]
    iintro ⟨H2, H3, H4, H5, H6, H7, H8, H9, H10, H11, H12, H13, H14, ⟨%Z15, H15⟩, ⟨%Z16, H16⟩, ⟨%Z17, H17⟩⟩
    iapply Hk
    isplitl [H12 H13 H14 H15 H16 H17]
    · unfold Scratch
      iexists _; iexists _; iexists _; iexists _; iexists _; iexists _
      isplitr; · ipureintro; exact fun _ => hN
      isplitl [H12]; · iexact H12
      isplitl [H13]; · iexact H13
      isplitl [H14]; · iexact H14
      isplitl [H15]; · iexact H15
      isplitl [H16]; · iexact H16
      iexact H17
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold Scratch
  iintro ⟨⟨%Y12, %Y13, %Y14, %Y15, %Y16, %Y17, %hG, H12, H13, H14, H15, H16, H17⟩, HB, Hk⟩
  rcases hp with ⟨h0, rfl⟩ | ⟨h0, rfl⟩
  · simp only [bind_eq]; rw [wp_bind]
    iapply (reset_wp arg13 harg13 arg14 defs d Y13 Y14)
    isplitl [H13 H14]
    · isplitl [H13]; · iexact H13
      iexact H14
    iintro ⟨H13, H14⟩
    iapply (run Y12 _ _ Y15 Y16 Y17 (by subst h0; exact good_reset bk bv n Y12))
    isplitl [H12 H13 H14 H15 H16 H17]
    · isplitl [H12]; · iexact H12
      isplitl [H13]; · iexact H13
      isplitl [H14]; · iexact H14
      isplitl [H15]; · iexact H15
      isplitl [H16]; · iexact H16
      iexact H17
    isplitl [HB]; · iexact HB
    unfold Scratch
    iexact Hk
  · iapply (run Y12 Y13 Y14 Y15 Y16 Y17 (hG h0))
    isplitl [H12 H13 H14 H15 H16 H17]
    · isplitl [H12]; · iexact H12
      isplitl [H13]; · iexact H13
      isplitl [H14]; · iexact H14
      isplitl [H15]; · iexact H15
      isplitl [H16]; · iexact H16
      iexact H17
    isplitl [HB]; · iexact HB
    unfold Scratch
    iexact Hk

end Cert.Gqa

end
-- ==== Proof.Kernel.Printed.lean ====
/-
  The printed body is the program of `Body.lean` at its grid point's slots and conditions.
-/
module

public import proofs.«01_k».proof.Proof.Body
public import proofs.«01_k».proof.Proof.Gen.Kernel

@[expose] public section

set_option maxRecDepth 65536

noncomputable section

namespace Cert.Gqa.Kernel

open Cert.Kernel Cert.Kernel.Gen
open Idealize.ShloMosaic
open Idealize.ShloMosaic.TcCoe
open Idealize.ShloMosaic.Tactic
open Idealize.SL.Sem

variable {F : FTy → Type} [FloatOps F]

/-- The grid point's second coordinate as the body has it. -/
abbrev word (i : grid0.Coords) : BitVec 32 := BitVec.ofNat 32 (i 1).val
/-- The rings' slot for this block, -/
def cur (i : grid0.Coords) : Fin 3 :=
  ⟨(Scalar.indexCast (Scalar.remsi (word i) 3#32)).toNat, by
    have h : k0_off1 i 0 = _ := congrFun (k0_off1_eq i) 0
    have h' : (Scalar.indexCast (Scalar.remsi (word i) 3#32)).toNat = (i 1).val % 3 := h
    omega⟩
/-- for the block before, -/
def prev1 (i : grid0.Coords) : Fin 3 :=
  ⟨(Scalar.indexCast (Scalar.remsi (Scalar.addi (word i) 2#32) 3#32)).toNat, by
    have h : k0_off15 i 0 = _ := congrFun (k0_off15_eq i) 0
    have h' : (Scalar.indexCast (Scalar.remsi (Scalar.addi (word i) 2#32) 3#32)).toNat = ((i 1).val + 2) % 3 := h
    omega⟩
/-- and for the one before that. -/
def prev2 (i : grid0.Coords) : Fin 3 :=
  ⟨(Scalar.indexCast (Scalar.remsi (Scalar.addi (word i) 1#32) 3#32)).toNat, by
    have h : k0_off10 i 0 = _ := congrFun (k0_off10_eq i) 0
    have h' : (Scalar.indexCast (Scalar.remsi (Scalar.addi (word i) 1#32) 3#32)).toNat = ((i 1).val + 1) % 3 := h
    omega⟩

theorem cur_val (i : grid0.Coords) : (cur i).val = (i 1).val % 3 := congrFun (k0_off1_eq i) 0
theorem prev1_val (i : grid0.Coords) : (prev1 i).val = ((i 1).val + 2) % 3 := congrFun (k0_off15_eq i) 0
theorem prev2_val (i : grid0.Coords) : (prev2 i).val = ((i 1).val + 1) % 3 := congrFun (k0_off10_eq i) 0

/-- The printed body as the structured program: after the reset, where the point is a sequence's first, -/
theorem printed_first (i : grid0.Coords) (h : (Scalar.cmpi .ne (Scalar.extui (Scalar.cmpi .eq (word i) 0#32) : BitVec 32) 0#32) = 1#1)
    (arg2 : Memref sig .tc .vmem S1x256x5120 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x256x5120 .bf16) (harg5 : arg5.IsWhole)
    (arg6 : Memref sig .tc .vmem S1x20x256x256 .fp8e4m3) (harg6 : arg6.IsWhole) (arg7 : Memref sig .tc .vmem S1x20x256 .f32) (harg7 : arg7.IsWhole)
    (arg8 : Memref sig .tc .vmem S1x256x4x256 .fp8e4m3) (harg8 : arg8.IsWhole) (arg9 : Memref sig .tc .vmem S1x4x256 .f32) (harg9 : arg9.IsWhole)
    (arg10 : Memref sig .tc .vmem S1x256x4x256 .fp8e4m3) (harg10 : arg10.IsWhole) (arg11 : Memref sig .tc .vmem S1x4x256 .f32) (harg11 : arg11.IsWhole)
    (arg12 : Memref sig .tc .vmem S3x4x256x256 .fp8e4m3) (harg12 : arg12.IsWhole) (arg13 : Memref sig .tc .vmem S3x4x256x256 .bf16) (harg13 : arg13.IsWhole)
    (arg14 : Memref sig .tc .vmem S3x4x256x128 .f32) (harg14 : arg14.IsWhole) (arg15 : Memref sig .tc .vmem S256x128 .f32) (harg15 : arg15.IsWhole)
    (arg16 : Memref sig .tc .vmem S24x256 .f32) (harg16 : arg16.IsWhole) (arg17 : Memref sig .tc .vmem S2x128x128 .f32) (harg17 : arg17.IsWhole) :
    (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit)
      = (reset arg13 harg13 arg14).bind fun _ => rest arg2 arg3 arg4 arg5 harg5 arg6 harg6 arg7 arg8 harg8 arg9 arg10 harg10 arg11 arg12 harg12 arg13 harg13 arg14 arg15 arg16 arg17
          (Scalar.ofBits .f32 0x3DB8AA3B#32) (word i) (cur i) (prev1 i) (prev2 i) (k0_cond2 i) (k0_cond3 i) := by
  have e := show (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) _) = _ from dif_pos h
  unfold cc0_gqa_fp8 k0_part259
  rw [e]
  sl_kernel_rfl

/-- and without it elsewhere. -/
theorem printed_later (i : grid0.Coords) (h : ¬ (Scalar.cmpi .ne (Scalar.extui (Scalar.cmpi .eq (word i) 0#32) : BitVec 32) 0#32) = 1#1)
    (arg2 : Memref sig .tc .vmem S1x256x5120 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x256x5120 .bf16) (harg5 : arg5.IsWhole)
    (arg6 : Memref sig .tc .vmem S1x20x256x256 .fp8e4m3) (harg6 : arg6.IsWhole) (arg7 : Memref sig .tc .vmem S1x20x256 .f32) (harg7 : arg7.IsWhole)
    (arg8 : Memref sig .tc .vmem S1x256x4x256 .fp8e4m3) (harg8 : arg8.IsWhole) (arg9 : Memref sig .tc .vmem S1x4x256 .f32) (harg9 : arg9.IsWhole)
    (arg10 : Memref sig .tc .vmem S1x256x4x256 .fp8e4m3) (harg10 : arg10.IsWhole) (arg11 : Memref sig .tc .vmem S1x4x256 .f32) (harg11 : arg11.IsWhole)
    (arg12 : Memref sig .tc .vmem S3x4x256x256 .fp8e4m3) (harg12 : arg12.IsWhole) (arg13 : Memref sig .tc .vmem S3x4x256x256 .bf16) (harg13 : arg13.IsWhole)
    (arg14 : Memref sig .tc .vmem S3x4x256x128 .f32) (harg14 : arg14.IsWhole) (arg15 : Memref sig .tc .vmem S256x128 .f32) (harg15 : arg15.IsWhole)
    (arg16 : Memref sig .tc .vmem S24x256 .f32) (harg16 : arg16.IsWhole) (arg17 : Memref sig .tc .vmem S2x128x128 .f32) (harg17 : arg17.IsWhole) :
    (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit)
      = rest arg2 arg3 arg4 arg5 harg5 arg6 harg6 arg7 arg8 harg8 arg9 arg10 harg10 arg11 arg12 harg12 arg13 harg13 arg14 arg15 arg16 arg17
          (Scalar.ofBits .f32 0x3DB8AA3B#32) (word i) (cur i) (prev1 i) (prev2 i) (k0_cond2 i) (k0_cond3 i) := by
  have e := show (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) _) = _ from dif_neg h
  unfold cc0_gqa_fp8 k0_part259
  rw [e]
  sl_kernel_rfl

end Cert.Gqa.Kernel

end
-- ==== Proof.Kernel.Run.lean ====
/-
  The kernel's run: the pipeline's proof data — what each point leaves in each result's staging buffer, the rings good
  between points — and the launch.
-/
module

public import proofs.«01_k».proof.Proof.PointRun
public import proofs.«01_k».proof.Proof.Kernel.Printed
public import proofs.«01_k».proof.Proof.Gen.Kernel.Frame
public import Idealize.ShloMosaic.Lib.Pipeline.Quiescent

@[expose] public section

set_option maxRecDepth 16384

noncomputable section

namespace Cert.Gqa.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] upTo quantise attend rest reset

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The factor the query scales are multiplied by. -/
abbrev lc : F .f32 := Scalar.ofBits .f32 0x3DB8AA3B#32

/-! ### The grid -/

/-- The point's place in its sequence. -/
def seqAt (t : ℕ) : ℕ := t % 48
theorem seqAt_lt (t : ℕ) : seqAt t < 48 := Nat.mod_lt _ (by omega)
theorem coords_val : ∀ t : Fin cfg0.N, (grid0.coords t 1).val = seqAt t.val := by decide +kernel
theorem cond_at : ∀ t : Fin cfg0.N, (2 ≤ seqAt t.val ∧ k0_cond2 (grid0.coords t) = 1#1 ∧ ¬ k0_cond3 (grid0.coords t) = 1#1)
    ∨ (seqAt t.val < 2 ∧ ¬ k0_cond2 (grid0.coords t) = 1#1 ∧ k0_cond3 (grid0.coords t) = 1#1) := by decide +kernel
theorem first_at : ∀ t : Fin cfg0.N, (Scalar.cmpi .ne (Scalar.extui (Scalar.cmpi .eq (word (grid0.coords t)) 0#32) : BitVec 32) 0#32) = 1#1 ↔ seqAt t.val = 0 := by
  decide +kernel

/-! ### The blocks -/

theorem N_pos : 0 < cfg0.N := by decide
/-- The point a number stands for. -/
def pt (n : ℕ) : Fin cfg0.N := ⟨n % cfg0.N, Nat.mod_lt _ N_pos⟩
theorem pt_val (t : Fin cfg0.N) : pt t.val = t := Fin.ext (Nat.mod_eq_of_lt t.isLt)

/-- The inputs' blocks at a point. -/
def bx (c : Dev nD) (n : ℕ) : FVec F S1x256x5120 .bf16 := iblk m c 0 (pt n)
def bk (c : Dev nD) (n : ℕ) : FVec F S1x256x1024 .bf16 := iblk m c 1 (pt n)
def bv (c : Dev nD) (n : ℕ) : FVec F S1x256x1024 .bf16 := iblk m c 2 (pt n)

/-! ### The proof data -/

abbrev Scr (c : Dev nD) (n qi : ℕ) : sProp 𝕄 :=
  Scratch (Memref.whole cc0_scratch0) (Memref.whole cc0_scratch1) (Memref.whole cc0_scratch2) (Memref.whole cc0_scratch3) (Memref.whole cc0_scratch4) (Memref.whole cc0_scratch5)
    c (bk m c) (bv m c) n qi

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (bx m c) (bk m c) (bv m c) lc t.val (seqAt t.val)
    | ⟨4, _⟩ => qcOf (bx m c t.val)
    | ⟨5, _⟩ => qsOf (bx m c t.val)
    | ⟨6, _⟩ => kcOf (bk m c t.val)
    | ⟨7, _⟩ => ksOf (bk m c t.val)
    | ⟨8, _⟩ => kcOf (bv m c t.val)
    | ⟨9, _⟩ => ksOf (bv m c t.val)
  Φ t := iprop(Scr m c t.val (seqAt t.val) ∗ ∃ r, prngReg c r)
  q _ := fullShare
  owed _ := 0

theorem A_eq (c : Dev nD) (w : Fin cfg0.W) : (dats m 0 c).A w = V m c (Pipeline.arrRef spec0 w) := by
  dsimp only [dats]

theorem defs₀_row (t : Fin cfg0.N) : (defs₀ (F := F)) .tc cfg0.body (cfg0.bodyArgs t (cfg0.slots t)) = Gen.bodyAt0 t := by
  unfold defs₀; rw [Defs.onTc_tc]

theorem before_x (c : Dev nD) (t : Fin cfg0.N) (d) : (dats m 0 c).before 0 t d = bx m c t.val := by
  unfold bx; rw [pt_val]; exact before0_0_of m (dats m 0 c) (A_eq m c 0) (fun _ => rfl) t d
theorem before_k (c : Dev nD) (t : Fin cfg0.N) (d) : (dats m 0 c).before 1 t d = bk m c t.val := by
  unfold bk; rw [pt_val]; exact before0_1_of m (dats m 0 c) (A_eq m c 1) (fun _ => rfl) t d
theorem before_v (c : Dev nD) (t : Fin cfg0.N) (d) : (dats m 0 c).before 2 t d = bv m c t.val := by
  unfold bv; rw [pt_val]; exact before0_2_of m (dats m 0 c) (A_eq m c 2) (fun _ => rfl) t d
theorem after0 (c : Dev nD) (t : Fin cfg0.N) : (dats m 0 c).after 0 t = bx m c t.val := by unfold bx; rw [pt_val]; dsimp only [dats]
theorem after1 (c : Dev nD) (t : Fin cfg0.N) : (dats m 0 c).after 1 t = bk m c t.val := by unfold bk; rw [pt_val]; dsimp only [dats]
theorem after2 (c : Dev nD) (t : Fin cfg0.N) : (dats m 0 c).after 2 t = bv m c t.val := by unfold bv; rw [pt_val]; dsimp only [dats]
theorem after3 (c : Dev nD) (t : Fin cfg0.N) : (dats m 0 c).after 3 t = outAt (bx m c) (bk m c) (bv m c) lc t.val (seqAt t.val) := by dsimp only [dats]
theorem after4 (c : Dev nD) (t : Fin cfg0.N) : (dats m 0 c).after 4 t = qcOf (bx m c t.val) := by dsimp only [dats]
theorem after5 (c : Dev nD) (t : Fin cfg0.N) : (dats m 0 c).after 5 t = qsOf (bx m c t.val) := by dsimp only [dats]
theorem after6 (c : Dev nD) (t : Fin cfg0.N) : (dats m 0 c).after 6 t = kcOf (bk m c t.val) := by dsimp only [dats]
theorem after7 (c : Dev nD) (t : Fin cfg0.N) : (dats m 0 c).after 7 t = ksOf (bk m c t.val) := by dsimp only [dats]
theorem after8 (c : Dev nD) (t : Fin cfg0.N) : (dats m 0 c).after 8 t = kcOf (bv m c t.val) := by dsimp only [dats]
theorem after9 (c : Dev nD) (t : Fin cfg0.N) : (dats m 0 c).after 9 t = ksOf (bv m c t.val) := by dsimp only [dats]
theorem not_idle : ∀ (w : Fin cfg0.W) (t : Fin cfg0.N), cfg0.idle w (cfg0.grid.coords t) = false := by decide +kernel

/-- After a point the rings are good for the next. -/
theorem scr_next (c : Dev nD) (n : ℕ) : (Scr m c (n + 1) (seqAt n + 1) : sProp 𝕄) ⊢ Scr m c (n + 1) (seqAt (n + 1)) := by
  unfold Scr Scratch
  iintro ⟨%Y12, %Y13, %Y14, %Y15, %Y16, %Y17, %hG, H12, H13, H14, H15, H16, H17⟩
  iexists Y12; iexists Y13; iexists Y14; iexists Y15; iexists Y16; iexists Y17
  isplitr
  · ipureintro
    intro h
    have e : seqAt (n + 1) = seqAt n + 1 := by unfold seqAt at h ⊢; omega
    rw [e]; exact hG (by omega)
  isplitl [H12]; · iexact H12
  isplitl [H13]; · iexact H13
  isplitl [H14]; · iexact H14
  isplitl [H15]; · iexact H15
  isplitl [H16]; · iexact H16
  iexact H17

/-- The scratch buffers at anything are the scratch before a sequence, -/
theorem scr_in (c : Dev nD) : (Pipeline.ΦA spec0 c : sProp 𝕄) ⊢ (dats m 0 c).Φ 0 := by
  show _ ⊢ iprop(Scr m c 0 0 ∗ ∃ r, prngReg c r)
  unfold Pipeline.ΦA Scr Scratch
  rw [scopedRest0_eq]
  iintro ⟨⟨⟨%Y12, H12⟩, ⟨%Y13, H13⟩, ⟨%Y14, H14⟩, ⟨%Y15, H15⟩, ⟨%Y16, H16⟩, ⟨%Y17, H17⟩⟩, HP⟩
  isplitr [HP]
  · iexists Y12; iexists Y13; iexists Y14; iexists Y15; iexists Y16; iexists Y17
    simp only [hold, owns_whole]
    isplitr
    · ipureintro; exact fun h => absurd rfl h
    isplitl [H12]; · iexact H12
    isplitl [H13]; · iexact H13
    isplitl [H14]; · iexact H14
    isplitl [H15]; · iexact H15
    isplitl [H16]; · iexact H16
    iexact H17
  iexact HP
/-- and the other way. -/
theorem scr_out (c : Dev nD) : (dats m 0 c).Φ (Fin.last cfg0.N) ⊢ (Pipeline.ΦA spec0 c : sProp 𝕄) := by
  show iprop(Scr m c _ _ ∗ ∃ r, prngReg c r) ⊢ _
  unfold Pipeline.ΦA Scr Scratch
  rw [scopedRest0_eq]
  simp only [hold, owns_whole]
  iintro ⟨⟨%Y12, %Y13, %Y14, %Y15, %Y16, %Y17, %hG, H12, H13, H14, H15, H16, H17⟩, HP⟩
  isplitr [HP]
  · isplitl [H12]; · iexists _; iexact H12
    isplitl [H13]; · iexists _; iexact H13
    isplitl [H14]; · iexists _; iexact H14
    isplitl [H15]; · iexists _; iexact H15
    isplitl [H16]; · iexists _; iexact H16
    iexists _; iexact H17
  iexact HP

/-- The printed body as `point_wp` has it. -/
theorem printed_at (t : Fin cfg0.N) :
    (seqAt t.val = 0 ∧ (bodyAt0 t : Prog (TpuEff nD τ sig (Elt F) Λ₀ .tc) PUnit) = (reset (Memref.whole cc0_scratch1) (Memref.isWhole_whole _) (Memref.whole cc0_scratch2)).bind fun _ =>
        rest (st0_0 t) (st0_1 t) (st0_2 t) (st0_3 t) (hstage0_3 ((cfg0.slots t 3).cast nbuf0_3)) (st0_4 t) (hstage0_4 ((cfg0.slots t 4).cast nbuf0_4)) (st0_5 t) (st0_6 t) (hstage0_6 ((cfg0.slots t 6).cast nbuf0_6)) (st0_7 t) (st0_8 t) (hstage0_8 ((cfg0.slots t 8).cast nbuf0_8)) (st0_9 t)
          (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
          lc (BitVec.ofNat 32 (seqAt t.val)) (cur (grid0.coords t)) (prev1 (grid0.coords t)) (prev2 (grid0.coords t)) (k0_cond2 (grid0.coords t)) (k0_cond3 (grid0.coords t)))
    ∨ (seqAt t.val ≠ 0 ∧ (bodyAt0 t : Prog (TpuEff nD τ sig (Elt F) Λ₀ .tc) PUnit) =
        rest (st0_0 t) (st0_1 t) (st0_2 t) (st0_3 t) (hstage0_3 ((cfg0.slots t 3).cast nbuf0_3)) (st0_4 t) (hstage0_4 ((cfg0.slots t 4).cast nbuf0_4)) (st0_5 t) (st0_6 t) (hstage0_6 ((cfg0.slots t 6).cast nbuf0_6)) (st0_7 t) (st0_8 t) (hstage0_8 ((cfg0.slots t 8).cast nbuf0_8)) (st0_9 t)
          (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
          lc (BitVec.ofNat 32 (seqAt t.val)) (cur (grid0.coords t)) (prev1 (grid0.coords t)) (prev2 (grid0.coords t)) (k0_cond2 (grid0.coords t)) (k0_cond3 (grid0.coords t))) := by
  rw [← coords_val]
  by_cases h : seqAt t.val = 0
  · refine .inl ⟨(coords_val t).trans h, ?_⟩
    exact printed_first (grid0.coords t) ((first_at t).mpr h) _ _ _ _ _ _ _ _ _ _ _ _ _ _ _ _ _ _ _ _ _ _ _ _ _ _ _ _ _ _ _ _
  · refine .inr ⟨fun e => h ((coords_val t).symm.trans e), ?_⟩
    exact printed_later (grid0.coords t) (fun e => h ((first_at t).mp e)) _ _ _ _ _ _ _ _ _ _ _ _ _ _ _ _ _ _ _ _ _ _ _ _ _ _ _ _ _ _ _ _

set_option maxHeartbeats 1000000 in
theorem body_obligation (c : Dev nD) : BodyObligation (dats m 0 c) (defs₀ (F := F)) Variants.none () Set.univ := fun t => by
  rw [bigSep_W0, bigSep_W0, defs₀_row]
  rw [show (dats m 0 c).Φ t.castSucc = iprop(Scr m c t.val (seqAt t.val) ∗ ∃ r, prngReg c r) from rfl,
    show (dats m 0 c).Φ t.succ = iprop(Scr m c (t.val + 1) (seqAt (t.val + 1)) ∗ ∃ r, prngReg c r) from rfl]
  unfold Dat.owesAt Pipeline.owesWithin
  rw [show (dats m 0 c).owed t.castSucc = 0 from rfl, show (dats m 0 c).owed t.succ = 0 from rfl]
  iintro ⟨⟨HS, HP⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_x, before_k, before_v]
  iapply (point_wp (st0_0 t) (st0_1 t) (st0_2 t) (st0_3 t) (hstage0_3 ((cfg0.slots t 3).cast nbuf0_3)) (st0_4 t) (hstage0_4 ((cfg0.slots t 4).cast nbuf0_4)) (st0_5 t) (st0_6 t) (hstage0_6 ((cfg0.slots t 6).cast nbuf0_6)) (st0_7 t) (st0_8 t) (hstage0_8 ((cfg0.slots t 8).cast nbuf0_8)) (st0_9 t)
    (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
    defs₀ c (bx m c) (bk m c) (bv m c) t.val (seqAt t.val) (seqAt_lt _) lc (cur (grid0.coords t)) (prev1 (grid0.coords t)) (prev2 (grid0.coords t))
    ((cur_val _).trans (by rw [coords_val])) ((prev1_val _).trans (by rw [coords_val])) ((prev2_val _).trans (by rw [coords_val]))
    (k0_cond2 (grid0.coords t)) (k0_cond3 (grid0.coords t)) (cond_at t) (bodyAt0 t) (printed_at t)
    ((dats m 0 c).before 3 t d3) ((dats m 0 c).before 4 t d4) ((dats m 0 c).before 5 t d5) ((dats m 0 c).before 6 t d6) ((dats m 0 c).before 7 t d7) ((dats m 0 c).before 8 t d8) ((dats m 0 c).before 9 t d9))
  isplitl [HS]; · iexact HS
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨HS, H0, H1, H2, H3, H4, H5, H6, H7, H8, H9⟩
  isplitl [HS HP]
  · isplitl [HS]
    · iapply (scr_next m c t.val); iexact HS
    iexact HP
  isplitl [HO]
  · iexists W; isplitr; · ipureintro; exact fun _ _ => Or.inl trivial
    iexact HO
  simp only [not_idle, show idle0 3 (grid0.coords t) = false from not_idle 3 t]
  rw [after0, after1, after2, after3, after4, after5, after6, after7, after8, after9]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ### The launch -/

/-- @main runs to the arrays as the pipeline's proof data has them, and the host lines after it, every counter zero. -/
theorem run_main : θ_run defs (onTc (τ := τ) (main (F := F))) (s₀ m ρ) fun r =>
    Pipeline.FramePost cfgs (dats m) 0 (Pipeline.afterTail₀ cfgs (dats m) 0 (V0 m) [hostOps1]) r ∧ r.2.sem = fun _ => 0 :=
  Pipeline.θ_run_frame_around_track cfgs (dats m) 0 launch0 defs₀ Variants.none m ρ main (fun c => (body_obligation m c).loose) (fun _ _ => ite_self _) (fun _ _ => rfl)
    (V0 m) [hostOps1] sfx_sub sfx_fresh sfx_keeps (hmain m Variants.none) (fun c w => A_eq m c w) (fun c => scr_in m c) (fun c => scr_out m c) _ (fun _ h => h)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (Gen.frame_of m ρ (dats m) (A_eq m)) (run_main m ρ)

end Cert.Gqa.Kernel

end
-- ==== Proof.KernelIdeal.Printed.lean ====
/-
  The printed body is the program of `Body.lean` at its grid point's slots and conditions (the idealized program's).
-/
module

public import proofs.«01_k».proof.Proof.Body
public import proofs.«01_k».proof.Proof.Gen.KernelIdeal

@[expose] public section

set_option maxRecDepth 65536

noncomputable section

namespace Cert.Gqa.KernelIdeal

open Cert.KernelIdeal Cert.KernelIdeal.Gen
open Idealize.ShloMosaic
open Idealize.ShloMosaic.TcCoe
open Idealize.ShloMosaic.Tactic
open Idealize.SL.Sem

variable {F : FTy → Type} [FloatOps F] [Named F]

/-- The grid point's second coordinate as the body has it. -/
abbrev word (i : grid0.Coords) : BitVec 32 := BitVec.ofNat 32 (i 1).val
/-- The rings' slot for this block, -/
def cur (i : grid0.Coords) : Fin 3 :=
  ⟨(Scalar.indexCast (Scalar.remsi (word i) 3#32)).toNat, by
    have h : k0_off1 i 0 = _ := congrFun (k0_off1_eq i) 0
    have h' : (Scalar.indexCast (Scalar.remsi (word i) 3#32)).toNat = (i 1).val % 3 := h
    omega⟩
/-- for the block before, -/
def prev1 (i : grid0.Coords) : Fin 3 :=
  ⟨(Scalar.indexCast (Scalar.remsi (Scalar.addi (word i) 2#32) 3#32)).toNat, by
    have h : k0_off15 i 0 = _ := congrFun (k0_off15_eq i) 0
    have h' : (Scalar.indexCast (Scalar.remsi (Scalar.addi (word i) 2#32) 3#32)).toNat = ((i 1).val + 2) % 3 := h
    omega⟩
/-- and for the one before that. -/
def prev2 (i : grid0.Coords) : Fin 3 :=
  ⟨(Scalar.indexCast (Scalar.remsi (Scalar.addi (word i) 1#32) 3#32)).toNat, by
    have h : k0_off10 i 0 = _ := congrFun (k0_off10_eq i) 0
    have h' : (Scalar.indexCast (Scalar.remsi (Scalar.addi (word i) 1#32) 3#32)).toNat = ((i 1).val + 1) % 3 := h
    omega⟩

theorem cur_val (i : grid0.Coords) : (cur i).val = (i 1).val % 3 := congrFun (k0_off1_eq i) 0
theorem prev1_val (i : grid0.Coords) : (prev1 i).val = ((i 1).val + 2) % 3 := congrFun (k0_off15_eq i) 0
theorem prev2_val (i : grid0.Coords) : (prev2 i).val = ((i 1).val + 1) % 3 := congrFun (k0_off10_eq i) 0

/-- The printed body as the structured program: after the reset, where the point is a sequence's first, -/
theorem printed_first (i : grid0.Coords) (h : (Scalar.cmpi .ne (Scalar.extui (Scalar.cmpi .eq (word i) 0#32) : BitVec 32) 0#32) = 1#1)
    (arg2 : Memref sig .tc .vmem S1x256x5120 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x256x5120 .bf16) (harg5 : arg5.IsWhole)
    (arg6 : Memref sig .tc .vmem S1x20x256x256 .fp8e4m3) (harg6 : arg6.IsWhole) (arg7 : Memref sig .tc .vmem S1x20x256 .f32) (harg7 : arg7.IsWhole)
    (arg8 : Memref sig .tc .vmem S1x256x4x256 .fp8e4m3) (harg8 : arg8.IsWhole) (arg9 : Memref sig .tc .vmem S1x4x256 .f32) (harg9 : arg9.IsWhole)
    (arg10 : Memref sig .tc .vmem S1x256x4x256 .fp8e4m3) (harg10 : arg10.IsWhole) (arg11 : Memref sig .tc .vmem S1x4x256 .f32) (harg11 : arg11.IsWhole)
    (arg12 : Memref sig .tc .vmem S3x4x256x256 .fp8e4m3) (harg12 : arg12.IsWhole) (arg13 : Memref sig .tc .vmem S3x4x256x256 .bf16) (harg13 : arg13.IsWhole)
    (arg14 : Memref sig .tc .vmem S3x4x256x128 .f32) (harg14 : arg14.IsWhole) (arg15 : Memref sig .tc .vmem S256x128 .f32) (harg15 : arg15.IsWhole)
    (arg16 : Memref sig .tc .vmem S24x256 .f32) (harg16 : arg16.IsWhole) (arg17 : Memref sig .tc .vmem S2x128x128 .f32) (harg17 : arg17.IsWhole) :
    (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit)
      = (reset arg13 harg13 arg14).bind fun _ => rest arg2 arg3 arg4 arg5 harg5 arg6 harg6 arg7 arg8 harg8 arg9 arg10 harg10 arg11 arg12 harg12 arg13 harg13 arg14 arg15 arg16 arg17
          (Named.named κ "log2e_16" 0x3DB8AA3B#32) (word i) (cur i) (prev1 i) (prev2 i) (k0_cond2 i) (k0_cond3 i) := by
  have e := show (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) _) = _ from dif_pos h
  unfold cc0_gqa_fp8 k0_part259
  rw [e]
  sl_kernel_rfl

/-- and without it elsewhere. -/
theorem printed_later (i : grid0.Coords) (h : ¬ (Scalar.cmpi .ne (Scalar.extui (Scalar.cmpi .eq (word i) 0#32) : BitVec 32) 0#32) = 1#1)
    (arg2 : Memref sig .tc .vmem S1x256x5120 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x256x5120 .bf16) (harg5 : arg5.IsWhole)
    (arg6 : Memref sig .tc .vmem S1x20x256x256 .fp8e4m3) (harg6 : arg6.IsWhole) (arg7 : Memref sig .tc .vmem S1x20x256 .f32) (harg7 : arg7.IsWhole)
    (arg8 : Memref sig .tc .vmem S1x256x4x256 .fp8e4m3) (harg8 : arg8.IsWhole) (arg9 : Memref sig .tc .vmem S1x4x256 .f32) (harg9 : arg9.IsWhole)
    (arg10 : Memref sig .tc .vmem S1x256x4x256 .fp8e4m3) (harg10 : arg10.IsWhole) (arg11 : Memref sig .tc .vmem S1x4x256 .f32) (harg11 : arg11.IsWhole)
    (arg12 : Memref sig .tc .vmem S3x4x256x256 .fp8e4m3) (harg12 : arg12.IsWhole) (arg13 : Memref sig .tc .vmem S3x4x256x256 .bf16) (harg13 : arg13.IsWhole)
    (arg14 : Memref sig .tc .vmem S3x4x256x128 .f32) (harg14 : arg14.IsWhole) (arg15 : Memref sig .tc .vmem S256x128 .f32) (harg15 : arg15.IsWhole)
    (arg16 : Memref sig .tc .vmem S24x256 .f32) (harg16 : arg16.IsWhole) (arg17 : Memref sig .tc .vmem S2x128x128 .f32) (harg17 : arg17.IsWhole) :
    (cc0_gqa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit)
      = rest arg2 arg3 arg4 arg5 harg5 arg6 harg6 arg7 arg8 harg8 arg9 arg10 harg10 arg11 arg12 harg12 arg13 harg13 arg14 arg15 arg16 arg17
          (Named.named κ "log2e_16" 0x3DB8AA3B#32) (word i) (cur i) (prev1 i) (prev2 i) (k0_cond2 i) (k0_cond3 i) := by
  have e := show (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) _) = _ from dif_neg h
  unfold cc0_gqa_fp8 k0_part259
  rw [e]
  sl_kernel_rfl

end Cert.Gqa.KernelIdeal

end
-- ==== Proof.KernelIdeal.Run.lean ====
/-
  The idealized kernel's run: the pipeline's proof data — what each point leaves in each result's staging buffer, the rings good
  between points — and the launch.
-/
module

public import proofs.«01_k».proof.Proof.PointRun
public import proofs.«01_k».proof.Proof.KernelIdeal.Printed
public import proofs.«01_k».proof.Proof.Gen.KernelIdeal.Frame
public import Idealize.ShloMosaic.Lib.Pipeline.Quiescent

@[expose] public section

set_option maxRecDepth 16384

noncomputable section

namespace Cert.Gqa.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] upTo quantise attend rest reset

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The factor the query scales are multiplied by. -/
abbrev lc : F .f32 := Named.named κ "log2e_16" 0x3DB8AA3B#32

/-! ### The grid -/

/-- The point's place in its sequence. -/
def seqAt (t : ℕ) : ℕ := t % 48
theorem seqAt_lt (t : ℕ) : seqAt t < 48 := Nat.mod_lt _ (by omega)
theorem coords_val : ∀ t : Fin cfg0.N, (grid0.coords t 1).val = seqAt t.val := by decide +kernel
theorem cond_at : ∀ t : Fin cfg0.N, (2 ≤ seqAt t.val ∧ k0_cond2 (grid0.coords t) = 1#1 ∧ ¬ k0_cond3 (grid0.coords t) = 1#1)
    ∨ (seqAt t.val < 2 ∧ ¬ k0_cond2 (grid0.coords t) = 1#1 ∧ k0_cond3 (grid0.coords t) = 1#1) := by decide +kernel
theorem first_at : ∀ t : Fin cfg0.N, (Scalar.cmpi .ne (Scalar.extui (Scalar.cmpi .eq (word (grid0.coords t)) 0#32) : BitVec 32) 0#32) = 1#1 ↔ seqAt t.val = 0 := by
  decide +kernel

/-! ### The blocks -/

theorem N_pos : 0 < cfg0.N := by decide
/-- The point a number stands for. -/
def pt (n : ℕ) : Fin cfg0.N := ⟨n % cfg0.N, Nat.mod_lt _ N_pos⟩
theorem pt_val (t : Fin cfg0.N) : pt t.val = t := Fin.ext (Nat.mod_eq_of_lt t.isLt)

/-- The inputs' blocks at a point. -/
def bx (c : Dev nD) (n : ℕ) : FVec F S1x256x5120 .bf16 := iblk m c 0 (pt n)
def bk (c : Dev nD) (n : ℕ) : FVec F S1x256x1024 .bf16 := iblk m c 1 (pt n)
def bv (c : Dev nD) (n : ℕ) : FVec F S1x256x1024 .bf16 := iblk m c 2 (pt n)

/-! ### The proof data -/

abbrev Scr (c : Dev nD) (n qi : ℕ) : sProp 𝕄 :=
  Scratch (Memref.whole cc0_scratch0) (Memref.whole cc0_scratch1) (Memref.whole cc0_scratch2) (Memref.whole cc0_scratch3) (Memref.whole cc0_scratch4) (Memref.whole cc0_scratch5)
    c (bk m c) (bv m c) n qi

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (bx m c) (bk m c) (bv m c) lc t.val (seqAt t.val)
    | ⟨4, _⟩ => qcOf (bx m c t.val)
    | ⟨5, _⟩ => qsOf (bx m c t.val)
    | ⟨6, _⟩ => kcOf (bk m c t.val)
    | ⟨7, _⟩ => ksOf (bk m c t.val)
    | ⟨8, _⟩ => kcOf (bv m c t.val)
    | ⟨9, _⟩ => ksOf (bv m c t.val)
  Φ t := iprop(Scr m c t.val (seqAt t.val) ∗ ∃ r, prngReg c r)
  q _ := fullShare
  owed _ := 0

theorem A_eq (c : Dev nD) (w : Fin cfg0.W) : (dats m 0 c).A w = V m c (Pipeline.arrRef spec0 w) := by
  dsimp only [dats]

theorem defs₀_row (t : Fin cfg0.N) : (defs₀ (F := F)) .tc cfg0.body (cfg0.bodyArgs t (cfg0.slots t)) = Gen.bodyAt0 t := by
  unfold defs₀; rw [Defs.onTc_tc]

theorem before_x (c : Dev nD) (t : Fin cfg0.N) (d) : (dats m 0 c).before 0 t d = bx m c t.val := by
  unfold bx; rw [pt_val]; exact before0_0_of m (dats m 0 c) (A_eq m c 0) (fun _ => rfl) t d
theorem before_k (c : Dev nD) (t : Fin cfg0.N) (d) : (dats m 0 c).before 1 t d = bk m c t.val := by
  unfold bk; rw [pt_val]; exact before0_1_of m (dats m 0 c) (A_eq m c 1) (fun _ => rfl) t d
theorem before_v (c : Dev nD) (t : Fin cfg0.N) (d) : (dats m 0 c).before 2 t d = bv m c t.val := by
  unfold bv; rw [pt_val]; exact before0_2_of m (dats m 0 c) (A_eq m c 2) (fun _ => rfl) t d
theorem after0 (c : Dev nD) (t : Fin cfg0.N) : (dats m 0 c).after 0 t = bx m c t.val := by unfold bx; rw [pt_val]; dsimp only [dats]
theorem after1 (c : Dev nD) (t : Fin cfg0.N) : (dats m 0 c).after 1 t = bk m c t.val := by unfold bk; rw [pt_val]; dsimp only [dats]
theorem after2 (c : Dev nD) (t : Fin cfg0.N) : (dats m 0 c).after 2 t = bv m c t.val := by unfold bv; rw [pt_val]; dsimp only [dats]
theorem after3 (c : Dev nD) (t : Fin cfg0.N) : (dats m 0 c).after 3 t = outAt (bx m c) (bk m c) (bv m c) lc t.val (seqAt t.val) := by dsimp only [dats]
theorem after4 (c : Dev nD) (t : Fin cfg0.N) : (dats m 0 c).after 4 t = qcOf (bx m c t.val) := by dsimp only [dats]
theorem after5 (c : Dev nD) (t : Fin cfg0.N) : (dats m 0 c).after 5 t = qsOf (bx m c t.val) := by dsimp only [dats]
theorem after6 (c : Dev nD) (t : Fin cfg0.N) : (dats m 0 c).after 6 t = kcOf (bk m c t.val) := by dsimp only [dats]
theorem after7 (c : Dev nD) (t : Fin cfg0.N) : (dats m 0 c).after 7 t = ksOf (bk m c t.val) := by dsimp only [dats]
theorem after8 (c : Dev nD) (t : Fin cfg0.N) : (dats m 0 c).after 8 t = kcOf (bv m c t.val) := by dsimp only [dats]
theorem after9 (c : Dev nD) (t : Fin cfg0.N) : (dats m 0 c).after 9 t = ksOf (bv m c t.val) := by dsimp only [dats]
theorem not_idle : ∀ (w : Fin cfg0.W) (t : Fin cfg0.N), cfg0.idle w (cfg0.grid.coords t) = false := by decide +kernel

/-- After a point the rings are good for the next. -/
theorem scr_next (c : Dev nD) (n : ℕ) : (Scr m c (n + 1) (seqAt n + 1) : sProp 𝕄) ⊢ Scr m c (n + 1) (seqAt (n + 1)) := by
  unfold Scr Scratch
  iintro ⟨%Y12, %Y13, %Y14, %Y15, %Y16, %Y17, %hG, H12, H13, H14, H15, H16, H17⟩
  iexists Y12; iexists Y13; iexists Y14; iexists Y15; iexists Y16; iexists Y17
  isplitr
  · ipureintro
    intro h
    have e : seqAt (n + 1) = seqAt n + 1 := by unfold seqAt at h ⊢; omega
    rw [e]; exact hG (by omega)
  isplitl [H12]; · iexact H12
  isplitl [H13]; · iexact H13
  isplitl [H14]; · iexact H14
  isplitl [H15]; · iexact H15
  isplitl [H16]; · iexact H16
  iexact H17

/-- The scratch buffers at anything are the scratch before a sequence, -/
theorem scr_in (c : Dev nD) : (Pipeline.ΦA spec0 c : sProp 𝕄) ⊢ (dats m 0 c).Φ 0 := by
  show _ ⊢ iprop(Scr m c 0 0 ∗ ∃ r, prngReg c r)
  unfold Pipeline.ΦA Scr Scratch
  rw [scopedRest0_eq]
  iintro ⟨⟨⟨%Y12, H12⟩, ⟨%Y13, H13⟩, ⟨%Y14, H14⟩, ⟨%Y15, H15⟩, ⟨%Y16, H16⟩, ⟨%Y17, H17⟩⟩, HP⟩
  isplitr [HP]
  · iexists Y12; iexists Y13; iexists Y14; iexists Y15; iexists Y16; iexists Y17
    simp only [hold, owns_whole]
    isplitr
    · ipureintro; exact fun h => absurd rfl h
    isplitl [H12]; · iexact H12
    isplitl [H13]; · iexact H13
    isplitl [H14]; · iexact H14
    isplitl [H15]; · iexact H15
    isplitl [H16]; · iexact H16
    iexact H17
  iexact HP
/-- and the other way. -/
theorem scr_out (c : Dev nD) : (dats m 0 c).Φ (Fin.last cfg0.N) ⊢ (Pipeline.ΦA spec0 c : sProp 𝕄) := by
  show iprop(Scr m c _ _ ∗ ∃ r, prngReg c r) ⊢ _
  unfold Pipeline.ΦA Scr Scratch
  rw [scopedRest0_eq]
  simp only [hold, owns_whole]
  iintro ⟨⟨%Y12, %Y13, %Y14, %Y15, %Y16, %Y17, %hG, H12, H13, H14, H15, H16, H17⟩, HP⟩
  isplitr [HP]
  · isplitl [H12]; · iexists _; iexact H12
    isplitl [H13]; · iexists _; iexact H13
    isplitl [H14]; · iexists _; iexact H14
    isplitl [H15]; · iexists _; iexact H15
    isplitl [H16]; · iexists _; iexact H16
    iexists _; iexact H17
  iexact HP

/-- The printed body as `point_wp` has it. -/
theorem printed_at (t : Fin cfg0.N) :
    (seqAt t.val = 0 ∧ (bodyAt0 t : Prog (TpuEff nD τ sig (Elt F) Λ₀ .tc) PUnit) = (reset (Memref.whole cc0_scratch1) (Memref.isWhole_whole _) (Memref.whole cc0_scratch2)).bind fun _ =>
        rest (st0_0 t) (st0_1 t) (st0_2 t) (st0_3 t) (hstage0_3 ((cfg0.slots t 3).cast nbuf0_3)) (st0_4 t) (hstage0_4 ((cfg0.slots t 4).cast nbuf0_4)) (st0_5 t) (st0_6 t) (hstage0_6 ((cfg0.slots t 6).cast nbuf0_6)) (st0_7 t) (st0_8 t) (hstage0_8 ((cfg0.slots t 8).cast nbuf0_8)) (st0_9 t)
          (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
          lc (BitVec.ofNat 32 (seqAt t.val)) (cur (grid0.coords t)) (prev1 (grid0.coords t)) (prev2 (grid0.coords t)) (k0_cond2 (grid0.coords t)) (k0_cond3 (grid0.coords t)))
    ∨ (seqAt t.val ≠ 0 ∧ (bodyAt0 t : Prog (TpuEff nD τ sig (Elt F) Λ₀ .tc) PUnit) =
        rest (st0_0 t) (st0_1 t) (st0_2 t) (st0_3 t) (hstage0_3 ((cfg0.slots t 3).cast nbuf0_3)) (st0_4 t) (hstage0_4 ((cfg0.slots t 4).cast nbuf0_4)) (st0_5 t) (st0_6 t) (hstage0_6 ((cfg0.slots t 6).cast nbuf0_6)) (st0_7 t) (st0_8 t) (hstage0_8 ((cfg0.slots t 8).cast nbuf0_8)) (st0_9 t)
          (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
          lc (BitVec.ofNat 32 (seqAt t.val)) (cur (grid0.coords t)) (prev1 (grid0.coords t)) (prev2 (grid0.coords t)) (k0_cond2 (grid0.coords t)) (k0_cond3 (grid0.coords t))) := by
  rw [← coords_val]
  by_cases h : seqAt t.val = 0
  · refine .inl ⟨(coords_val t).trans h, ?_⟩
    exact printed_first (grid0.coords t) ((first_at t).mpr h) _ _ _ _ _ _ _ _ _ _ _ _ _ _ _ _ _ _ _ _ _ _ _ _ _ _ _ _ _ _ _ _
  · refine .inr ⟨fun e => h ((coords_val t).symm.trans e), ?_⟩
    exact printed_later (grid0.coords t) (fun e => h ((first_at t).mp e)) _ _ _ _ _ _ _ _ _ _ _ _ _ _ _ _ _ _ _ _ _ _ _ _ _ _ _ _ _ _ _ _

set_option maxHeartbeats 1000000 in
theorem body_obligation (c : Dev nD) : BodyObligation (dats m 0 c) (defs₀ (F := F)) Variants.none () Set.univ := fun t => by
  rw [bigSep_W0, bigSep_W0, defs₀_row]
  rw [show (dats m 0 c).Φ t.castSucc = iprop(Scr m c t.val (seqAt t.val) ∗ ∃ r, prngReg c r) from rfl,
    show (dats m 0 c).Φ t.succ = iprop(Scr m c (t.val + 1) (seqAt (t.val + 1)) ∗ ∃ r, prngReg c r) from rfl]
  unfold Dat.owesAt Pipeline.owesWithin
  rw [show (dats m 0 c).owed t.castSucc = 0 from rfl, show (dats m 0 c).owed t.succ = 0 from rfl]
  iintro ⟨⟨HS, HP⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_x, before_k, before_v]
  iapply (point_wp (st0_0 t) (st0_1 t) (st0_2 t) (st0_3 t) (hstage0_3 ((cfg0.slots t 3).cast nbuf0_3)) (st0_4 t) (hstage0_4 ((cfg0.slots t 4).cast nbuf0_4)) (st0_5 t) (st0_6 t) (hstage0_6 ((cfg0.slots t 6).cast nbuf0_6)) (st0_7 t) (st0_8 t) (hstage0_8 ((cfg0.slots t 8).cast nbuf0_8)) (st0_9 t)
    (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
    defs₀ c (bx m c) (bk m c) (bv m c) t.val (seqAt t.val) (seqAt_lt _) lc (cur (grid0.coords t)) (prev1 (grid0.coords t)) (prev2 (grid0.coords t))
    ((cur_val _).trans (by rw [coords_val])) ((prev1_val _).trans (by rw [coords_val])) ((prev2_val _).trans (by rw [coords_val]))
    (k0_cond2 (grid0.coords t)) (k0_cond3 (grid0.coords t)) (cond_at t) (bodyAt0 t) (printed_at t)
    ((dats m 0 c).before 3 t d3) ((dats m 0 c).before 4 t d4) ((dats m 0 c).before 5 t d5) ((dats m 0 c).before 6 t d6) ((dats m 0 c).before 7 t d7) ((dats m 0 c).before 8 t d8) ((dats m 0 c).before 9 t d9))
  isplitl [HS]; · iexact HS
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨HS, H0, H1, H2, H3, H4, H5, H6, H7, H8, H9⟩
  isplitl [HS HP]
  · isplitl [HS]
    · iapply (scr_next m c t.val); iexact HS
    iexact HP
  isplitl [HO]
  · iexists W; isplitr; · ipureintro; exact fun _ _ => Or.inl trivial
    iexact HO
  simp only [not_idle, show idle0 3 (grid0.coords t) = false from not_idle 3 t]
  rw [after0, after1, after2, after3, after4, after5, after6, after7, after8, after9]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ### The launch -/

/-- @main runs to the arrays as the pipeline's proof data has them, and the host lines after it, every counter zero. -/
theorem run_main : θ_run defs (onTc (τ := τ) (main (F := F))) (s₀ m ρ) fun r =>
    Pipeline.FramePost cfgs (dats m) 0 (Pipeline.afterTail₀ cfgs (dats m) 0 (V0 m) [hostOps1]) r ∧ r.2.sem = fun _ => 0 :=
  Pipeline.θ_run_frame_around_track cfgs (dats m) 0 launch0 defs₀ Variants.none m ρ main (fun c => (body_obligation m c).loose) (fun _ _ => ite_self _) (fun _ _ => rfl)
    (V0 m) [hostOps1] sfx_sub sfx_fresh sfx_keeps (hmain m Variants.none) (fun c w => A_eq m c w) (fun c => scr_in m c) (fun c => scr_out m c) _ (fun _ h => h)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (Gen.frame_of m ρ (dats m) (A_eq m)) (run_main m ρ)

end Cert.Gqa.KernelIdeal

end
-- ==== Proof.Frames.lean ====
/-
  The three programs' frames.
-/
module

public import proofs.«01_k».proof.Defs
public import proofs.«01_k».proof.Proof.Kernel.Run
public import proofs.«01_k».proof.Proof.KernelIdeal.Run
public import proofs.«01_k».proof.Proof.Gen.ReferenceIdeal.Frame

@[expose] public section

noncomputable section

namespace Cert.Proof

open Idealize.ShloMosaic Idealize.SL.Sem

theorem quiescent_kernel : Cert.quiescent_Kernel := fun m g _ => Cert.Gqa.Kernel.quiescent m g
theorem quiescent_kernelIdeal : Cert.quiescent_KernelIdeal := fun m g _ => Cert.Gqa.KernelIdeal.quiescent m g
theorem quiescent_referenceIdeal : Cert.quiescent_ReferenceIdeal := fun m g _ => Cert.ReferenceIdeal.Gen.frame m g
theorem quiescent_kernelIdeal_finite [Cert.Pre_finite.Facts] : Cert.quiescent_KernelIdeal_pre_finite := fun m g _ => Cert.Gqa.KernelIdeal.quiescent m g
theorem quiescent_referenceIdeal_finite [Cert.Pre_finite.Facts] : Cert.quiescent_ReferenceIdeal_pre_finite := fun m g _ => Cert.ReferenceIdeal.Gen.frame m g
theorem preserves : Cert.preserves_Kernel_KernelIdeal :=
  IdealRules.named_const.statement Cert.KernelIdeal.κ "log2e_16" .f32 0x3DB8AA3B#32 _ rfl

end Cert.Proof

end
-- ==== Proof.KernelIdeal.Results.lean ====
/-
  The idealized kernel's run with its results: the arrays as the pipeline leaves them, four of them transposed.
-/
module

public import proofs.«01_k».proof.Proof.KernelIdeal.Run
public import Idealize.ShloMosaic.Lib.StableHlo.Run
public import Idealize.ShloMosaic.Lib.Pipeline.FrameSuffix

@[expose] public section

set_option maxRecDepth 16384

noncomputable section

namespace Cert.Gqa.KernelIdeal

open Cert.KernelIdeal Cert.KernelIdeal.Gen
open Idealize.ShloMosaic Idealize.ShloMosaic.TcCoe Idealize.SL.Sem Idealize.ShloMosaic.StableHlo

variable {F : FTy → Type} [FloatOps F] [Named F]
variable (m : (ℓ : Loc nD τ sig) → Buf (Elt F) ℓ) (ρ : Dev nD → PrngReg)

/-- The contents when the pipeline is done. -/
abbrev exitV (c : Dev nD) : Valuation τ sig (Elt F) :=
  Pipeline.withArrays spec0 c (V0 m c) fun w => (dats m 0 c).arrAt w cfg0.N

theorem exit_qc (c : Dev nD) : exitV m c (Proc.devRef .tc main_v0_1) = (dats m 0 c).arrAt 4 cfg0.N :=
  Pipeline.withArrays_arr spec0 launch0.win.arr_inj c (V0 m c) _ 4
theorem exit_qs (c : Dev nD) : exitV m c (Proc.devRef .tc main_v0_2) = (dats m 0 c).arrAt 5 cfg0.N :=
  Pipeline.withArrays_arr spec0 launch0.win.arr_inj c (V0 m c) _ 5
theorem exit_ks (c : Dev nD) : exitV m c (Proc.devRef .tc main_v0_4) = (dats m 0 c).arrAt 7 cfg0.N :=
  Pipeline.withArrays_arr spec0 launch0.win.arr_inj c (V0 m c) _ 7
theorem exit_vs (c : Dev nD) : exitV m c (Proc.devRef .tc main_v0_6) = (dats m 0 c).arrAt 9 cfg0.N :=
  Pipeline.withArrays_arr spec0 launch0.win.arr_inj c (V0 m c) _ 9

/-- The transposed results. -/
def resQc (c : Dev nD) : (⟨S3x12288x20x256, .fp8e4m3⟩ : BufTy).Contents (Elt F) :=
  transpose S3x12288x20x256 [0, 2, 1, 3] ((dats m 0 c).arrAt 4 cfg0.N) transposes_S3x20x12288x256_S3x12288x20x256_0_2_1_3
def resQs (c : Dev nD) : (⟨S3x12288x20, .f32⟩ : BufTy).Contents (Elt F) :=
  transpose S3x12288x20 [0, 2, 1] ((dats m 0 c).arrAt 5 cfg0.N) transposes_S3x20x12288_S3x12288x20_0_2_1
def resKs (c : Dev nD) : (⟨S3x12288x4, .f32⟩ : BufTy).Contents (Elt F) :=
  transpose S3x12288x4 [0, 2, 1] ((dats m 0 c).arrAt 7 cfg0.N) transposes_S3x4x12288_S3x12288x4_0_2_1
def resVs (c : Dev nD) : (⟨S3x12288x4, .f32⟩ : BufTy).Contents (Elt F) :=
  transpose S3x12288x4 [0, 2, 1] ((dats m 0 c).arrAt 9 cfg0.N) transposes_S3x4x12288_S3x12288x4_0_2_1

theorem tail_qc (W : Valuation τ sig (Elt F)) : after (List.flatten [hostOps1]) W (Proc.devRef .tc main_v1)
    = transpose S3x12288x20x256 [0, 2, 1, 3] (W (Proc.devRef .tc main_v0_1)) transposes_S3x20x12288x256_S3x12288x20x256_0_2_1_3 := by
  simp only [hostOps1, List.flatten_cons, List.flatten_nil, List.append_nil, List.cons_append, List.nil_append]
  after_results_simp <;> rfl
theorem tail_qs (W : Valuation τ sig (Elt F)) : after (List.flatten [hostOps1]) W (Proc.devRef .tc main_v2)
    = transpose S3x12288x20 [0, 2, 1] (W (Proc.devRef .tc main_v0_2)) transposes_S3x20x12288_S3x12288x20_0_2_1 := by
  simp only [hostOps1, List.flatten_cons, List.flatten_nil, List.append_nil, List.cons_append, List.nil_append]
  after_results_simp <;> rfl
theorem tail_ks (W : Valuation τ sig (Elt F)) : after (List.flatten [hostOps1]) W (Proc.devRef .tc main_v3)
    = transpose S3x12288x4 [0, 2, 1] (W (Proc.devRef .tc main_v0_4)) transposes_S3x4x12288_S3x12288x4_0_2_1 := by
  simp only [hostOps1, List.flatten_cons, List.flatten_nil, List.append_nil, List.cons_append, List.nil_append]
  after_results_simp <;> rfl
theorem tail_vs (W : Valuation τ sig (Elt F)) : after (List.flatten [hostOps1]) W (Proc.devRef .tc main_v4)
    = transpose S3x12288x4 [0, 2, 1] (W (Proc.devRef .tc main_v0_6)) transposes_S3x4x12288_S3x12288x4_0_2_1 := by
  simp only [hostOps1, List.flatten_cons, List.flatten_nil, List.append_nil, List.cons_append, List.nil_append]
  after_results_simp <;> rfl

theorem fin_qc (c : Dev nD) : Pipeline.afterTail₀ cfgs (dats m) 0 (V0 m) [hostOps1] c main_v1 = resQc m c :=
  (tail_qc (exitV m c)).trans (by rw [exit_qc]; rfl)
theorem fin_qs (c : Dev nD) : Pipeline.afterTail₀ cfgs (dats m) 0 (V0 m) [hostOps1] c main_v2 = resQs m c :=
  (tail_qs (exitV m c)).trans (by rw [exit_qs]; rfl)
theorem fin_ks (c : Dev nD) : Pipeline.afterTail₀ cfgs (dats m) 0 (V0 m) [hostOps1] c main_v3 = resKs m c :=
  (tail_ks (exitV m c)).trans (by rw [exit_ks]; rfl)
theorem fin_vs (c : Dev nD) : Pipeline.afterTail₀ cfgs (dats m) 0 (V0 m) [hostOps1] c main_v4 = resVs m c :=
  (tail_vs (exitV m c)).trans (by rw [exit_vs]; rfl)

/-- Every execution ends with these results, the arguments unchanged. -/
theorem run : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v1) = resQc m c
      ∧ r.2.mem ((c.tc : Thread nD τ).loc main_v2) = resQs m c
      ∧ r.2.mem ((c.tc : Thread nD τ).loc main_v0_3) = (dats m 0 c).arrAt 6 cfg0.N
      ∧ r.2.mem ((c.tc : Thread nD τ).loc main_v3) = resKs m c
      ∧ r.2.mem ((c.tc : Thread nD τ).loc main_v0_5) = (dats m 0 c).arrAt 8 cfg0.N
      ∧ r.2.mem ((c.tc : Thread nD τ).loc main_v4) = resVs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h' c =>
    have h := h'.1
    ⟨(h c).1 3,
      ((h c).2 main_v1 (Pipeline.mem_restRefs_of main_v1 (by decide) (by decide))).trans (fin_qc m c),
      ((h c).2 main_v2 (Pipeline.mem_restRefs_of main_v2 (by decide) (by decide))).trans (fin_qs m c),
      (h c).1 6,
      ((h c).2 main_v3 (Pipeline.mem_restRefs_of main_v3 (by decide) (by decide))).trans (fin_ks m c),
      (h c).1 8,
      ((h c).2 main_v4 (Pipeline.mem_restRefs_of main_v4 (by decide) (by decide))).trans (fin_vs m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Gqa.KernelIdeal

end
-- ==== Proof.Value.Scale.lean ====
/-
  The scale of a row over the extended reals: the kernel's search over a power of two's bits finds the exponent that
  the reference takes by a logarithm and a floor.
-/
module

public import proofs.«01_k».proof.Proof.Point

@[expose] public section

noncomputable section

namespace Cert.Gqa

open Cert.KernelIdeal Cert.KernelIdeal.Gen
open Idealize.ShloMosaic

/-! ### The powers of two by their bits -/

/-- The word with exponent bits `n` and no others denotes `2 ^ (n - 127)`. -/
theorem ieee_pow (w : BitVec 32) (n : ℕ) (h1 : 1 ≤ n) (h2 : n ≤ 254) (e1 : (BitVec.extractLsb' (8 + 23) 1 w == 1#1) = false)
    (e2 : (BitVec.extractLsb' 23 8 w).toNat = n) (e3 : (BitVec.extractLsb' 0 23 w).toNat = 0) :
    Ideal.ieee 8 23 w = (((2 : ℝ) ^ ((n : ℤ) - 127) : ℝ) : EReal) := by
  unfold Ideal.ieee
  simp only [e1, e2, e3]
  rw [if_neg (by norm_num; omega), if_neg (by omega), EReal.coe_eq_coe_iff]
  simp only [Bool.false_eq_true, if_false, one_mul, Nat.add_zero]
  push_cast
  rw [show (8388608 : ℝ) = (2 : ℝ) ^ (23 : ℤ) by norm_num, ← zpow_add₀ (by norm_num)]
  congr 1; ring

theorem pow_bits (n : ℕ) (h1 : 1 ≤ n) (h2 : n ≤ 254) :
    Ideal.ofBits .f32 (BitVec.ofNat 32 n <<< 23) = (((2 : ℝ) ^ ((n : ℤ) - 127) : ℝ) : EReal) := by
  have hb : ∀ n : Fin 255, (BitVec.extractLsb' (8 + 23) 1 (BitVec.ofNat 32 n.val <<< 23) == 1#1) = false
      ∧ (BitVec.extractLsb' 23 8 (BitVec.ofNat 32 n.val <<< 23)).toNat = n.val
      ∧ (BitVec.extractLsb' 0 23 (BitVec.ofNat 32 n.val <<< 23)).toNat = 0 := by decide +kernel
  have := hb ⟨n, by omega⟩
  exact ieee_pow _ n h1 h2 this.1 this.2.1 this.2.2

/-- The word with all exponent bits is above every real. -/
theorem pow_bits_top : Ideal.ofBits .f32 (BitVec.ofNat 32 255 <<< 23) = ⊤ := by
  show Ideal.ieee 8 23 0x7F800000#32 = ⊤
  simp [Ideal.ieee]

theorem select_false {α : Type} (x y : α) : Scalar.select (0#1) x y = y := rfl
theorem select_true {α : Type} (x y : α) : Scalar.select (1#1) x y = x := rfl
theorem select_ofBool {α : Type} (b : Bool) (x y : α) : Scalar.select (BitVec.ofBool b) x y = if b then x else y := by cases b <;> rfl
theorem cmp_oge (x y : EReal) : Ideal.cmp .oge x y = BitVec.ofBool (decide (y ≤ x)) := rfl
theorem cmp_oeq (x y : EReal) : Ideal.cmp .oeq x y = BitVec.ofBool (decide (x = y)) := rfl

/-! ### The search -/

/-- What the power of exponent bits `n` denotes, as the search sees it. -/
def pw (n : ℕ) : EReal := Ideal.ofBits .f32 (BitVec.ofNat 32 n <<< 23)

/-- Where the search stands: `b` is `n`, no power up to it is above `t` and the power `2 k` further is. -/
def Found (t : EReal) (k : ℕ) (b : IVec S0 32) : Prop :=
  ∃ n : ℕ, b = (fun _ => BitVec.ofNat 32 n) ∧ n + k ≤ 256 ∧ (n = 0 ∨ pw n ≤ t) ∧ (n + k = 256 ∨ t < pw (n + k))

theorem found_step {t : EReal} {k : ℕ} {b : IVec S0 32} (h : Found t (2 * k) b) : Found t k (expStep (F := Ideal) (s := S0) (fun _ => t) (BitVec.ofNat 32 k) b) := by
  obtain ⟨n, rfl, h1, h2, h3⟩ := h
  have hs : (fun _ : S0.Idx => BitVec.ofNat 32 n + BitVec.ofNat 32 k) = fun _ => BitVec.ofNat 32 (n + k) := funext fun _ => (BitVec.ofNat_add n k).symm
  have e : expStep (F := Ideal) (s := S0) (fun _ => t) (BitVec.ofNat 32 k) (fun _ => BitVec.ofNat 32 n)
      = fun _ => if pw (n + k) ≤ t then BitVec.ofNat 32 (n + k) else BitVec.ofNat 32 n := by
    funext j
    show Scalar.select (Ideal.cmp .oge t (Ideal.ofBits .f32 ((BitVec.ofNat 32 n + BitVec.ofNat 32 k) <<< 23))) (BitVec.ofNat 32 n + BitVec.ofNat 32 k) _ = _
    rw [cmp_oge, select_ofBool, ← BitVec.ofNat_add]
    simp only [decide_eq_true_eq]; rfl
  rw [e]
  by_cases hp : pw (n + k) ≤ t
  · simp only [if_pos hp]
    exact ⟨n + k, rfl, by omega, .inr hp, by rw [show n + k + k = n + 2 * k by ring]; exact h3⟩
  · simp only [if_neg hp]
    exact ⟨n, rfl, by omega, h2, .inr (not_le.1 hp)⟩

theorem found (t : EReal) : Found t 1 (expBits (F := Ideal) (s := S0) fun _ => t) :=
  found_step (k := 1) <| found_step (k := 2) <| found_step (k := 4) <| found_step (k := 8) <| found_step (k := 16) <|
    found_step (k := 32) <| found_step (k := 64) <| found_step (k := 128) ⟨0, rfl, by norm_num, .inl rfl, .inl rfl⟩

/-! ### The exponent by a logarithm -/

/-- The reference's exponent of a row whose greatest magnitude over 448 is `t`. -/
def refExp (t : EReal) : EReal :=
  if t = 0 then 0 else max (Ideal.liftRound Int.floor (Ideal.div (Ideal.log t) (Ideal.log 2)) + 1) (((-126 : ℝ)) : EReal)

theorem log_two : Ideal.log 2 = ((Real.log 2 : ℝ) : EReal) := by
  rw [show (2 : EReal) = ((2 : ℝ) : EReal) from rfl, Ideal.log_coe, if_neg (by norm_num)]

theorem refExp_of {t : ℝ} (h : 0 < t) : refExp t = ((max (⌊Real.log t / Real.log 2⌋ + 1 : ℝ) (-126) : ℝ) : EReal) := by
  have h2 : Real.log 2 ≠ 0 := (Real.log_pos (by norm_num)).ne'
  rw [refExp, if_neg (by exact_mod_cast h.ne'), log_two, Ideal.log_coe, if_neg (not_le.2 h), Ideal.div_coe h2, ← EReal.coe_mul,
    mul_one_div, Ideal.liftRound_coe, ← EReal.coe_one, ← EReal.coe_add, EReal.coe_strictMono.monotone.map_max]

/-- Both find one exponent, between -126 and 120. -/
theorem exp_agree {t : ℝ} (h0 : 0 ≤ t) (h1 : t < (2 : ℝ) ^ (120 : ℤ)) :
    ∃ e : ℤ, -126 ≤ e ∧ e ≤ 120 ∧ expOf (F := Ideal) (s := S0) (fun _ => ((t : ℝ) : EReal)) (fun a => a.elim0) = BitVec.ofInt 32 e ∧ refExp t = ((e : ℝ) : EReal) := by
  have es : expOf (F := Ideal) (s := S0) (fun _ => ((t : ℝ) : EReal)) (fun a => a.elim0)
      = if (t : EReal) = 0 then 0#32 else expBits (F := Ideal) (s := S0) (fun _ => ((t : ℝ) : EReal)) (fun a => a.elim0) - 126#32 := by
    show Scalar.select (Ideal.cmp .oeq (t : EReal) (Ideal.ofBits .f32 0x00000000#32)) (0#32) (_ - 126#32) = _
    rw [Ideal.ofBits_zero_f32, cmp_oeq, select_ofBool]; simp only [decide_eq_true_eq]
  rcases h0.eq_or_lt with rfl | hp
  · exact ⟨0, by norm_num, by norm_num, by rw [es, if_pos (by simp)]; rfl, by rw [refExp, if_pos (by simp)]; simp⟩
  obtain ⟨n, hb, hn, hlo, hhi⟩ := found (t : EReal)
  rw [es, if_neg (by exact_mod_cast hp.ne'), hb]
  have h2 : (0 : ℝ) < Real.log 2 := Real.log_pos (by norm_num)
  have hlog : Real.log t / Real.log 2 < 120 := by
    rw [div_lt_iff₀ h2]
    calc Real.log t < Real.log ((2 : ℝ) ^ (120 : ℤ)) := Real.log_lt_log hp h1
      _ = 120 * Real.log 2 := by rw [Real.log_zpow]; norm_num
  have lo : n ≠ 0 → n ≤ 254 → ((n : ℝ) - 127) ≤ Real.log t / Real.log 2 := by
    intro hn0 hn4
    have hl := hlo.resolve_left hn0
    rw [pw, pow_bits n (by omega) hn4, EReal.coe_le_coe_iff] at hl
    rw [le_div_iff₀ h2]
    calc ((n : ℝ) - 127) * Real.log 2 = Real.log ((2 : ℝ) ^ ((n : ℤ) - 127)) := by rw [Real.log_zpow]; push_cast; ring
      _ ≤ Real.log t := Real.log_le_log (by positivity) hl
  have hn255 : n ≠ 255 := by
    rintro rfl
    have := hlo.resolve_left (by norm_num)
    rw [pw, pow_bits_top] at this
    exact absurd this (by simp)
  have hn246 : n ≤ 246 := by
    by_contra hc
    have := lo (by omega) (by omega)
    have h3 : (247 : ℝ) ≤ n := by exact_mod_cast (by omega : 247 ≤ n)
    linarith
  have hi : Real.log t / Real.log 2 < (n : ℝ) - 126 := by
    have hh := hhi.resolve_left (by omega)
    rw [pw, pow_bits (n + 1) (by omega) (by omega), EReal.coe_lt_coe_iff] at hh
    rw [div_lt_iff₀ h2]
    calc Real.log t < Real.log ((2 : ℝ) ^ (((n + 1 : ℕ) : ℤ) - 127)) := Real.log_lt_log hp hh
      _ = ((n : ℝ) - 126) * Real.log 2 := by rw [Real.log_zpow]; push_cast; ring
  refine ⟨(n : ℤ) - 126, by omega, by omega, ?_, ?_⟩
  · have : ∀ k : Fin 247, BitVec.ofNat 32 k.val - 126#32 = BitVec.ofInt 32 ((k.val : ℤ) - 126) := by decide +kernel
    exact this ⟨n, by omega⟩
  · rw [refExp_of hp, EReal.coe_eq_coe_iff]
    by_cases hz : n = 0
    · subst hz
      have : ⌊Real.log t / Real.log 2⌋ ≤ -127 := by
        rw [← Int.lt_add_one_iff, Int.floor_lt]; push_cast at hi ⊢; linarith
      have h3 : ((⌊Real.log t / Real.log 2⌋ : ℤ) : ℝ) ≤ -127 := by exact_mod_cast this
      rw [max_eq_right (by linarith)]; norm_num
    · have hf : ⌊Real.log t / Real.log 2⌋ = (n : ℤ) - 127 := by
        rw [Int.floor_eq_iff]; push_cast
        exact ⟨lo hz (by omega), by linarith⟩
      rw [hf]; push_cast
      rw [max_eq_left]
      · ring
      · have : (1 : ℝ) ≤ n := by exact_mod_cast Nat.one_le_iff_ne_zero.2 hz
        linarith

/-! ### The scale and its reciprocal -/

/-- One element's reciprocal scale. -/
def inv1 {F : FTy → Type} [FloatOps F] (t : F .f32) : F .f32 := invOf (s := S0) (fun _ => t) (fun a => a.elim0)

theorem neg_pow_at {F : FTy → Type} [FloatOps F] {s : Shape} (e : IVec s 32) (i : s.Idx) :
    bitcastToFloat (F := F) .f32 (shli (subi (broadcast s 127#32) e) (broadcast s 23#32)) i
      = bitcastToFloat (F := F) .f32 (shli (subi (broadcast S0 127#32) (fun _ : S0.Idx => e i)) (broadcast S0 23#32)) (fun a => a.elim0) := rfl
theorem invOf_at {F : FTy → Type} [FloatOps F] {s : Shape} (a : FVec F s .f32) (i : s.Idx) : invOf a i = inv1 (a i) := by
  unfold inv1 invOf
  rw [neg_pow_at]
  have e : expOf (over448 a) i = expOf (s := S0) (over448 fun _ => a i) (fun a => a.elim0) := expOf_at _ _
  rw [e]
  have e' : (fun _ : S0.Idx => expOf (s := S0) (over448 fun _ => a i) (fun a => a.elim0)) = expOf (s := S0) (over448 fun _ => a i) :=
    funext fun j => congrArg _ (funext fun a => a.elim0)
  rw [e']

/-- One over 448, as the programs have it. -/
def c448 : EReal := Ideal.ofBits .f32 0x3B124925#32

theorem c448_real : ∃ r : ℝ, c448 = r ∧ 0 < r ∧ r < 1 / 256 := by
  refine ⟨(9586981 : ℝ) * (2 : ℝ) ^ (-32 : ℤ), ?_, ?_, ?_⟩
  · rw [c448]; simp [Ideal.ofBits, Ideal.ieee, -EReal.coe_mul]
  · norm_num
  · norm_num

/-- A scale and its reciprocal are the reference's powers of two. -/
theorem scale_agree {a : ℝ} (h0 : 0 ≤ a) (h1 : a ≤ (2 : ℝ) ^ (128 : ℤ)) :
    ∃ e : ℤ, -126 ≤ e ∧ e ≤ 120 ∧ scale1 (F := Ideal) (a : EReal) = (((2 : ℝ) ^ e : ℝ) : EReal) ∧ inv1 (F := Ideal) (a : EReal) = (((2 : ℝ) ^ (-e) : ℝ) : EReal)
      ∧ refExp ((a : EReal) * c448) = ((e : ℝ) : EReal) := by
  obtain ⟨r, hr, r0, r1⟩ := c448_real
  have hlt : a * r < (2 : ℝ) ^ (120 : ℤ) := by
    calc a * r ≤ (2 : ℝ) ^ (128 : ℤ) * r := by gcongr
      _ < (2 : ℝ) ^ (128 : ℤ) * (1 / 256) := by gcongr
      _ = (2 : ℝ) ^ (120 : ℤ) := by norm_num
  obtain ⟨e, l, u, he, hf⟩ := exp_agree (mul_nonneg h0 r0.le) hlt
  have hm : (over448 (F := Ideal) (s := S0) fun _ => (a : EReal)) = fun _ => ((a * r : ℝ) : EReal) := by
    funext j
    show (a : EReal) * c448 = _
    rw [hr, EReal.coe_mul]
  have w1 : ∀ e : Fin 247, BitVec.ofInt 32 ((e.val : ℤ) - 126) + 127#32 = BitVec.ofNat 32 (e.val + 1) := by decide +kernel
  have w2 : ∀ e : Fin 247, 127#32 - BitVec.ofInt 32 ((e.val : ℤ) - 126) = BitVec.ofNat 32 (253 - e.val) := by decide +kernel
  obtain ⟨k, rfl⟩ : ∃ k : ℕ, e = (k : ℤ) - 126 := ⟨(e + 126).toNat, by omega⟩
  refine ⟨(k : ℤ) - 126, l, u, ?_, ?_, ?_⟩
  · show Ideal.ofBits .f32 ((expOf (F := Ideal) (over448 (F := Ideal) (s := S0) fun _ => (a : EReal)) (fun a => a.elim0) + 127#32) <<< 23) = _
    rw [hm, he, w1 ⟨k, by omega⟩, pow_bits _ (by omega) (by simp only; omega)]
    congr 2; push_cast; ring
  · show Ideal.ofBits .f32 ((127#32 - expOf (F := Ideal) (over448 (F := Ideal) (s := S0) fun _ => (a : EReal)) (fun a => a.elim0)) <<< 23) = _
    rw [hm, he, w2 ⟨k, by omega⟩, pow_bits _ (by simp only; omega) (by simp only; omega)]
    congr 2; simp only; omega
  · rw [hr, ← EReal.coe_mul]; exact hf

end Cert.Gqa
-- ==== Proof.Value.Rows.lean ====
/-
  One row's codes and scale over the extended reals, as both programs compute them.
-/
module

public import proofs.«01_k».proof.Proof.Value.Scale
public import proofs.«01_k».proof.Proof.Gen.ReferenceIdeal

@[expose] public section

set_option maxRecDepth 16384

noncomputable section

namespace Cert.Gqa

open Cert.KernelIdeal Cert.KernelIdeal.Gen
open Idealize.ShloMosaic

/-- A row's greatest magnitude. -/
def rowMax (f : Fin 256 → EReal) : EReal := (Finset.univ : Finset (Fin 256)).fold max ⊥ fun k => max (f k) (-f k)

/-- A row's scale, its reciprocal, and a row's codes. -/
def rowScale (f : Fin 256 → EReal) : EReal := scale1 (F := Ideal) (rowMax f)
def rowInv (f : Fin 256 → EReal) : EReal := inv1 (F := Ideal) (rowMax f)
def rowCode (f : Fin 256 → EReal) (k : Fin 256) : EReal := min (Ideal.ofBits .f32 0x43E00000#32) (max (Ideal.ofBits .f32 0xC3E00000#32) (f k * rowInv f))

/-- The row's values are reals not above the type's largest. -/
def Tame (f : Fin 256 → EReal) : Prop := ∀ k, ∃ r : ℝ, f k = r ∧ |r| ≤ (2 : ℝ) ^ (128 : ℤ)

theorem fold_max_real {ι : Type} (s : Finset ι) (hs : s.Nonempty) (g : ι → EReal) (B : ℝ) (h : ∀ k ∈ s, ∃ r : ℝ, g k = r ∧ 0 ≤ r ∧ r ≤ B) :
    ∃ r : ℝ, s.fold max ⊥ g = r ∧ 0 ≤ r ∧ r ≤ B := by
  classical
  induction hs using Finset.Nonempty.cons_induction with
  | singleton a =>
    obtain ⟨r, hr, h0, h1⟩ := h a (by simp)
    exact ⟨r, by simp [hr], h0, h1⟩
  | cons a s ha hs ih =>
    obtain ⟨r, hr, h0, h1⟩ := h a (by simp)
    obtain ⟨q, hq, q0, q1⟩ := ih fun k hk => h k (by simp [hk])
    exact ⟨max r q, by rw [Finset.fold_cons, hr, hq, EReal.coe_strictMono.monotone.map_max], le_max_of_le_left h0, max_le h1 q1⟩

theorem rowMax_real {f : Fin 256 → EReal} (h : Tame f) : ∃ r : ℝ, rowMax f = r ∧ 0 ≤ r ∧ r ≤ (2 : ℝ) ^ (128 : ℤ) :=
  fold_max_real _ Finset.univ_nonempty _ _ fun k _ => by
    obtain ⟨r, hr, hb⟩ := h k
    refine ⟨|r|, ?_, abs_nonneg r, hb⟩
    rw [hr, ← EReal.coe_neg, ← EReal.coe_strictMono.monotone.map_max]; rfl

/-- Both programs' scales of a row, and the reciprocals, are one power of two and its inverse. -/
theorem row_agree {f : Fin 256 → EReal} (h : Tame f) :
    ∃ σ : ℝ, 0 < σ ∧ rowScale f = σ ∧ rowInv f = ((σ⁻¹ : ℝ) : EReal) ∧ Ideal.exp2 (refExp (rowMax f * c448)) = σ
      ∧ Ideal.exp2 (0 - refExp (rowMax f * c448)) = ((σ⁻¹ : ℝ) : EReal) := by
  obtain ⟨a, ha, h0, h1⟩ := rowMax_real h
  obtain ⟨e, _, _, hs, hi, hr⟩ := scale_agree h0 h1
  have hp : ∀ z : ℤ, Real.rpow 2 (z : ℝ) = (2 : ℝ) ^ z := fun z => Real.rpow_intCast 2 z
  refine ⟨(2 : ℝ) ^ e, by positivity, ?_, ?_, ?_, ?_⟩
  · rw [rowScale, ha, hs]
  · rw [rowInv, ha, hi, zpow_neg]
  · rw [ha, hr, Ideal.exp2_coe, hp]
  · rw [ha, hr, zero_sub, ← EReal.coe_neg, Ideal.exp2_coe, ← Int.cast_neg, hp, zpow_neg]

/-- A row's codes are reals. -/
theorem rowCode_real {f : Fin 256 → EReal} (h : Tame f) (k : Fin 256) : ∃ r : ℝ, rowCode f k = r := by
  obtain ⟨σ, _, _, hi, _⟩ := row_agree h
  obtain ⟨r, hr, _⟩ := h k
  have e1 : Ideal.ofBits .f32 0x43E00000#32 = ((448 : ℝ) : EReal) := by simp [Ideal.ofBits, Ideal.ieee, -EReal.coe_mul]; norm_num
  have e2 : Ideal.ofBits .f32 0xC3E00000#32 = ((-448 : ℝ) : EReal) := by simp [Ideal.ofBits, Ideal.ieee, -EReal.coe_mul]; norm_num
  exact ⟨min 448 (max (-448) (r * σ⁻¹)), by
    rw [rowCode, hi, hr, e1, e2, ← EReal.coe_mul, ← EReal.coe_strictMono.monotone.map_max, ← EReal.coe_strictMono.monotone.map_min]⟩

/-! ### The kernel's blocks by rows -/

/-- A block's row. -/
def brow (x : FVec Ideal S256x256 .bf16) (r : Fin 256) : Fin 256 → EReal := fun k => x (ix2 r k)

theorem ofBits_neg_inf : Ideal.ofBits .f32 0xFF800000#32 = ⊥ := by simp [Ideal.ofBits, Ideal.ieee]

theorem amaxOf_at (x : FVec Ideal S256x256 .bf16) (r : Fin 256) : amaxOf x (ix2 r 0) = rowMax (brow x r) := by
  unfold amaxOf
  pointwise
  rw [ofBits_neg_inf]; rfl

theorem codesOf_at (x : FVec Ideal S256x256 .bf16) (r k : Fin 256) : codesOf x (ix2 r k) = rowCode (brow x r) k := by
  unfold codesOf
  pointwise
  rw [invOf_at, amaxOf_at]; rfl

theorem kscaleOf_at (x : FVec Ideal S256x256 .bf16) (r : Fin 256) (k : Fin 128) : kscaleOf x (ix2 r k) = rowScale (brow x r) := by
  unfold kscaleOf
  pointwise
  rw [scaleOf_at, amaxOf_at]; rfl

theorem vringOf_at (x : FVec Ideal S256x256 .bf16) (d r : Fin 256) : vringOf x (ix2 d r) = rowCode (brow x r) d * rowScale (brow x r) := by
  unfold vringOf
  pointwise
  rw [codesOf_at, scaleOf_at, amaxOf_at]; rfl

end Cert.Gqa
-- ==== Proof.Value.Softmax.lean ====
/-
  A softmax-weighted mean over the extended reals, by powers of two or by exponentials, shifted by any upper bound of
  the logits: both are the mean over the reals, and capping the weights at 448 changes nothing.
-/
module

public import proofs.«01_k».proof.Proof.Value.Rows

@[expose] public section

noncomputable section

namespace Cert.Gqa

open Idealize.ShloMosaic

theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

theorem min_coe (a b : ℝ) : min (a : EReal) (b : EReal) = ((min a b : ℝ) : EReal) := (EReal.coe_strictMono.monotone.map_min).symm

/-- The mean of `b` over the places in `S`, weighted by the exponentials of `a`. -/
def softMean {J : Type} [Fintype J] (S : J → Prop) [DecidablePred S] (a b : J → ℝ) : ℝ :=
  (∑ j ∈ Finset.univ.filter S, Real.exp (a j) * b j) / ∑ j ∈ Finset.univ.filter S, Real.exp (a j)

/-- The mean depends on its places through a matching only. -/
theorem softMean_match {J T : Type} [Fintype J] [Fintype T] (S : J → Prop) [DecidablePred S] (W : T → Prop) [DecidablePred W] (a b : J → ℝ) (a' b' : T → ℝ)
    (f : J → T) (g : T → J) (hf : ∀ j, S j → W (f j)) (hg : ∀ t, W t → S (g t)) (hgf : ∀ j, S j → g (f j) = j) (hfg : ∀ t, W t → f (g t) = t)
    (ha : ∀ j, S j → a j = a' (f j)) (hb : ∀ j, S j → b j = b' (f j)) : softMean S a b = softMean W a' b' := by
  unfold softMean
  have key : ∀ (F : J → ℝ) (G : T → ℝ), (∀ j, S j → F j = G (f j)) → ∑ j ∈ Finset.univ.filter S, F j = ∑ t ∈ Finset.univ.filter W, G t := by
    intro F G h
    refine Finset.sum_nbij' f g ?_ ?_ ?_ ?_ ?_ <;> intro j hj <;> simp only [Finset.mem_filter, Finset.mem_univ, true_and] at hj ⊢
    · exact hf j hj
    · exact hg j hj
    · exact hgf j hj
    · exact hfg j hj
    · exact h j hj
  rw [key _ (fun t => Real.exp (a' t) * b' t) fun j hj => by rw [ha j hj, hb j hj], key _ (fun t => Real.exp (a' t)) fun j hj => by rw [ha j hj]]

theorem cancel (K N D : ℝ) (hK : K ≠ 0) (hD : D ≠ 0) : K * N * (1 / (K * D)) = N / D := by field_simp

section Mean
variable {J : Type} [Fintype J] (S : J → Prop) [DecidablePred S]

theorem ratio {a : J → ℝ} (hS : ∃ j, S j) (K : ℝ) (hK : 0 < K) (b : J → ℝ) :
    (∑ j ∈ Finset.univ.filter S, Real.exp (a j)) ≠ 0
    ∧ (∑ j, if S j then K * Real.exp (a j) else 0) = K * ∑ j ∈ Finset.univ.filter S, Real.exp (a j)
    ∧ (∑ j, if S j then K * Real.exp (a j) * b j else 0) = K * ∑ j ∈ Finset.univ.filter S, Real.exp (a j) * b j := by
  obtain ⟨j0, h0⟩ := hS
  refine ⟨ne_of_gt (Finset.sum_pos (fun j _ => Real.exp_pos _) ⟨j0, by simpa using h0⟩), ?_, ?_⟩
  · rw [Finset.mul_sum, ← Finset.sum_filter]
  · rw [Finset.mul_sum, ← Finset.sum_filter]
    exact Finset.sum_congr rfl fun j _ => by ring

/-- A weight by a power of two. -/
theorem pow_weight (a c M : ℝ) (hc : 0 < c) :
    Ideal.exp2 (((a : EReal) - ((M : EReal) - Ideal.div (8 : ℝ) (c : EReal))) * (c : EReal)) = ((256 * Real.exp (-(M * c * Real.log 2)) * Real.exp (a * c * Real.log 2) : ℝ) : EReal) := by
  rw [Ideal.div_coe hc.ne', ← EReal.coe_mul, ← EReal.coe_sub, ← EReal.coe_sub, ← EReal.coe_mul, Ideal.exp2_coe]
  congr 1
  have e : (a - (M - 8 * (1 / c))) * c = 8 + (a - M) * c := by field_simp; ring
  rw [e]
  show (2 : ℝ) ^ (8 + (a - M) * c) = _
  rw [Real.rpow_add (by norm_num), mul_assoc, ← Real.exp_add, Real.rpow_def_of_pos (by norm_num : (0 : ℝ) < 2) ((a - M) * c)]
  congr 1
  · norm_num
  · congr 1; ring

theorem bot_weight (c M : ℝ) (hc : 0 < c) : Ideal.exp2 (((⊥ : EReal) - ((M : EReal) - Ideal.div (8 : ℝ) (c : EReal))) * (c : EReal)) = 0 := by
  rw [Ideal.div_coe hc.ne', ← EReal.coe_mul, ← EReal.coe_sub, EReal.bot_sub, EReal.bot_mul_coe_of_pos hc, Ideal.exp2_bot]

/-- By powers of two, with the weights at most 256. -/
theorem mean_pow (x u : J → EReal) (a b : J → ℝ) (hx : ∀ j, x j = if S j then (a j : EReal) else ⊥) (hu : ∀ j, u j = b j)
    (M c : ℝ) (hc : 0 < c) (hM : ∀ j, S j → a j ≤ M) (hS : ∃ j, S j) :
    (∑ j, u j * min (Ideal.exp2 ((x j - ((M : EReal) - Ideal.div (8 : ℝ) (c : EReal))) * (c : EReal))) ((448 : ℝ) : EReal))
      * Ideal.div 1 (∑ j, Ideal.exp2 ((x j - ((M : EReal) - Ideal.div (8 : ℝ) (c : EReal))) * (c : EReal)))
    = ((softMean S (fun j => a j * c * Real.log 2) b : ℝ) : EReal) := by
  set K : ℝ := 256 * Real.exp (-(M * c * Real.log 2)) with hK
  have Kp : 0 < K := by positivity
  have hp : ∀ j, Ideal.exp2 ((x j - ((M : EReal) - Ideal.div (8 : ℝ) (c : EReal))) * (c : EReal)) = ((if S j then K * Real.exp (a j * c * Real.log 2) else 0 : ℝ) : EReal) := by
    intro j
    rw [hx]
    split
    · exact pow_weight _ _ _ hc
    · rw [bot_weight _ _ hc]; rfl
  have hle : ∀ j, (if S j then K * Real.exp (a j * c * Real.log 2) else 0 : ℝ) ≤ 448 := by
    intro j
    split
    · next h =>
      rw [hK, mul_assoc, ← Real.exp_add]
      have : -(M * c * Real.log 2) + a j * c * Real.log 2 ≤ 0 := by
        have : (a j - M) * (c * Real.log 2) ≤ 0 := mul_nonpos_of_nonpos_of_nonneg (by linarith [hM j h]) (mul_nonneg hc.le (Real.log_nonneg (by norm_num)))
        nlinarith
      have := Real.exp_le_one_iff.mpr this
      linarith
    · norm_num
  obtain ⟨h0, h1, h2⟩ := ratio S (a := fun j => a j * c * Real.log 2) hS K Kp b
  simp only [hp, hu, min_coe, min_eq_left (hle _), ← EReal.coe_mul, sum_coe]
  have h3 : (∑ j, b j * if S j then K * Real.exp (a j * c * Real.log 2) else 0) = ∑ j, if S j then K * Real.exp (a j * c * Real.log 2) * b j else 0 :=
    Finset.sum_congr rfl fun j _ => by split <;> ring
  rw [h3, h2, h1, Ideal.div_coe (mul_ne_zero Kp.ne' h0), one_mul, ← EReal.coe_mul]
  exact congrArg _ (cancel _ _ _ Kp.ne' h0)

/-- By exponentials, scaled to 256 and back. -/
theorem mean_exp (x u w : J → EReal) (a b v : J → ℝ) (hx : ∀ j, x j = if S j then (a j : EReal) else ⊥) (hu : ∀ j, u j = b j) (hw : ∀ j, w j = v j)
    (M : ℝ) (hM : ∀ j, S j → a j ≤ M) (hS : ∃ j, S j) :
    Ideal.div (∑ j, u j * (min (Ideal.exp (x j - (M : EReal)) * ((256 : ℝ) : EReal)) ((448 : ℝ) : EReal) * w j))
      (((256 : ℝ) : EReal) * ∑ j, Ideal.exp (x j - (M : EReal)))
    = ((softMean S a (fun j => b j * v j) : ℝ) : EReal) := by
  have hp : ∀ j, Ideal.exp (x j - (M : EReal)) = ((if S j then Real.exp (-M) * Real.exp (a j) else 0 : ℝ) : EReal) := by
    intro j
    rw [hx]
    split
    · rw [← EReal.coe_sub, Ideal.exp_coe, ← Real.exp_add, neg_add_eq_sub]
    · rw [EReal.bot_sub, Ideal.exp_bot]; rfl
  have hle : ∀ j, (if S j then Real.exp (-M) * Real.exp (a j) else 0 : ℝ) * 256 ≤ 448 := by
    intro j
    split
    · next h =>
      rw [← Real.exp_add]
      have := Real.exp_le_one_iff.mpr (show -M + a j ≤ 0 by linarith [hM j h])
      linarith
    · norm_num
  obtain ⟨h0, h1, h2⟩ := ratio S (a := a) hS (Real.exp (-M)) (Real.exp_pos _) fun j => b j * v j
  simp only [hp, hu, hw, ← EReal.coe_mul, min_coe, min_eq_left (hle _), sum_coe]
  have h3 : (∑ j, b j * ((if S j then Real.exp (-M) * Real.exp (a j) else 0) * 256 * v j)) = 256 * ∑ j, if S j then Real.exp (-M) * Real.exp (a j) * (b j * v j) else 0 := by
    rw [Finset.mul_sum]
    exact Finset.sum_congr rfl fun j _ => by split <;> ring
  have hm : Real.exp (-M) ≠ 0 := (Real.exp_pos _).ne'
  rw [h3, h2, h1, Ideal.div_coe (mul_ne_zero (by norm_num) (mul_ne_zero hm h0)), ← EReal.coe_mul]
  congr 1
  unfold softMean
  field_simp

end Mean

/-- A greatest element over extended reals below infinity, one of them real, is real and above every one. -/
theorem fold_real {ι : Type} (s : Finset ι) (f : ι → EReal) (hlt : ∀ j ∈ s, f j < ⊤) (j0 : ι) (hj : j0 ∈ s) (h0 : ⊥ < f j0) :
    ∃ M : ℝ, s.fold max ⊥ f = M ∧ ∀ j ∈ s, f j ≤ M := by
  have hb : ∀ j ∈ s, f j ≤ s.fold max ⊥ f := fun j h => (Finset.le_fold_max _).mpr (.inr ⟨j, h, le_rfl⟩)
  have h1 : s.fold max ⊥ f < ⊤ := (Finset.fold_max_lt _).mpr ⟨bot_lt_top, hlt⟩
  have h2 : s.fold max ⊥ f ≠ ⊥ := (lt_of_lt_of_le h0 (hb j0 hj)).ne'
  have e := EReal.coe_toReal h1.ne h2
  exact ⟨_, e.symm, fun j h => e ▸ hb j h⟩

end Cert.Gqa
-- ==== Proof.Value.Half.lean ====
/-
  One head's columns at an index. The kernel splits a block of 256 queries into two halves of 128 columns, and keeps,
  for each, one triangle of keys that holds the window's first and last keys at once, a half block and a whole block.
  Here those three pieces are the logits of three blocks of keys, minus infinity outside the window.
-/
module

public import proofs.«01_k».proof.Proof.Value.Softmax
public import proofs.«01_k».proof.Proof.Point
public import Idealize.ShloMosaic.Lib.Pipeline.ValueKit

@[expose] public section

set_option maxRecDepth 16384

noncomputable section

namespace Cert.Gqa

open Cert.KernelIdeal Cert.KernelIdeal.Gen
open Idealize.ShloMosaic

/-- A half's row or column among a block's. -/
abbrev lo (a : Fin 128) : Fin 256 := ⟨a.val, by omega⟩
abbrev hi (a : Fin 128) : Fin 256 := ⟨128 + a.val, by omega⟩

theorem lo_or_hi (r : Fin 256) : (∃ a, r = lo a) ∨ ∃ a, r = hi a := by
  by_cases h : r.val < 128
  · exact .inl ⟨⟨r.val, h⟩, rfl⟩
  · exact .inr ⟨⟨r.val - 128, by omega⟩, Fin.ext (show r.val = 128 + (r.val - 128) by omega)⟩

theorem sum_halves (f : Fin 256 → EReal) : ∑ r, f r = ∑ a : Fin 128, (f (lo a) + f (hi a)) := by
  rw [show ∑ r, f r = (∑ a : Fin 128, f (Fin.castAdd 128 a)) + ∑ a : Fin 128, f (Fin.natAdd 128 a) from Fin.sum_univ_add (a := 128) (b := 128) f,
    ← Finset.sum_add_distrib]
  rfl

/-! ### Two pieces for four -/

/-- Two logits stand for four, the other two being minus infinity. -/
def Pair (t m a b c d : EReal) : Prop :=
  (∀ P : EReal → EReal, P ⊥ = 0 → P t + P m = (P a + P b) + (P c + P d)) ∧ ∀ z, (t ≤ z ∧ m ≤ z) ↔ (a ≤ z ∧ b ≤ z ∧ c ≤ z ∧ d ≤ z)

theorem pair_left (b : Prop) [Decidable b] (u v m : EReal) : Pair (if b then u else v) m (if b then u else ⊥) ⊥ (if b then ⊥ else v) m := by
  by_cases h : b <;> simp only [h, if_true, if_false] <;> refine ⟨fun P hP => ?_, fun z => ?_⟩ <;> simp [*]
theorem pair_right (b : Prop) [Decidable b] (u v m : EReal) : Pair (if b then u else v) m m (if b then u else ⊥) ⊥ (if b then ⊥ else v) := by
  by_cases h : b <;> simp only [h, if_true, if_false] <;> refine ⟨fun P hP => ?_, fun z => ?_⟩ <;> simp [*, add_comm, and_comm]

section Column
variable (tri mid : Fin 128 → EReal) (full : Fin 256 → EReal) (lg : Fin 3 × Fin 256 → EReal)
  (hp : ∀ a, Pair (tri a) (mid a) (lg (0, lo a)) (lg (0, hi a)) (lg (2, lo a)) (lg (2, hi a))) (hf : ∀ r, full r = lg (1, r))
include hp hf

theorem column_sum (P : EReal → EReal) (h0 : P ⊥ = 0) : (∑ a, (P (tri a) + P (mid a))) + ∑ r, P (full r) = ∑ p, P (lg p) := by
  rw [Fintype.sum_prod_type, Fin.sum_univ_three]
  simp only [hf]
  rw [Finset.sum_congr rfl fun a _ => (hp a).1 P h0, Finset.sum_add_distrib, ← sum_halves fun r => P (lg (0, r)), ← sum_halves fun r => P (lg (2, r))]
  exact add_right_comm _ _ _

theorem column_max : max (Finset.univ.fold max ⊥ fun a => max (tri a) (mid a)) (Finset.univ.fold max ⊥ full) = Finset.univ.fold max ⊥ lg := by
  refine eq_of_forall_ge_iff fun z => ?_
  simp only [max_le_iff, Finset.fold_max_le, bot_le, true_and, Finset.mem_univ, forall_true_left, hf, (hp _).2, Prod.forall]
  constructor
  · rintro ⟨h, h1⟩ j r
    match j with
    | 0 => rcases lo_or_hi r with ⟨a, rfl⟩ | ⟨a, rfl⟩; exacts [(h a).1, (h a).2.1]
    | 1 => exact h1 r
    | 2 => rcases lo_or_hi r with ⟨a, rfl⟩ | ⟨a, rfl⟩; exacts [(h a).2.2.1, (h a).2.2.2]
  · intro h
    exact ⟨fun a => ⟨h _ _, h _ _, h _ _, h _ _⟩, fun r => h _ _⟩

end Column

/-! ### The pieces at an index -/

theorem causal_at (r i : Fin 128) : causal (ix2 r i) = BitVec.ofBool (decide (r.val ≤ i.val)) := by revert r i; decide +kernel

theorem sel_causal {α : Type} (r i : Fin 128) (u v : α) : Scalar.select (causal (ix2 r i)) u v = if r.val ≤ i.val then u else v := by
  rw [causal_at]
  by_cases h : r.val ≤ i.val <;> simp [h, Scalar.select]

theorem bits_8 : Ideal.ofBits .f32 0x41000000#32 = ((8 : ℝ) : EReal) := by simp [Ideal.ofBits, Ideal.ieee, -EReal.coe_mul]; norm_num
theorem bits_448 : Ideal.ofBits .f32 0x43E00000#32 = ((448 : ℝ) : EReal) := by simp [Ideal.ofBits, Ideal.ieee, -EReal.coe_mul]; norm_num
theorem bits_1 : Ideal.ofBits .f32 0x3F800000#32 = 1 := by
  rw [show Ideal.ofBits .f32 0x3F800000#32 = ((1 : ℝ) : EReal) by simp [Ideal.ofBits, Ideal.ieee, -EReal.coe_mul]; norm_num]; rfl
theorem bits_bot : Ideal.ofBits .f32 0xFF800000#32 = ⊥ := by simp [Ideal.ofBits, Ideal.ieee]
theorem zero8_at (r i : Fin 128) : (zero8 (F := Ideal)) (ix2 r i) = 0 := by
  show Ideal.ofBits .fp8e4m3 0x00#8 = 0
  simp [Ideal.ofBits, Ideal.e4m3fn]

theorem beside_lo (a b : FVec Ideal S256x128 .fp8e4m3) (r : Fin 256) (i : Fin 128) : beside8 a b (ix2 r (lo i)) = a (ix2 r i) := by
  unfold beside8 lo; pointwise
theorem beside_hi (a b : FVec Ideal S256x128 .fp8e4m3) (r : Fin 256) (i : Fin 128) : beside8 a b (ix2 r (hi i)) = b (ix2 r i) := by
  unfold beside8 hi; pointwise
theorem stack_lo (a b : FVec Ideal S128x128 .fp8e4m3) (r i : Fin 128) : stack8 a b (ix2 (lo r) i) = a (ix2 r i) := by
  unfold stack8 lo; pointwise
theorem stack_hi (a b : FVec Ideal S128x128 .fp8e4m3) (r i : Fin 128) : stack8 a b (ix2 (hi r) i) = b (ix2 r i) := by
  unfold stack8 hi; pointwise

theorem colMax128_at (a : FVec Ideal S128x128 .f32) (i : Fin 128) : colMax128 a (ix2 0 i) = Finset.univ.fold max ⊥ fun r : Fin 128 => a (ix2 r i) := by
  unfold colMax128; rw [← bits_bot]; pointwise
theorem colMax256_at (a : FVec Ideal S256x128 .f32) (i : Fin 128) : colMax256 a (ix2 0 i) = Finset.univ.fold max ⊥ fun r : Fin 256 => a (ix2 r i) := by
  unfold colMax256; rw [← bits_bot]; pointwise
theorem colSum128_at (a : FVec Ideal S128x128 .f32) (i : Fin 128) : colSum128 a (ix2 0 i) = ∑ r : Fin 128, a (ix2 r i) := by
  unfold colSum128; pointwise
theorem colSum256_at (a : FVec Ideal S256x128 .f32) (i : Fin 128) : colSum256 a (ix2 0 i) = ∑ r : Fin 256, a (ix2 r i) := by
  unfold colSum256; pointwise

/-- A weight: two to the shifted logit times the query's factor. -/
def weightAt (s c z : EReal) : EReal := Ideal.exp2 ((z - s) * c)

theorem weight128_at (m ci : FVec Ideal S1x128 .f32) (a : FVec Ideal S128x128 .f32) (r i : Fin 128) :
    weight128 m ci a (ix2 r i) = weightAt (m (ix2 0 i)) (ci (ix2 0 i)) (a (ix2 r i)) := by
  unfold weight128; pointwise; rfl
theorem weight256_at (m ci : FVec Ideal S1x128 .f32) (a : FVec Ideal S256x128 .f32) (r : Fin 256) (i : Fin 128) :
    weight256 m ci a (ix2 r i) = weightAt (m (ix2 0 i)) (ci (ix2 0 i)) (a (ix2 r i)) := by
  unfold weight256; pointwise; rfl
theorem code128_at (p : FVec Ideal S128x128 .f32) (j : S128x128.Idx) : code128 p j = min (p j) ((448 : ℝ) : EReal) := by
  rw [← bits_448]; rfl
theorem code256_at (p : FVec Ideal S256x128 .f32) (j : S256x128.Idx) : code256 p j = min (p j) ((448 : ℝ) : EReal) := by
  rw [← bits_448]; rfl
theorem min_zero : min (0 : EReal) ((448 : ℝ) : EReal) = 0 := min_eq_left (by exact_mod_cast (by norm_num : (0 : ℝ) ≤ 448))

/-- A half's shift, weights' sum: from its column. -/
theorem shift_at (tri mid : FVec Ideal S128x128 .f32) (full : FVec Ideal S256x128 .f32) (ci : FVec Ideal S1x128 .f32) (i : Fin 128) (lg : Fin 3 × Fin 256 → EReal)
    (hp : ∀ a, Pair (tri (ix2 a i)) (mid (ix2 a i)) (lg (0, lo a)) (lg (0, hi a)) (lg (2, lo a)) (lg (2, hi a))) (hf : ∀ r, full (ix2 r i) = lg (1, r)) :
    shiftOf tri mid full ci (ix2 0 i) = Finset.univ.fold max ⊥ lg - Ideal.div ((8 : ℝ) : EReal) (ci (ix2 0 i)) := by
  have e : colMax128 (maximumf tri mid) (ix2 0 i) = Finset.univ.fold max ⊥ fun a : Fin 128 => max (tri (ix2 a i)) (mid (ix2 a i)) := colMax128_at _ _
  rw [← bits_8, ← column_max _ _ _ lg hp hf, ← colMax256_at, ← e]
  rfl

theorem inv_at (pt pm : FVec Ideal S128x128 .f32) (pf : FVec Ideal S256x128 .f32) (i : Fin 128) :
    invSum pt pm pf (ix2 0 i) = Ideal.div 1 ((∑ a : Fin 128, (pt (ix2 a i) + pm (ix2 a i))) + ∑ r : Fin 256, pf (ix2 r i)) := by
  have e : colSum128 (addf pt pm) (ix2 0 i) = ∑ a : Fin 128, (pt (ix2 a i) + pm (ix2 a i)) := colSum128_at _ _
  rw [← bits_1, ← colSum256_at, ← e]
  rfl

end Cert.Gqa
-- ==== Proof.Value.Column.lean ====
/-
  One head's results at an index: the weighted values over the weights' sum, over three blocks of keys.
-/
module

public import proofs.«01_k».proof.Proof.Value.Half

@[expose] public section

set_option maxRecDepth 16384

noncomputable section

namespace Cert.Gqa

open Cert.KernelIdeal Cert.KernelIdeal.Gen
open Idealize.ShloMosaic

/-- The logits of a query `i` against three blocks of keys: minus infinity past the query in its own block, and up to it in
    the block two before. -/
def logit (L0 L1 L2 : Fin 256 → EReal) (i : Fin 256) (p : Fin 3 × Fin 256) : EReal :=
  match p.1 with
  | 0 => if p.2.val ≤ i.val then L0 p.2 else ⊥
  | 1 => L1 p.2
  | 2 => if p.2.val ≤ i.val then ⊥ else L2 p.2

/-- One of three by the block. -/
def pick {α : Type} (f0 f1 f2 : Fin 256 → α) (p : Fin 3 × Fin 256) : α :=
  match p.1 with
  | 0 => f0 p.2
  | 1 => f1 p.2
  | 2 => f2 p.2

/-- A head's key scales are three blocks' own, whatever the column. -/
structure Scaled (x : HeadIn Ideal) (σ0 σ1 σ2 : Fin 256 → EReal) : Prop where
  kc0 : ∀ r i : Fin 128, x.kc0 (ix2 r i) = if r.val ≤ i.val then σ0 (lo r) else σ2 (lo r)
  kc1 : ∀ r i : Fin 128, x.kc1 (ix2 r i) = if r.val ≤ i.val then σ0 (hi r) else σ2 (hi r)
  ks2 : ∀ r i : Fin 128, x.ks2 (ix2 r i) = σ2 (hi r)
  ks1 : ∀ (r : Fin 256) (i : Fin 128), x.ks1 (ix2 r i) = σ1 r
  ks1' : ∀ (r : Fin 256) (i : Fin 128), x.ks1' (ix2 r i) = σ1 r
  ks0 : ∀ r i : Fin 128, x.ks0 (ix2 r i) = σ0 (lo r)

section
variable (e : Bool) (w : BitVec 32) (x : HeadIn Ideal) (σ0 σ1 σ2 : Fin 256 → EReal) (hx : Scaled x σ0 σ1 σ2)

/-- A head's logits. -/
def lgOf (i : Fin 256) : Fin 3 × Fin 256 → EReal :=
  logit (fun r => sc0 x (ix2 r i) * σ0 r) (fun r => sc1 e w x (ix2 r i) * σ1 r) (fun r => sc2 e w x (ix2 r i) * σ2 r) i

/-! ### The pieces of a half are the logits -/

include hx

theorem triA_at (r i : Fin 128) : triA e w x (ix2 r i) = if r.val ≤ i.val then sc0 x (ix2 (lo r) (lo i)) * σ0 (lo r) else sc2 e w x (ix2 (lo r) (lo i)) * σ2 (lo r) := by
  have h : triA e w x (ix2 r i) = Scalar.select (causal (ix2 r i)) (sc0 x (ix2 (lo r) (lo i))) (sc2 e w x (ix2 (lo r) (lo i))) * x.kc0 (ix2 r i) := by
    unfold triA; pointwise
  rw [h, sel_causal, hx.kc0]; split <;> rfl
theorem triB_at (r i : Fin 128) : triB e w x (ix2 r i) = if r.val ≤ i.val then sc0 x (ix2 (hi r) (hi i)) * σ0 (hi r) else sc2 e w x (ix2 (hi r) (hi i)) * σ2 (hi r) := by
  have h : triB e w x (ix2 r i) = Scalar.select (causal (ix2 r i)) (sc0 x (ix2 (hi r) (hi i))) (sc2 e w x (ix2 (hi r) (hi i))) * x.kc1 (ix2 r i) := by
    unfold triB; pointwise
  rw [h, sel_causal, hx.kc1]; split <;> rfl
theorem midA_at (r i : Fin 128) : midA e w x (ix2 r i) = sc2 e w x (ix2 (hi r) (lo i)) * σ2 (hi r) := by
  rw [← hx.ks2 r i]; unfold midA; pointwise
theorem midB_at (r i : Fin 128) : midB x (ix2 r i) = sc0 x (ix2 (lo r) (hi i)) * σ0 (lo r) := by
  rw [← hx.ks0 r i]; unfold midB; pointwise
theorem fullA_at (r : Fin 256) (i : Fin 128) : fullA e w x (ix2 r i) = sc1 e w x (ix2 r (lo i)) * σ1 r := by
  rw [← hx.ks1 r i]; unfold fullA; pointwise
theorem fullB_at (r : Fin 256) (i : Fin 128) : fullB e w x (ix2 r i) = sc1 e w x (ix2 r (hi i)) * σ1 r := by
  rw [← hx.ks1' r i]; unfold fullB; pointwise

theorem pairA (a i : Fin 128) : Pair (triA e w x (ix2 a i)) (midA e w x (ix2 a i)) (lgOf e w x σ0 σ1 σ2 (lo i) (0, lo a)) (lgOf e w x σ0 σ1 σ2 (lo i) (0, hi a))
    (lgOf e w x σ0 σ1 σ2 (lo i) (2, lo a)) (lgOf e w x σ0 σ1 σ2 (lo i) (2, hi a)) := by
  have h : ¬ 128 + a.val ≤ i.val := by omega
  rw [triA_at e w x σ0 σ1 σ2 hx, midA_at e w x σ0 σ1 σ2 hx]
  simp only [lgOf, logit, h, if_false]
  exact pair_left _ _ _ _
theorem pairB (a i : Fin 128) : Pair (triB e w x (ix2 a i)) (midB x (ix2 a i)) (lgOf e w x σ0 σ1 σ2 (hi i) (0, lo a)) (lgOf e w x σ0 σ1 σ2 (hi i) (0, hi a))
    (lgOf e w x σ0 σ1 σ2 (hi i) (2, lo a)) (lgOf e w x σ0 σ1 σ2 (hi i) (2, hi a)) := by
  have h : a.val ≤ 128 + i.val := by omega
  rw [triB_at e w x σ0 σ1 σ2 hx, midB_at x σ0 σ1 σ2 hx]
  simp only [lgOf, logit, h, if_true, Nat.add_le_add_iff_left]
  exact pair_right _ _ _ _

/-- A query's shift, weights and result. -/
def shOf (i : Fin 256) : EReal := Finset.univ.fold max ⊥ (lgOf e w x σ0 σ1 σ2 i) - Ideal.div ((8 : ℝ) : EReal) (x.ci (ix2 0 i))
def pOf (i : Fin 256) (z : EReal) : EReal := weightAt (shOf e w x σ0 σ1 σ2 i) (x.ci (ix2 0 i)) z

omit hx in
theorem ciA_at (i : Fin 128) : ciA x (ix2 0 i) = x.ci (ix2 0 (lo i)) := by unfold ciA; pointwise
omit hx in
theorem ciB_at (i : Fin 128) : ciB x (ix2 0 i) = x.ci (ix2 0 (hi i)) := by unfold ciB; pointwise

theorem shA_at (i : Fin 128) : shA e w x (ix2 0 i) = shOf e w x σ0 σ1 σ2 (lo i) := by
  unfold shA shOf
  rw [shift_at _ _ _ _ i (lgOf e w x σ0 σ1 σ2 (lo i)) (fun a => pairA e w x σ0 σ1 σ2 hx a i) fun r => fullA_at e w x σ0 σ1 σ2 hx r i, ciA_at]
theorem shB_at (i : Fin 128) : shB e w x (ix2 0 i) = shOf e w x σ0 σ1 σ2 (hi i) := by
  unfold shB shOf
  rw [shift_at _ _ _ _ i (lgOf e w x σ0 σ1 σ2 (hi i)) (fun a => pairB e w x σ0 σ1 σ2 hx a i) fun r => fullB_at e w x σ0 σ1 σ2 hx r i, ciB_at]

theorem pTriA_at (r i : Fin 128) : pTriA e w x (ix2 r i) = pOf e w x σ0 σ1 σ2 (lo i) (triA e w x (ix2 r i)) := by
  unfold pTriA pOf; rw [weight128_at, shA_at e w x σ0 σ1 σ2 hx, ciA_at]
theorem pMidA_at (r i : Fin 128) : pMidA e w x (ix2 r i) = pOf e w x σ0 σ1 σ2 (lo i) (midA e w x (ix2 r i)) := by
  unfold pMidA pOf; rw [weight128_at, shA_at e w x σ0 σ1 σ2 hx, ciA_at]
theorem pFullA_at (r : Fin 256) (i : Fin 128) : pFullA e w x (ix2 r i) = pOf e w x σ0 σ1 σ2 (lo i) (fullA e w x (ix2 r i)) := by
  unfold pFullA pOf; rw [weight256_at, shA_at e w x σ0 σ1 σ2 hx, ciA_at]
theorem pTriB_at (r i : Fin 128) : pTriB e w x (ix2 r i) = pOf e w x σ0 σ1 σ2 (hi i) (triB e w x (ix2 r i)) := by
  unfold pTriB pOf; rw [weight128_at, shB_at e w x σ0 σ1 σ2 hx, ciB_at]
theorem pMidB_at (r i : Fin 128) : pMidB e w x (ix2 r i) = pOf e w x σ0 σ1 σ2 (hi i) (midB x (ix2 r i)) := by
  unfold pMidB pOf; rw [weight128_at, shB_at e w x σ0 σ1 σ2 hx, ciB_at]
theorem pFullB_at (r : Fin 256) (i : Fin 128) : pFullB e w x (ix2 r i) = pOf e w x σ0 σ1 σ2 (hi i) (fullB e w x (ix2 r i)) := by
  unfold pFullB pOf; rw [weight256_at, shB_at e w x σ0 σ1 σ2 hx, ciB_at]

/-! ### The weights' codes and their sum -/

variable (i : Fin 256) (h0 : pOf e w x σ0 σ1 σ2 i ⊥ = 0)
include h0

theorem w2_at (r : Fin 256) : w2 e w x (ix2 r i) = min (pOf e w x σ0 σ1 σ2 i (lgOf e w x σ0 σ1 σ2 i (2, r))) ((448 : ℝ) : EReal) := by
  rcases lo_or_hi i with ⟨i, rfl⟩ | ⟨i, rfl⟩ <;> rcases lo_or_hi r with ⟨r, rfl⟩ | ⟨r, rfl⟩ <;> unfold w2
  · rw [beside_lo, stack_lo]
    refine (sel_causal r i _ _).trans ?_
    rw [zero8_at, code128_at, pTriA_at e w x σ0 σ1 σ2 hx, triA_at e w x σ0 σ1 σ2 hx]
    simp only [lgOf, logit]
    by_cases h : r.val ≤ i.val
    · simp only [h, if_true]; rw [show pOf e w x σ0 σ1 σ2 (lo i) ⊥ = 0 from h0, min_zero]
    · simp only [h, if_false]
  · rw [beside_lo, stack_hi, code128_at, pMidA_at e w x σ0 σ1 σ2 hx, midA_at e w x σ0 σ1 σ2 hx]
    simp only [lgOf, logit, show ¬ 128 + r.val ≤ i.val by omega, if_false]
  · rw [beside_hi, stack_lo, zero8_at]
    simp only [lgOf, logit, show r.val ≤ 128 + i.val by omega, if_true]
    rw [h0, min_zero]
  · rw [beside_hi, stack_hi]
    refine (sel_causal r i _ _).trans ?_
    rw [zero8_at, code128_at, pTriB_at e w x σ0 σ1 σ2 hx, triB_at e w x σ0 σ1 σ2 hx]
    simp only [lgOf, logit, Nat.add_le_add_iff_left]
    by_cases h : r.val ≤ i.val
    · simp only [h, if_true]; rw [show pOf e w x σ0 σ1 σ2 (hi i) ⊥ = 0 from h0, min_zero]
    · simp only [h, if_false]

theorem w0_at (r : Fin 256) : w0 e w x (ix2 r i) = min (pOf e w x σ0 σ1 σ2 i (lgOf e w x σ0 σ1 σ2 i (0, r))) ((448 : ℝ) : EReal) := by
  rcases lo_or_hi i with ⟨i, rfl⟩ | ⟨i, rfl⟩ <;> rcases lo_or_hi r with ⟨r, rfl⟩ | ⟨r, rfl⟩ <;> unfold w0
  · rw [beside_lo, stack_lo]
    refine (sel_causal r i _ _).trans ?_
    rw [zero8_at, code128_at, pTriA_at e w x σ0 σ1 σ2 hx, triA_at e w x σ0 σ1 σ2 hx]
    simp only [lgOf, logit]
    by_cases h : r.val ≤ i.val
    · simp only [h, if_true]
    · simp only [h, if_false]; rw [show pOf e w x σ0 σ1 σ2 (lo i) ⊥ = 0 from h0, min_zero]
  · rw [beside_lo, stack_hi, zero8_at]
    simp only [lgOf, logit, show ¬ 128 + r.val ≤ i.val by omega, if_false]
    rw [h0, min_zero]
  · rw [beside_hi, stack_lo, code128_at, pMidB_at e w x σ0 σ1 σ2 hx, midB_at x σ0 σ1 σ2 hx]
    simp only [lgOf, logit, show r.val ≤ 128 + i.val by omega, if_true]
  · rw [beside_hi, stack_hi]
    refine (sel_causal r i _ _).trans ?_
    rw [zero8_at, code128_at, pTriB_at e w x σ0 σ1 σ2 hx, triB_at e w x σ0 σ1 σ2 hx]
    simp only [lgOf, logit, Nat.add_le_add_iff_left]
    by_cases h : r.val ≤ i.val
    · simp only [h, if_true]
    · simp only [h, if_false]; rw [show pOf e w x σ0 σ1 σ2 (hi i) ⊥ = 0 from h0, min_zero]

omit h0 in
theorem w1_at (r : Fin 256) : w1 e w x (ix2 r i) = min (pOf e w x σ0 σ1 σ2 i (lgOf e w x σ0 σ1 σ2 i (1, r))) ((448 : ℝ) : EReal) := by
  rcases lo_or_hi i with ⟨i, rfl⟩ | ⟨i, rfl⟩ <;> unfold w1
  · rw [beside_lo, code256_at, pFullA_at e w x σ0 σ1 σ2 hx, fullA_at e w x σ0 σ1 σ2 hx]; rfl
  · rw [beside_hi, code256_at, pFullB_at e w x σ0 σ1 σ2 hx, fullB_at e w x σ0 σ1 σ2 hx]; rfl

omit h0 i in
theorem invA_at (i : Fin 128) (h0 : pOf e w x σ0 σ1 σ2 (lo i) ⊥ = 0) :
    invA e w x (ix2 0 i) = Ideal.div 1 (∑ p, pOf e w x σ0 σ1 σ2 (lo i) (lgOf e w x σ0 σ1 σ2 (lo i) p)) := by
  unfold invA
  rw [inv_at, ← column_sum _ _ _ _ (fun a => pairA e w x σ0 σ1 σ2 hx a i) (fun r => fullA_at e w x σ0 σ1 σ2 hx r i) _ h0]
  simp only [pTriA_at e w x σ0 σ1 σ2 hx, pMidA_at e w x σ0 σ1 σ2 hx, pFullA_at e w x σ0 σ1 σ2 hx]
omit h0 i in
theorem invB_at (i : Fin 128) (h0 : pOf e w x σ0 σ1 σ2 (hi i) ⊥ = 0) :
    invB e w x (ix2 0 i) = Ideal.div 1 (∑ p, pOf e w x σ0 σ1 σ2 (hi i) (lgOf e w x σ0 σ1 σ2 (hi i) p)) := by
  unfold invB
  rw [inv_at, ← column_sum _ _ _ _ (fun a => pairB e w x σ0 σ1 σ2 hx a i) (fun r => fullB_at e w x σ0 σ1 σ2 hx r i) _ h0]
  simp only [pTriB_at e w x σ0 σ1 σ2 hx, pMidB_at e w x σ0 σ1 σ2 hx, pFullB_at e w x σ0 σ1 σ2 hx]

omit hx h0 i in
theorem headOut_at (i d : Fin 256) : headOut e w x (ix2 i d)
    = ((∑ r, x.v2 (ix2 d r) * w2 e w x (ix2 r i)) + (∑ r, x.v1 (ix2 d r) * w1 e w x (ix2 r i)) + (∑ r, x.v0 (ix2 d r) * w0 e w x (ix2 r i)))
      * (if h : i.val < 128 then invA e w x (ix2 0 ⟨i.val, h⟩) else invB e w x (ix2 0 ⟨i.val - 128, by omega⟩)) := by
  unfold headOut zeroAcc; pointwise

/-- A head's result: the mean of the values by the weights, each at most 448 in the numerator. -/
theorem head_col (d : Fin 256) : headOut e w x (ix2 i d)
    = (∑ p, pick (fun r => x.v0 (ix2 d r)) (fun r => x.v1 (ix2 d r)) (fun r => x.v2 (ix2 d r)) p
          * min (pOf e w x σ0 σ1 σ2 i (lgOf e w x σ0 σ1 σ2 i p)) ((448 : ℝ) : EReal))
      * Ideal.div 1 (∑ p, pOf e w x σ0 σ1 σ2 i (lgOf e w x σ0 σ1 σ2 i p)) := by
  rw [headOut_at]
  congr 1
  · rw [Fintype.sum_prod_type, Fin.sum_univ_three]
    simp only [w2_at e w x σ0 σ1 σ2 hx i h0, w1_at e w x σ0 σ1 σ2 hx i, w0_at e w x σ0 σ1 σ2 hx i h0]
    rw [add_comm, add_comm (∑ r, x.v2 (ix2 d r) * _), ← add_assoc]
    rfl
  · rcases lo_or_hi i with ⟨i, rfl⟩ | ⟨i, rfl⟩
    · rw [dif_pos (show (lo i).val < 128 from i.isLt)]
      exact invA_at e w x σ0 σ1 σ2 hx i h0
    · rw [dif_neg (show ¬ (hi i).val < 128 by simp)]
      rw [← invB_at e w x σ0 σ1 σ2 hx i h0]
      exact congrArg (fun j => invB e w x (ix2 0 j)) (Fin.ext (by simp))

end

end Cert.Gqa
-- ==== Proof.Value.HeadMean.lean ====
/-
  One head's results over real codes and scales: the mean of the values by the exponentials of the logits, over the keys
  of the window that lie in the sequence.
-/
module

public import proofs.«01_k».proof.Proof.Value.Column
public import proofs.«01_k».proof.Proof.Value.Rows

@[expose] public section

set_option maxRecDepth 16384

noncomputable section

namespace Cert.Gqa

open Cert.KernelIdeal Cert.KernelIdeal.Gen
open Idealize.ShloMosaic

/-- The keys in the window of query `i` of a sequence's block `qi`, by block and row. -/
def In (qi : ℕ) (i : Fin 256) (p : Fin 3 × Fin 256) : Prop :=
  p.1.val ≤ qi ∧ (p.1 = 0 → p.2.val ≤ i.val) ∧ (p.1 = 2 → i.val < p.2.val)
instance (qi : ℕ) (i : Fin 256) : DecidablePred (In qi i) := fun p => by unfold In; infer_instance

theorem dot_at (k q : FVec Ideal S256x256 .fp8e4m3) (r i : Fin 256) :
    matmul dot_S256x256_S256x256_S256x256_1_1_0_0_n_n none k q (zeroAcc (F := Ideal)) (ix2 r i) = ∑ c : Fin 256, k (ix2 r c) * q (ix2 i c) := by
  unfold zeroAcc; pointwise

theorem edge_at (qi k : ℕ) (hq : qi < 48) (hk : k < 3) (s : FVec Ideal S256x256 .f32) (j : S256x256.Idx) :
    edgeSel true (BitVec.ofNat 32 qi) (BitVec.ofNat 32 k) s j = if k ≤ qi then s j else ⊥ := by
  by_cases h : k ≤ qi
  · rw [edge_in _ _ _ ((sge_word qi k hq hk).mpr h), if_pos h]
  · have e : edgeSel true (BitVec.ofNat 32 qi) (BitVec.ofNat 32 k) s = broadcast S256x256 (Scalar.ofBits .f32 0xFF800000#32) := by
      show Scalar.select _ _ _ = _
      unfold Scalar.select; exact if_neg fun hc => h ((sge_word qi k hq hk).mp hc)
    rw [e, if_neg h, ← bits_bot]; rfl

section
variable (bx : ℕ → FVec Ideal S1x256x5120 .bf16) (bk bv : ℕ → FVec Ideal S1x256x1024 .bf16) (lc : EReal) (n qi : ℕ) (h : Fin 20)

/-- The key head of a query head. -/
abbrev grp (h : Fin 20) : Fin 4 := ⟨h.val / 5, by omega⟩

/-- The key scales of the block `j` before; -/
def kscales (j : ℕ) (r : Fin 256) : EReal := if j ≤ qi then rowScale (brow (kh (bk (n - j)) (grp h)) r) else 1

theorem sAt_at (j : ℕ) (r : Fin 256) (k : Fin 128) : sAt (F := Ideal) bk n qi j (grp h) (ix2 r k) = kscales bk n qi h j r := by
  unfold sAt kscales
  split
  · exact kscaleOf_at _ _ _
  · exact bits_1

theorem scaled : Scaled (headAt (F := Ideal) bx bk bv lc n qi h) (kscales bk n qi h 0) (kscales bk n qi h 1) (kscales bk n qi h 2) where
  kc0 r i := (sel_causal r i _ _).trans (by rw [← sAt_at bk n qi h 0 (lo r) i, ← sAt_at bk n qi h 2 (lo r) i]; rfl)
  kc1 r i := (sel_causal r i _ _).trans (by rw [← sAt_at bk n qi h 0 (hi r) i, ← sAt_at bk n qi h 2 (hi r) i]; rfl)
  ks2 r i := sAt_at bk n qi h 2 (hi r) i
  ks1 r i := sAt_at bk n qi h 1 r i
  ks1' r i := sAt_at bk n qi h 1 r i
  ks0 r i := sAt_at bk n qi h 0 (lo r) i

variable (i d : Fin 256) (κ : ℝ) (hlc : lc = κ) (hκ : 0 < κ) (hq : qi < 48)
  (Q : Fin 256 → ℝ) (σq : ℝ) (hQ : ∀ k, rowCode (brow (xh (bx n) h) i) k = Q k) (hσq : rowScale (brow (xh (bx n) h) i) = σq) (hpos : 0 < σq)
  (K V : ℕ → Fin 256 → Fin 256 → ℝ) (σk σv : ℕ → Fin 256 → ℝ)
  (hK : ∀ j ≤ qi, ∀ r k, rowCode (brow (kh (bk (n - j)) (grp h)) r) k = K j r k) (hσk : ∀ j ≤ qi, ∀ r, rowScale (brow (kh (bk (n - j)) (grp h)) r) = σk j r)
  (hV : ∀ j ≤ qi, ∀ r k, rowCode (brow (kh (bv (n - j)) (grp h)) r) k = V j r k) (hσv : ∀ j ≤ qi, ∀ r, rowScale (brow (kh (bv (n - j)) (grp h)) r) = σv j r)

/-- The logit of a key in the block `j` before, less the query's factor. -/
def lgR (j : ℕ) (r : Fin 256) : ℝ := (∑ k, K j r k * Q k) * σk j r

include hQ hK hσk in
theorem score_at (j : ℕ) (r : Fin 256) :
    (if j ≤ qi then matmul dot_S256x256_S256x256_S256x256_1_1_0_0_n_n none (kAt (F := Ideal) bk n qi j (grp h)) (codesOf (xh (bx n) h)) (zeroAcc (F := Ideal)) (ix2 r i) else ⊥)
        * kscales bk n qi h j r
      = if j ≤ qi then ((lgR Q K σk j r : ℝ) : EReal) else ⊥ := by
  by_cases hj : j ≤ qi
  · rw [if_pos hj, if_pos hj, dot_at]
    unfold kAt kscales lgR
    simp only [if_pos hj, codesOf_at, hQ, hK j hj, hσk j hj, ← EReal.coe_mul, sum_coe]
  · unfold kscales
    rw [if_neg hj, if_neg hj, if_neg hj, mul_one]

include hq hQ hK hσk in
theorem lg_at (p : Fin 3 × Fin 256) :
    lgOf true (BitVec.ofNat 32 qi) (headAt (F := Ideal) bx bk bv lc n qi h) (kscales bk n qi h 0) (kscales bk n qi h 1) (kscales bk n qi h 2) i p
      = if In qi i p then ((lgR Q K σk p.1.val p.2 : ℝ) : EReal) else ⊥ := by
  obtain ⟨j, r⟩ := p
  have s := fun j => score_at bx bk n qi h i Q hQ K σk hK hσk j r
  unfold lgOf logit In
  fin_cases j
  · have e := s 0
    rw [if_pos (Nat.zero_le _), if_pos (Nat.zero_le _)] at e
    simp only [Fin.zero_eta, Fin.isValue, Fin.val_zero, Nat.zero_le, true_and, forall_true_left, Fin.reduceEq, false_implies, and_true]
    exact if_congr Iff.rfl e rfl
  · have e := s 1
    simp only [Fin.mk_one, Fin.isValue, Fin.val_one, Fin.reduceEq, one_ne_zero, false_implies, and_true]
    unfold sc1
    rw [show (1#32 : BitVec 32) = BitVec.ofNat 32 1 from rfl, edge_at qi 1 hq (by omega)]
    exact e
  · have e := s 2
    simp only [Fin.reduceFinMk, Fin.isValue, Fin.val_two, Fin.reduceEq, false_implies, true_and, forall_true_left]
    unfold sc2
    rw [show (2#32 : BitVec 32) = BitVec.ofNat 32 2 from rfl, edge_at qi 2 hq (by omega)]
    refine (if_congr Iff.rfl rfl e).trans ?_
    by_cases h1 : r.val ≤ i.val
    · rw [if_pos h1, if_neg (by omega)]
    · rw [if_neg h1]
      exact if_congr ⟨fun a => ⟨a, by omega⟩, fun a => a.1⟩ rfl rfl

/-- The values, none before the sequence. -/
def valR (p : Fin 3 × Fin 256) : ℝ := if p.1.val ≤ qi then V p.1.val p.2 d * σv p.1.val p.2 else 0

include hV hσv in
theorem vAt_at (j : ℕ) (r : Fin 256) : vAt (F := Ideal) bv n qi j (grp h) (ix2 d r) = ((if j ≤ qi then V j r d * σv j r else 0 : ℝ) : EReal) := by
  unfold vAt
  by_cases hj : j ≤ qi
  · rw [if_pos hj, if_pos hj, vringOf_at, hV j hj, hσv j hj, EReal.coe_mul]
  · rw [if_neg hj, if_neg hj]
    show Ideal.ofBits .bf16 0x0000#16 = _
    simp [Ideal.ofBits, Ideal.ieee]

include hlc hκ hq hQ hσq hpos hK hσk hV hσv in
theorem head_mean : headOut true (BitVec.ofNat 32 qi) (headAt (F := Ideal) bx bk bv lc n qi h) (ix2 i d)
    = ((softMean (In qi i) (fun p => lgR Q K σk p.1.val p.2 * (σq * κ) * Real.log 2) (valR qi d V σv) : ℝ) : EReal) := by
  have lg := lg_at bx bk bv lc n qi h i hq Q hQ K σk hK hσk
  have hci : (headAt (F := Ideal) bx bk bv lc n qi h).ci (ix2 0 i) = ((σq * κ : ℝ) : EReal) := by
    show scale1 (F := Ideal) (amaxOf (xh (bx n) h) (ix2 i 0)) * lc = _
    rw [amaxOf_at, hlc, EReal.coe_mul, ← hσq]; rfl
  have hc : 0 < σq * κ := mul_pos hpos hκ
  have self : In qi i (0, i) := ⟨Nat.zero_le _, fun _ => le_rfl, fun h => absurd (show (0 : Fin 3) = 2 from h) (by decide)⟩
  obtain ⟨M, eM, hM⟩ := fold_real (Finset.univ : Finset (Fin 3 × Fin 256))
    (lgOf true (BitVec.ofNat 32 qi) (headAt (F := Ideal) bx bk bv lc n qi h) (kscales bk n qi h 0) (kscales bk n qi h 1) (kscales bk n qi h 2) i)
    (fun p _ => by rw [lg]; split; exacts [EReal.coe_lt_top _, bot_lt_top]) (0, i) (Finset.mem_univ _)
    (by rw [lg, if_pos self]; exact EReal.bot_lt_coe _)
  have hp : ∀ z, pOf true (BitVec.ofNat 32 qi) (headAt (F := Ideal) bx bk bv lc n qi h) (kscales bk n qi h 0) (kscales bk n qi h 1) (kscales bk n qi h 2) i z
      = Ideal.exp2 ((z - ((M : EReal) - Ideal.div ((8 : ℝ) : EReal) ((σq * κ : ℝ) : EReal))) * ((σq * κ : ℝ) : EReal)) := by
    intro z
    unfold pOf weightAt shOf
    rw [eM, hci]
  rw [head_col true (BitVec.ofNat 32 qi) _ _ _ _ (scaled bx bk bv lc n qi h) i (by rw [hp]; exact bot_weight _ _ hc) d]
  simp only [hp]
  refine mean_pow (In qi i) _ _ (fun p => lgR Q K σk p.1.val p.2) (valR qi d V σv) lg (fun p => ?_) M (σq * κ) hc (fun p hS => ?_) ⟨_, self⟩
  · obtain ⟨j, r⟩ := p
    have v := fun j => vAt_at bv n qi h d V σv hV hσv j r
    unfold pick valR
    fin_cases j
    · exact v 0
    · exact v 1
    · exact v 2
  · have := hM p (Finset.mem_univ p)
    rw [lg, if_pos hS] at this
    exact_mod_cast this

end

end Cert.Gqa
-- ==== Proof.Value.Tables.lean ====
/-
  The arguments' rows, head by head, and the programs' arrays of codes and scales as functions of them.
-/
module

public import proofs.«01_k».proof.Proof.Value.Rows

@[expose] public section

noncomputable section

namespace Cert.Gqa

open Cert.KernelIdeal Cert.KernelIdeal.Gen
open Idealize.ShloMosaic

/-- A position's row of one query head, and of one key/value head. -/
def qrow (X : S3x12288x5120.Idx → EReal) (b : Fin 3) (s : Fin 12288) (h : Fin 20) : Fin 256 → EReal :=
  fun k => X (ix3 b s ⟨256 * h.val + k.val, by omega⟩)
def krow (X : S3x12288x1024.Idx → EReal) (b : Fin 3) (s : Fin 12288) (h : Fin 4) : Fin 256 → EReal :=
  fun k => X (ix3 b s ⟨256 * h.val + k.val, by omega⟩)

/-- A block's batch and its rows' positions. -/
def batchOf (t : Fin 144) : Fin 3 := ⟨t.val / 48, by omega⟩
def posOf (t : Fin 144) (r : Fin 256) : Fin 12288 := ⟨256 * (t.val % 48) + r.val, by omega⟩

end Cert.Gqa
-- ==== Proof.Value.KArrays.lean ====
/-
  The idealized kernel's arrays of codes and scales after the run, at an index.
-/
module

public import proofs.«01_k».proof.Proof.Value.Tables
public import proofs.«01_k».proof.Proof.KernelIdeal.Run
public import Idealize.ShloMosaic.Lib.Pipeline.ValueKit

@[expose] public section

set_option maxRecDepth 16384

noncomputable section

namespace Cert.Gqa.KernelIdeal

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The arguments. -/
abbrev aX (c : Dev nD) : S3x12288x5120.Idx → EReal := m ((c : Thread nD τ).loc main_arg0)
abbrev aK (c : Dev nD) : S3x12288x1024.Idx → EReal := m ((c : Thread nD τ).loc main_arg1)
abbrev aV (c : Dev nD) : S3x12288x1024.Idx → EReal := m ((c : Thread nD τ).loc main_arg2)

theorem index_at : ∀ t : Fin cfg0.N,
    win0_0.index t = ![t.val / 48, t.val % 48, 0] ∧ win0_1.index t = ![t.val / 48, t.val % 48, 0] ∧ win0_2.index t = ![t.val / 48, t.val % 48, 0]
    ∧ win0_3.index t = ![t.val / 48, t.val % 48, 0]
    ∧ win0_4.index t = ![t.val / 48, 0, t.val % 48, 0] ∧ win0_5.index t = ![t.val / 48, 0, t.val % 48]
    ∧ win0_6.index t = ![t.val / 48, t.val % 48, 0, 0] ∧ win0_7.index t = ![t.val / 48, 0, t.val % 48]
    ∧ win0_8.index t = ![t.val / 48, t.val % 48, 0, 0] ∧ win0_9.index t = ![t.val / 48, 0, t.val % 48] := by decide +kernel

/-! ### The input blocks by rows -/

theorem bx_row (c : Dev nD) (t : Fin cfg0.N) (h : Fin 20) (r : Fin 256) : brow (xh (bx (F := Ideal) m c t.val) h) r = qrow (aX m c) (batchOf t) (posOf t r) h := by
  funext k
  unfold brow xh bx qrow batchOf posOf
  rw [pt_val]
  have e := (index_at t).1
  blk_ext [iblk, V, e]

theorem bk_row (c : Dev nD) (t : Fin cfg0.N) (h : Fin 4) (r : Fin 256) : brow (kh (bk (F := Ideal) m c t.val) h) r = krow (aK m c) (batchOf t) (posOf t r) h := by
  funext k
  unfold brow kh bk krow batchOf posOf
  rw [pt_val]
  have e := (index_at t).2.1
  blk_ext [iblk, V, e]

theorem bv_row (c : Dev nD) (t : Fin cfg0.N) (h : Fin 4) (r : Fin 256) : brow (kh (bv (F := Ideal) m c t.val) h) r = krow (aV m c) (batchOf t) (posOf t r) h := by
  funext k
  unfold brow kh bv krow batchOf posOf
  rw [pt_val]
  have e := (index_at t).2.2.1
  blk_ext [iblk, V, e]

/-! ### The arrays -/

theorem qc_arr (c : Dev nD) : (dats (F := Ideal) m 0 c).arrAt 4 cfg0.N = fun i : S3x20x12288x256.Idx => rowCode (qrow (aX m c) (i 0) (i 2) (i 1)) (i 3) := by
  refine (dats (F := Ideal) m 0 c).arrAt_eq_of_covers 4 _ (by decide +kernel) fun t hf y => ?_
  have e := (index_at t).2.2.2.2.1
  blk_simp
  rw [after4]
  obtain ⟨y0, y1, y2, y3, rfl⟩ : ∃ (a : Fin 1) (b : Fin 20) (r : Fin 256) (k : Fin 256), y = ix4 a b r k := ⟨y 0, y 1, y 2, y 3, eq_ix4 y⟩
  have h : qcOf (F := Ideal) (bx (F := Ideal) m c t.val) (ix4 y0 y1 y2 y3) = rowCode (qrow (aX m c) (batchOf t) (posOf t y2) y1) y3 := by
    rw [← bx_row]; exact codesOf_at _ y2 y3
  refine h.trans ?_
  have e0 : (win0_4.blk t).view.emb (ix4 y0 y1 y2 y3) = ix4 (batchOf t) y1 (posOf t y2) y3 := by
    unfold batchOf posOf; blk_ext [e]
  rw [e0]; rfl

theorem qs_arr (c : Dev nD) : (dats (F := Ideal) m 0 c).arrAt 5 cfg0.N = fun i : S3x20x12288.Idx => rowScale (qrow (aX m c) (i 0) (i 2) (i 1)) := by
  refine (dats (F := Ideal) m 0 c).arrAt_eq_of_covers 5 _ (by decide +kernel) fun t hf y => ?_
  have e := (index_at t).2.2.2.2.2.1
  blk_simp
  rw [after5]
  obtain ⟨y0, y1, y2, rfl⟩ : ∃ (a : Fin 1) (b : Fin 20) (r : Fin 256), y = ix3 a b r := ⟨y 0, y 1, y 2, eq_ix3 y⟩
  have h : qsOf (F := Ideal) (bx (F := Ideal) m c t.val) (ix3 y0 y1 y2) = rowScale (qrow (aX m c) (batchOf t) (posOf t y2) y1) := by
    rw [← bx_row]; exact congrArg scale1 (amaxOf_at _ y2)
  refine h.trans ?_
  have e0 : (win0_5.blk t).view.emb (ix3 y0 y1 y2) = ix3 (batchOf t) y1 (posOf t y2) := by
    unfold batchOf posOf; blk_ext [e]
  rw [e0]; rfl

theorem kc_arr (c : Dev nD) : (dats (F := Ideal) m 0 c).arrAt 6 cfg0.N = fun i : S3x12288x4x256.Idx => rowCode (krow (aK m c) (i 0) (i 1) (i 2)) (i 3) := by
  refine (dats (F := Ideal) m 0 c).arrAt_eq_of_covers 6 _ (by decide +kernel) fun t hf y => ?_
  have e := (index_at t).2.2.2.2.2.2.1
  blk_simp
  rw [after6]
  obtain ⟨y0, y1, y2, y3, rfl⟩ : ∃ (a : Fin 1) (b : Fin 256) (r : Fin 4) (k : Fin 256), y = ix4 a b r k := ⟨y 0, y 1, y 2, y 3, eq_ix4 y⟩
  have h : kcOf (F := Ideal) (bk (F := Ideal) m c t.val) (ix4 y0 y1 y2 y3) = rowCode (krow (aK m c) (batchOf t) (posOf t y1) y2) y3 := by
    rw [← bk_row]; exact codesOf_at _ y1 y3
  refine h.trans ?_
  have e0 : (win0_6.blk t).view.emb (ix4 y0 y1 y2 y3) = ix4 (batchOf t) (posOf t y1) y2 y3 := by
    unfold batchOf posOf; blk_ext [e]
  rw [e0]; rfl

theorem ks_arr (c : Dev nD) : (dats (F := Ideal) m 0 c).arrAt 7 cfg0.N = fun i : S3x4x12288.Idx => rowScale (krow (aK m c) (i 0) (i 2) (i 1)) := by
  refine (dats (F := Ideal) m 0 c).arrAt_eq_of_covers 7 _ (by decide +kernel) fun t hf y => ?_
  have e := (index_at t).2.2.2.2.2.2.2.1
  blk_simp
  rw [after7]
  obtain ⟨y0, y1, y2, rfl⟩ : ∃ (a : Fin 1) (b : Fin 4) (r : Fin 256), y = ix3 a b r := ⟨y 0, y 1, y 2, eq_ix3 y⟩
  have h : ksOf (F := Ideal) (bk (F := Ideal) m c t.val) (ix3 y0 y1 y2) = rowScale (krow (aK m c) (batchOf t) (posOf t y2) y1) := by
    rw [← bk_row]; exact congrArg scale1 (amaxOf_at _ y2)
  refine h.trans ?_
  have e0 : (win0_7.blk t).view.emb (ix3 y0 y1 y2) = ix3 (batchOf t) y1 (posOf t y2) := by
    unfold batchOf posOf; blk_ext [e]
  rw [e0]; rfl

theorem vc_arr (c : Dev nD) : (dats (F := Ideal) m 0 c).arrAt 8 cfg0.N = fun i : S3x12288x4x256.Idx => rowCode (krow (aV m c) (i 0) (i 1) (i 2)) (i 3) := by
  refine (dats (F := Ideal) m 0 c).arrAt_eq_of_covers 8 _ (by decide +kernel) fun t hf y => ?_
  have e := (index_at t).2.2.2.2.2.2.2.2.1
  blk_simp
  rw [after8]
  obtain ⟨y0, y1, y2, y3, rfl⟩ : ∃ (a : Fin 1) (b : Fin 256) (r : Fin 4) (k : Fin 256), y = ix4 a b r k := ⟨y 0, y 1, y 2, y 3, eq_ix4 y⟩
  have h : kcOf (F := Ideal) (bv (F := Ideal) m c t.val) (ix4 y0 y1 y2 y3) = rowCode (krow (aV m c) (batchOf t) (posOf t y1) y2) y3 := by
    rw [← bv_row]; exact codesOf_at _ y1 y3
  refine h.trans ?_
  have e0 : (win0_8.blk t).view.emb (ix4 y0 y1 y2 y3) = ix4 (batchOf t) (posOf t y1) y2 y3 := by
    unfold batchOf posOf; blk_ext [e]
  rw [e0]; rfl

theorem vs_arr (c : Dev nD) : (dats (F := Ideal) m 0 c).arrAt 9 cfg0.N = fun i : S3x4x12288.Idx => rowScale (krow (aV m c) (i 0) (i 2) (i 1)) := by
  refine (dats (F := Ideal) m 0 c).arrAt_eq_of_covers 9 _ (by decide +kernel) fun t hf y => ?_
  have e := (index_at t).2.2.2.2.2.2.2.2.2
  blk_simp
  rw [after9]
  obtain ⟨y0, y1, y2, rfl⟩ : ∃ (a : Fin 1) (b : Fin 4) (r : Fin 256), y = ix3 a b r := ⟨y 0, y 1, y 2, eq_ix3 y⟩
  have h : ksOf (F := Ideal) (bv (F := Ideal) m c t.val) (ix3 y0 y1 y2) = rowScale (krow (aV m c) (batchOf t) (posOf t y2) y1) := by
    rw [← bv_row]; exact congrArg scale1 (amaxOf_at _ y2)
  refine h.trans ?_
  have e0 : (win0_9.blk t).view.emb (ix3 y0 y1 y2) = ix3 (batchOf t) y1 (posOf t y2) := by
    unfold batchOf posOf; blk_ext [e]
  rw [e0]; rfl

/-- The attention's results, as the points leave them: row `r` of point `t` is position `posOf t r`. -/
def outAtPos (c : Dev nD) (b : Fin 3) (s : Fin 12288) (j : Fin 5120) : EReal :=
  outAt (bx (F := Ideal) m c) (bk m c) (bv m c) lc (48 * b.val + s.val / 256) (s.val / 256) (ix3 0 ⟨s.val % 256, Nat.mod_lt _ (by decide)⟩ j)

theorem out_arr (c : Dev nD) : (dats (F := Ideal) m 0 c).arrAt 3 cfg0.N = fun i : S3x12288x5120.Idx => outAtPos m c (i 0) (i 1) (i 2) := by
  refine (dats (F := Ideal) m 0 c).arrAt_eq_of_covers 3 _ (by decide +kernel) fun t hf y => ?_
  have e := (index_at t).2.2.2.1
  blk_simp
  rw [after3]
  obtain ⟨y0, y1, y2, rfl⟩ : ∃ (a : Fin 1) (b : Fin 256) (r : Fin 5120), y = ix3 a b r := ⟨y 0, y 1, y 2, eq_ix3 y⟩
  have e0 : (win0_3.blk t).view.emb (ix3 y0 y1 y2) = ix3 (batchOf t) (posOf t y1) y2 := by
    unfold batchOf posOf; blk_ext [e]
  rw [e0]
  show _ = outAtPos m c (batchOf t) (posOf t y1) y2
  have e1 : 48 * (batchOf t).val + (posOf t y1).val / 256 = t.val := by unfold batchOf posOf; simp only; omega
  have e2 : (posOf t y1).val / 256 = seqAt t.val := by unfold posOf seqAt; simp only; omega
  have e3 : (⟨(posOf t y1).val % 256, Nat.mod_lt _ (by decide)⟩ : Fin 256) = y1 := Fin.ext (by unfold posOf; simp only; omega)
  have e4 : y0 = 0 := Fin.ext (by omega)
  unfold outAtPos
  rw [e1, e2, e3, e4]

end Cert.Gqa.KernelIdeal
-- ==== Proof.Ref.Run.lean ====
/- The reference program `ReferenceIdeal`'s run. Its @main is 3 host operations, ONE kernel region and then
   59 host operations; its frame module,
   proofs.«01_k».proof.Proof.Gen.ReferenceIdeal.Frame,
   states the run, `Gen.run_main`: every array of the
   region's pipeline at what the library computes from the proof data (`Dat.arrAt … N`), every other buffer at the later operations
   applied to the region's exit contents (`Pipeline.afterTail₀`). This module names those contents (`exitV`) and each OUTPUT array of
   the region (`reg_<buffer>`: what the kernel leaves there, not opened here; a certificate reads it off the frame's proof data,
   `Gen.dats`), reads the later operations off the Launch module's lists as one chain (`tail_<result>`, by the `after_results` tactic),
   and states `run` as a host program's Run module does: every weakly fair execution terminates with each result at
   the later operations' composed term of the arguments' launch contents and the region's outputs — a result's own line is `fin_<result>` —, the arguments unchanged.
   A result that `run` states by a name, `res_main_vN` (its term is long, or later operations read it more than once),
   has a second name, the abbreviation `res_out<i>`, i counting from 0 over all the values @main returns.
   State hand lemmas about `res_out<i>`: a re-print of the program renumbers N. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v3_0` (window 3's): not opened here. -/
def reg_main_v3_0 (c : Dev nD) : Buf (Elt F) ((c.tc : Thread nD τ).loc main_v3_0) := (Gen.dats m 0 c).arrAt 3 cfg0.N
/-- What the kernel region leaves in its result array `main_v3_1` (window 4's): not opened here. -/
def reg_main_v3_1 (c : Dev nD) : Buf (Elt F) ((c.tc : Thread nD τ).loc main_v3_1) := (Gen.dats m 0 c).arrAt 4 cfg0.N
/-- What the kernel region leaves in its result array `main_v3_2` (window 5's): not opened here. -/
def reg_main_v3_2 (c : Dev nD) : Buf (Elt F) ((c.tc : Thread nD τ).loc main_v3_2) := (Gen.dats m 0 c).arrAt 5 cfg0.N
/-- What the kernel region leaves in its result array `main_v3_3` (window 6's): not opened here. -/
def reg_main_v3_3 (c : Dev nD) : Buf (Elt F) ((c.tc : Thread nD τ).loc main_v3_3) := (Gen.dats m 0 c).arrAt 6 cfg0.N
/-- What the kernel region leaves in its result array `main_v3_4` (window 7's): not opened here. -/
def reg_main_v3_4 (c : Dev nD) : Buf (Elt F) ((c.tc : Thread nD τ).loc main_v3_4) := (Gen.dats m 0 c).arrAt 7 cfg0.N
/-- What the kernel region leaves in its result array `main_v3_5` (window 8's): not opened here. -/
def reg_main_v3_5 (c : Dev nD) : Buf (Elt F) ((c.tc : Thread nD τ).loc main_v3_5) := (Gen.dats m 0 c).arrAt 8 cfg0.N
/-- What the kernel region leaves in its result array `main_v3_6` (window 9's): not opened here. -/
def reg_main_v3_6 (c : Dev nD) : Buf (Elt F) ((c.tc : Thread nD τ).loc main_v3_6) := (Gen.dats m 0 c).arrAt 9 cfg0.N
/-- What the kernel region leaves in its result array `main_v3_7` (window 10's): not opened here. -/
def reg_main_v3_7 (c : Dev nD) : Buf (Elt F) ((c.tc : Thread nD τ).loc main_v3_7) := (Gen.dats m 0 c).arrAt 10 cfg0.N
/-- What the kernel region leaves in its result array `main_v3_8` (window 11's): not opened here. -/
def reg_main_v3_8 (c : Dev nD) : Buf (Elt F) ((c.tc : Thread nD τ).loc main_v3_8) := (Gen.dats m 0 c).arrAt 11 cfg0.N

/-- The exit contents at the region's result array `main_v3_1`. -/
theorem exit_main_v3_1 (c : Dev nD) : exitV m c (Proc.devRef .tc main_v3_1) = reg_main_v3_1 m c :=
  Pipeline.withArrays_arr spec0 Gen.launch0.win.arr_inj c (Gen.V0 m c) _ 4
/-- The exit contents at the region's result array `main_v3_2`. -/
theorem exit_main_v3_2 (c : Dev nD) : exitV m c (Proc.devRef .tc main_v3_2) = reg_main_v3_2 m c :=
  Pipeline.withArrays_arr spec0 Gen.launch0.win.arr_inj c (Gen.V0 m c) _ 5
/-- The exit contents at the region's result array `main_v3_4`. -/
theorem exit_main_v3_4 (c : Dev nD) : exitV m c (Proc.devRef .tc main_v3_4) = reg_main_v3_4 m c :=
  Pipeline.withArrays_arr spec0 Gen.launch0.win.arr_inj c (Gen.V0 m c) _ 7
/-- The exit contents at the region's result array `main_v3_5`. -/
theorem exit_main_v3_5 (c : Dev nD) : exitV m c (Proc.devRef .tc main_v3_5) = reg_main_v3_5 m c :=
  Pipeline.withArrays_arr spec0 Gen.launch0.win.arr_inj c (Gen.V0 m c) _ 8
/-- The exit contents at the region's result array `main_v3_8`. -/
theorem exit_main_v3_8 (c : Dev nD) : exitV m c (Proc.devRef .tc main_v3_8) = reg_main_v3_8 m c :=
  Pipeline.withArrays_arr spec0 Gen.launch0.win.arr_inj c (Gen.V0 m c) _ 11
/-- The exit contents at the region's result array `main_v3_7`. -/
theorem exit_main_v3_7 (c : Dev nD) : exitV m c (Proc.devRef .tc main_v3_7) = reg_main_v3_7 m c :=
  Pipeline.withArrays_arr spec0 Gen.launch0.win.arr_inj c (Gen.V0 m c) _ 10
/-- The exit contents at the region's result array `main_v3_0`. -/
theorem exit_main_v3_0 (c : Dev nD) : exitV m c (Proc.devRef .tc main_v3_0) = reg_main_v3_0 m c :=
  Pipeline.withArrays_arr spec0 Gen.launch0.win.arr_inj c (Gen.V0 m c) _ 3
/-- The exit contents at the region's result array `main_v3_3`. -/
theorem exit_main_v3_3 (c : Dev nD) : exitV m c (Proc.devRef .tc main_v3_3) = reg_main_v3_3 m c :=
  Pipeline.withArrays_arr spec0 Gen.launch0.win.arr_inj c (Gen.V0 m c) _ 6
/-- The exit contents at the region's result array `main_v3_6`. -/
theorem exit_main_v3_6 (c : Dev nD) : exitV m c (Proc.devRef .tc main_v3_6) = reg_main_v3_6 m c :=
  Pipeline.withArrays_arr spec0 Gen.launch0.win.arr_inj c (Gen.V0 m c) _ 9

set_option maxRecDepth 8192 in
/-- `main_v53`'s composed term of the arguments and the region's results (named: it is long). -/
def res_main_v53 (c : Dev nD) : Buf (Elt F) ((c.tc : Thread nD τ).loc main_v53) :=
  truncf .bf16 (shapeCast _ (Host.divf (transpose S3x12288x4x5x256 [0, 3, 1, 4, 2] (Host.dotGeneral dot_S3x12288x4x256_S3x12288x4x5x12288_S3x4x256x12288x5_1_4_3_13_02_02 none (truncf .bf16 (reg_main_v3_7 m c) bitsLt_bf16_f32) (truncf .bf16 (mulf (minimumf (mulf (Host.exp (subf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (reg_main_v3_4 m c) (shapeCast _ (reg_main_v3_1 m c) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (reg_main_v3_2 m c) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (reg_main_v3_5 m c) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (Host.reduce FloatOps.maximumf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (reg_main_v3_4 m c) (shapeCast _ (reg_main_v3_1 m c) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (reg_main_v3_2 m c) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (reg_main_v3_5 m c) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (constant S_ .f32 0xFF800000#32) reducesTo_S3x12288x4x5x12288_S3x12288x4x5_d4 h_S_))))) (broadcastInDim S3x12288x4x5x12288 ![] bcast_S_S3x12288x4x5x12288 (constant S_ .f32 0x43800000#32))) (broadcastInDim S3x12288x4x5x12288 ![] bcast_S_S3x12288x4x5x12288 (constant S_ .f32 0x43E00000#32))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (reg_main_v3_8 m c) transposes_S3x12288x4_S3x4x12288_0_2_1)))) bitsLt_bf16_f32)) transposes_S3x4x256x12288x5_S3x12288x4x5x256_0_3_1_4_2) (broadcastInDim S3x12288x4x5x256 ![0, 1, 2, 3, 4] bcast_S3x12288x4x5x1_S3x12288x4x5x256_0_1_2_3_4 (broadcastInDim S3x12288x4x5x1 ![0, 1, 2, 3] bcast_S3x12288x4x5_S3x12288x4x5x1_0_1_2_3 (mulf (broadcastInDim S3x12288x4x5 ![] bcast_S_S3x12288x4x5 (constant S_ .f32 0x43800000#32)) (Host.reduceAdd (Host.exp (subf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (reg_main_v3_4 m c) (shapeCast _ (reg_main_v3_1 m c) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (reg_main_v3_2 m c) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (reg_main_v3_5 m c) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (Host.reduce FloatOps.maximumf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (reg_main_v3_4 m c) (shapeCast _ (reg_main_v3_1 m c) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (reg_main_v3_2 m c) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (reg_main_v3_5 m c) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (constant S_ .f32 0xFF800000#32) reducesTo_S3x12288x4x5x12288_S3x12288x4x5_d4 h_S_))))) (constant S_ .f32 0x00000000#32) reducesTo_S3x12288x4x5x12288_S3x12288x4x5_d4 h_S_))))) shapeCasts_S3x12288x4x5x256_S3x12288x5120) bitsLt_bf16_f32

/-- `res_main_v53` by its position among the values @main returns, 0 counting from 0: the name for hand proofs to cite, since
    a re-print renumbers `main_v53`. An abbreviation: it unfolds to the `res_main_v53` that `run` states. -/
abbrev res_out0 (c : Dev nD) : Buf (Elt F) ((c.tc : Thread nD τ).loc main_v53) := res_main_v53 m c

set_option maxRecDepth 8192 in
set_option maxHeartbeats 2000000 in
/-- The later operations from any contents `V0`, read at result `main_v53`. -/
theorem tail_main_v53 (V0 : Valuation τ sig (Elt F)) :
    after (List.flatten [Gen.hostOps1]) V0 (Proc.devRef .tc main_v53) = truncf .bf16 (shapeCast _ (Host.divf (transpose S3x12288x4x5x256 [0, 3, 1, 4, 2] (Host.dotGeneral dot_S3x12288x4x256_S3x12288x4x5x12288_S3x4x256x12288x5_1_4_3_13_02_02 none (truncf .bf16 (V0 (Proc.devRef .tc main_v3_7)) bitsLt_bf16_f32) (truncf .bf16 (mulf (minimumf (mulf (Host.exp (subf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (Host.reduce FloatOps.maximumf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (constant S_ .f32 0xFF800000#32) reducesTo_S3x12288x4x5x12288_S3x12288x4x5_d4 h_S_))))) (broadcastInDim S3x12288x4x5x12288 ![] bcast_S_S3x12288x4x5x12288 (constant S_ .f32 0x43800000#32))) (broadcastInDim S3x12288x4x5x12288 ![] bcast_S_S3x12288x4x5x12288 (constant S_ .f32 0x43E00000#32))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_8)) transposes_S3x12288x4_S3x4x12288_0_2_1)))) bitsLt_bf16_f32)) transposes_S3x4x256x12288x5_S3x12288x4x5x256_0_3_1_4_2) (broadcastInDim S3x12288x4x5x256 ![0, 1, 2, 3, 4] bcast_S3x12288x4x5x1_S3x12288x4x5x256_0_1_2_3_4 (broadcastInDim S3x12288x4x5x1 ![0, 1, 2, 3] bcast_S3x12288x4x5_S3x12288x4x5x1_0_1_2_3 (mulf (broadcastInDim S3x12288x4x5 ![] bcast_S_S3x12288x4x5 (constant S_ .f32 0x43800000#32)) (Host.reduceAdd (Host.exp (subf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (Host.reduce FloatOps.maximumf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (constant S_ .f32 0xFF800000#32) reducesTo_S3x12288x4x5x12288_S3x12288x4x5_d4 h_S_))))) (constant S_ .f32 0x00000000#32) reducesTo_S3x12288x4x5x12288_S3x12288x4x5_d4 h_S_))))) shapeCasts_S3x12288x4x5x256_S3x12288x5120) bitsLt_bf16_f32 := by
  simp only [Gen.hostOps1, List.flatten_cons, List.flatten_nil, List.append_nil, List.cons_append, List.nil_append]
  after_results_simp <;> rfl
/-- Result `main_v53` after the later operations from the region's exit contents. -/
theorem fin_main_v53 (c : Dev nD) :
    Pipeline.afterTail₀ cfgs (Gen.dats m) 0 (Gen.V0 m) [Gen.hostOps1] c main_v53 = res_main_v53 m c :=
  by unfold res_main_v53; exact (tail_main_v53 (exitV m c)).trans (by rw [exit_main_v3_1, exit_main_v3_2, exit_main_v3_4, exit_main_v3_5, exit_main_v3_8, exit_main_v3_7]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v53) = res_main_v53 m c
      ∧ r.2.mem ((c.tc : Thread nD τ).loc main_v3_0) = reg_main_v3_0 m c
      ∧ r.2.mem ((c.tc : Thread nD τ).loc main_v3_2) = reg_main_v3_2 m c
      ∧ r.2.mem ((c.tc : Thread nD τ).loc main_v3_3) = reg_main_v3_3 m c
      ∧ r.2.mem ((c.tc : Thread nD τ).loc main_v3_5) = reg_main_v3_5 m c
      ∧ r.2.mem ((c.tc : Thread nD τ).loc main_v3_6) = reg_main_v3_6 m c
      ∧ r.2.mem ((c.tc : Thread nD τ).loc main_v3_8) = reg_main_v3_8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v53 (Pipeline.mem_restRefs_of main_v53 (by decide) (by decide))).trans (fin_main_v53 m c),
      ((h c).1 3).trans (show _ = reg_main_v3_0 m c from rfl),
      ((h c).1 5).trans (show _ = reg_main_v3_2 m c from rfl),
      ((h c).1 6).trans (show _ = reg_main_v3_3 m c from rfl),
      ((h c).1 8).trans (show _ = reg_main_v3_5 m c from rfl),
      ((h c).1 9).trans (show _ = reg_main_v3_6 m c from rfl),
      ((h c).1 11).trans (show _ = reg_main_v3_8 m c from rfl),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c)⟩) (Gen.run_main m ρ)

end Cert.ReferenceIdeal.Value

end
-- ==== Proof.Ref.Read.lean ====
/- The reference program `ReferenceIdeal`, one operation at a time. `val_<buffer>` (one per operation, in program order) is
   the value the operation writes, as a function of the parameters below it depends on. `val_<buffer>_apply` reads it
   at an index `i` from the operands at an index, for each operation whose result element depends on one element of
   each operand; a layout operation reads its operand at `idx_<buffer> i`, computed from the literal shapes for the
   library lemma that asks for it (Lib/Pipeline/Value.lean § Layout operations read at an index). `val_<buffer>_eq`: a
   result's term as the Run module states it (`tail_<result>` or its window lemmas) equals its `val_`. Chain the
   `_apply` lemmas by `rw` or `simp only`. 58 of 59 operations have an `_apply` lemma.
   The operations are those AFTER the program's kernel region. Their parameters:
   `x0` argument `main_arg0`;
   `x1` argument `main_arg1`;
   `x2` argument `main_arg2`;
   `r0` what the kernel leaves in `main_v3_0` (the Run module's `reg_main_v3_0`);
   `r1` what the kernel leaves in `main_v3_1` (the Run module's `reg_main_v3_1`);
   `r2` what the kernel leaves in `main_v3_2` (the Run module's `reg_main_v3_2`);
   `r3` what the kernel leaves in `main_v3_3` (the Run module's `reg_main_v3_3`);
   `r4` what the kernel leaves in `main_v3_4` (the Run module's `reg_main_v3_4`);
   `r5` what the kernel leaves in `main_v3_5` (the Run module's `reg_main_v3_5`);
   `r6` what the kernel leaves in `main_v3_6` (the Run module's `reg_main_v3_6`);
   `r7` what the kernel leaves in `main_v3_7` (the Run module's `reg_main_v3_7`);
   `r8` what the kernel leaves in `main_v3_8` (the Run module's `reg_main_v3_8`).
   `val_<result>_eq` is stated over any contents `V0` of those buffers, its parameters read there (`V0 (Proc.devRef .tc ‹buffer›)`),
   as the Run module's lemmas are: a certificate instantiates it at `Value.exitV m c` and rewrites the reads by `Value.exit_‹buffer›`.
   The printed program is an idealized one (its header has the printer's IDEALIZATION paragraph), so a `dot_general`
   and a float sum have an `_apply` lemma too, stated at `F := Ideal`: a `dot_general`'s element is the sum over `k` of the
   left operand at `lidx_<buffer> i k` times the right at `ridx_<buffer> i k`; a float sum's is the initial value plus
   the sum over `k` of the operand at `idx_<buffer> i k`, or, into a result whose axes all have size one, plus the sum
   over every index of the operand.
   not read: main_v31 (stablehlo.reduce) — each element is a fold over an axis of the operand, not one element of it -/
module

public import proofs.«01_k».proof.Proof.Ref.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %4 = stablehlo.reshape %3#1 : (tensor<3x12288x20x256xf32>) -> tensor<3x12288x4x5x256xf32>
def val_main_v4 (r1 : (⟨S3x12288x20x256, .f32⟩ : BufTy).Contents (Elt F)) : (⟨S3x12288x4x5x256, .f32⟩ : BufTy).Contents (Elt F) :=
  shapeCast _ (r1) shapeCasts_S3x12288x20x256_S3x12288x4x5x256
set_option backward.proofsInPublic true in
abbrev idx_main_v4 (i : S3x12288x4x5x256.Idx) : S3x12288x20x256.Idx := fun a => match a with
  | ⟨0, _⟩ => ⟨(((((i 0).val * 12288 + (i 1).val) * 4 + (i 2).val) * 5 + (i 3).val) * 256 + (i 4).val) / 62914560, by have h0 : (i 0).val < 3 := (i 0).isLt; have h1 : (i 1).val < 12288 := (i 1).isLt; have h2 : (i 2).val < 4 := (i 2).isLt; have h3 : (i 3).val < 5 := (i 3).isLt; have h4 : (i 4).val < 256 := (i 4).isLt; show (((((i 0).val * 12288 + (i 1).val) * 4 + (i 2).val) * 5 + (i 3).val) * 256 + (i 4).val) / 62914560 < 3; omega⟩
  | ⟨1, _⟩ => ⟨(((((i 0).val * 12288 + (i 1).val) * 4 + (i 2).val) * 5 + (i 3).val) * 256 + (i 4).val) / 5120 % 12288, by have h0 : (i 0).val < 3 := (i 0).isLt; have h1 : (i 1).val < 12288 := (i 1).isLt; have h2 : (i 2).val < 4 := (i 2).isLt; have h3 : (i 3).val < 5 := (i 3).isLt; have h4 : (i 4).val < 256 := (i 4).isLt; show (((((i 0).val * 12288 + (i 1).val) * 4 + (i 2).val) * 5 + (i 3).val) * 256 + (i 4).val) / 5120 % 12288 < 12288; omega⟩
  | ⟨2, _⟩ => ⟨(((((i 0).val * 12288 + (i 1).val) * 4 + (i 2).val) * 5 + (i 3).val) * 256 + (i 4).val) / 256 % 20, by have h0 : (i 0).val < 3 := (i 0).isLt; have h1 : (i 1).val < 12288 := (i 1).isLt; have h2 : (i 2).val < 4 := (i 2).isLt; have h3 : (i 3).val < 5 := (i 3).isLt; have h4 : (i 4).val < 256 := (i 4).isLt; show (((((i 0).val * 12288 + (i 1).val) * 4 + (i 2).val) * 5 + (i 3).val) * 256 + (i 4).val) / 256 % 20 < 20; omega⟩
  | ⟨3, _⟩ => ⟨(((((i 0).val * 12288 + (i 1).val) * 4 + (i 2).val) * 5 + (i 3).val) * 256 + (i 4).val) % 256, by have h0 : (i 0).val < 3 := (i 0).isLt; have h1 : (i 1).val < 12288 := (i 1).isLt; have h2 : (i 2).val < 4 := (i 2).isLt; have h3 : (i 3).val < 5 := (i 3).isLt; have h4 : (i 4).val < 256 := (i 4).isLt; show (((((i 0).val * 12288 + (i 1).val) * 4 + (i 2).val) * 5 + (i 3).val) * 256 + (i 4).val) % 256 < 256; omega⟩
theorem val_main_v4_apply (r1 : (⟨S3x12288x20x256, .f32⟩ : BufTy).Contents (Elt F)) (i : S3x12288x4x5x256.Idx) :
    val_main_v4 (F := F) r1 i = r1 (idx_main_v4 i) := by
  unfold val_main_v4
  exact shapeCast_apply r1 shapeCasts_S3x12288x20x256_S3x12288x4x5x256 i (idx_main_v4 i)
    (by rewrite [Shape.rowMajor_val_four, Shape.rowMajor_val_five]; have h0 : (i 0).val < 3 := (i 0).isLt; have h1 : (i 1).val < 12288 := (i 1).isLt; have h2 : (i 2).val < 4 := (i 2).isLt; have h3 : (i 3).val < 5 := (i 3).isLt; have h4 : (i 4).val < 256 := (i 4).isLt; show (((((((i 0).val * 12288 + (i 1).val) * 4 + (i 2).val) * 5 + (i 3).val) * 256 + (i 4).val) / 62914560 * 12288 + (((((i 0).val * 12288 + (i 1).val) * 4 + (i 2).val) * 5 + (i 3).val) * 256 + (i 4).val) / 5120 % 12288) * 20 + (((((i 0).val * 12288 + (i 1).val) * 4 + (i 2).val) * 5 + (i 3).val) * 256 + (i 4).val) / 256 % 20) * 256 + (((((i 0).val * 12288 + (i 1).val) * 4 + (i 2).val) * 5 + (i 3).val) * 256 + (i 4).val) % 256 = ((((i 0).val * 12288 + (i 1).val) * 4 + (i 2).val) * 5 + (i 3).val) * 256 + (i 4).val; omega)

-- %5 = stablehlo.reshape %3#2 : (tensor<3x12288x20xf32>) -> tensor<3x12288x4x5xf32>
def val_main_v5 (r2 : (⟨S3x12288x20, .f32⟩ : BufTy).Contents (Elt F)) : (⟨S3x12288x4x5, .f32⟩ : BufTy).Contents (Elt F) :=
  shapeCast _ (r2) shapeCasts_S3x12288x20_S3x12288x4x5
set_option backward.proofsInPublic true in
abbrev idx_main_v5 (i : S3x12288x4x5.Idx) : S3x12288x20.Idx := fun a => match a with
  | ⟨0, _⟩ => ⟨((((i 0).val * 12288 + (i 1).val) * 4 + (i 2).val) * 5 + (i 3).val) / 245760, by have h0 : (i 0).val < 3 := (i 0).isLt; have h1 : (i 1).val < 12288 := (i 1).isLt; have h2 : (i 2).val < 4 := (i 2).isLt; have h3 : (i 3).val < 5 := (i 3).isLt; show ((((i 0).val * 12288 + (i 1).val) * 4 + (i 2).val) * 5 + (i 3).val) / 245760 < 3; omega⟩
  | ⟨1, _⟩ => ⟨((((i 0).val * 12288 + (i 1).val) * 4 + (i 2).val) * 5 + (i 3).val) / 20 % 12288, by have h0 : (i 0).val < 3 := (i 0).isLt; have h1 : (i 1).val < 12288 := (i 1).isLt; have h2 : (i 2).val < 4 := (i 2).isLt; have h3 : (i 3).val < 5 := (i 3).isLt; show ((((i 0).val * 12288 + (i 1).val) * 4 + (i 2).val) * 5 + (i 3).val) / 20 % 12288 < 12288; omega⟩
  | ⟨2, _⟩ => ⟨((((i 0).val * 12288 + (i 1).val) * 4 + (i 2).val) * 5 + (i 3).val) % 20, by have h0 : (i 0).val < 3 := (i 0).isLt; have h1 : (i 1).val < 12288 := (i 1).isLt; have h2 : (i 2).val < 4 := (i 2).isLt; have h3 : (i 3).val < 5 := (i 3).isLt; show ((((i 0).val * 12288 + (i 1).val) * 4 + (i 2).val) * 5 + (i 3).val) % 20 < 20; omega⟩
theorem val_main_v5_apply (r2 : (⟨S3x12288x20, .f32⟩ : BufTy).Contents (Elt F)) (i : S3x12288x4x5.Idx) :
    val_main_v5 (F := F) r2 i = r2 (idx_main_v5 i) := by
  unfold val_main_v5
  exact shapeCast_apply r2 shapeCasts_S3x12288x20_S3x12288x4x5 i (idx_main_v5 i)
    (by rewrite [Shape.rowMajor_val_three, Shape.rowMajor_val_four]; have h0 : (i 0).val < 3 := (i 0).isLt; have h1 : (i 1).val < 12288 := (i 1).isLt; have h2 : (i 2).val < 4 := (i 2).isLt; have h3 : (i 3).val < 5 := (i 3).isLt; show (((((i 0).val * 12288 + (i 1).val) * 4 + (i 2).val) * 5 + (i 3).val) / 245760 * 12288 + ((((i 0).val * 12288 + (i 1).val) * 4 + (i 2).val) * 5 + (i 3).val) / 20 % 12288) * 20 + ((((i 0).val * 12288 + (i 1).val) * 4 + (i 2).val) * 5 + (i 3).val) % 20 = (((i 0).val * 12288 + (i 1).val) * 4 + (i 2).val) * 5 + (i 3).val; omega)

-- %6 = stablehlo.dot_general %3#4, %4, batching_dims = [0, 2] x [0, 2], contracting_dims = [3] x [4], precision = [DEFAULT, DEFAULT] : (tensor<3x12288x4x256xf32>, tensor<3x12288x4x5x256xf32>) -> tensor<3x4x12288x12288x5xf32>
def val_main_v6 (r1 : (⟨S3x12288x20x256, .f32⟩ : BufTy).Contents (Elt F)) (r4 : (⟨S3x12288x4x256, .f32⟩ : BufTy).Contents (Elt F)) : (⟨S3x4x12288x12288x5, .f32⟩ : BufTy).Contents (Elt F) :=
  Host.dotGeneral dot_S3x12288x4x256_S3x12288x4x5x256_S3x4x12288x12288x5_3_4_1_13_02_02 none (r4) (val_main_v4 (F := F) r1)
theorem lhs_main_v6_0 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.lhsIdx i q 0).val = (i 0).val := by
  unfold DotDims.lhsIdx
  rw [dif_pos (show (0 : Fin S3x12288x4x256.rank) ∈ dot_S3x12288x4x256_S3x12288x4x5x256_S3x4x12288x12288x5_3_4_1_13_02_02.lhsBatch by decide)]
  rfl
theorem lhs_main_v6_1 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.lhsIdx i q 1).val = (i 2).val := by
  unfold DotDims.lhsIdx
  rw [dif_neg (show ¬(1 : Fin S3x12288x4x256.rank) ∈ dot_S3x12288x4x256_S3x12288x4x5x256_S3x4x12288x12288x5_3_4_1_13_02_02.lhsBatch by decide), dif_pos (show (1 : Fin S3x12288x4x256.rank) ∈ dot_S3x12288x4x256_S3x12288x4x5x256_S3x4x12288x12288x5_3_4_1_13_02_02.lhsNonContracting by decide)]
  rfl
theorem lhs_main_v6_2 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.lhsIdx i q 2).val = (i 1).val := by
  unfold DotDims.lhsIdx
  rw [dif_pos (show (2 : Fin S3x12288x4x256.rank) ∈ dot_S3x12288x4x256_S3x12288x4x5x256_S3x4x12288x12288x5_3_4_1_13_02_02.lhsBatch by decide)]
  rfl
theorem lhs_main_v6_3 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.lhsIdx i q 3).val = (q ⟨0, by decide⟩).val :=
  dot_S3x12288x4x256_S3x12288x4x5x256_S3x4x12288x12288x5_3_4_1_13_02_02.lhsIdx_val_of_single rfl i q
theorem rhs_main_v6_0 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.rhsIdx i q 0).val = (i 0).val := by
  unfold DotDims.rhsIdx
  rw [dif_pos (show (0 : Fin S3x12288x4x5x256.rank) ∈ dot_S3x12288x4x256_S3x12288x4x5x256_S3x4x12288x12288x5_3_4_1_13_02_02.rhsBatch by decide)]
  rfl
theorem rhs_main_v6_1 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.rhsIdx i q 1).val = (i 3).val := by
  unfold DotDims.rhsIdx
  rw [dif_neg (show ¬(1 : Fin S3x12288x4x5x256.rank) ∈ dot_S3x12288x4x256_S3x12288x4x5x256_S3x4x12288x12288x5_3_4_1_13_02_02.rhsBatch by decide), dif_pos (show (1 : Fin S3x12288x4x5x256.rank) ∈ dot_S3x12288x4x256_S3x12288x4x5x256_S3x4x12288x12288x5_3_4_1_13_02_02.rhsNonContracting by decide)]
  rfl
theorem rhs_main_v6_2 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.rhsIdx i q 2).val = (i 1).val := by
  unfold DotDims.rhsIdx
  rw [dif_pos (show (2 : Fin S3x12288x4x5x256.rank) ∈ dot_S3x12288x4x256_S3x12288x4x5x256_S3x4x12288x12288x5_3_4_1_13_02_02.rhsBatch by decide)]
  rfl
theorem rhs_main_v6_3 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.rhsIdx i q 3).val = (i 4).val := by
  unfold DotDims.rhsIdx
  rw [dif_neg (show ¬(3 : Fin S3x12288x4x5x256.rank) ∈ dot_S3x12288x4x256_S3x12288x4x5x256_S3x4x12288x12288x5_3_4_1_13_02_02.rhsBatch by decide), dif_pos (show (3 : Fin S3x12288x4x5x256.rank) ∈ dot_S3x12288x4x256_S3x12288x4x5x256_S3x4x12288x12288x5_3_4_1_13_02_02.rhsNonContracting by decide)]
  rfl
theorem rhs_main_v6_4 (i : S3x4x12288x12288x5.Idx) (q : dot_S3x12288x4x256_S3x12288x4x5x256_S3x4x12288x12288x5_3_4_1_13_02_02.contr.Idx) :
    (dot_S3x12288x4x256_S3x12288x4x5x256_S3x4x12288x12288x5_3_4_1_13_02_02.rhsIdx i q 4).val = (q ⟨0, by decide⟩).val :=
  dot_S3x12288x4x256_S3x12288x4x5x256_S3x4x12288x12288x5_3_4_1_13_02_02.rhsIdx_val_of_single rfl i q
abbrev lidx_main_v6 (i : S3x4x12288x12288x5.Idx) (k : Fin 256) : S3x12288x4x256.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v6 (i : S3x4x12288x12288x5.Idx) (k : Fin 256) : S3x12288x4x5x256.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v6_apply (r1 : (⟨S3x12288x20x256, .f32⟩ : BufTy).Contents (Elt Ideal)) (r4 : (⟨S3x12288x4x256, .f32⟩ : BufTy).Contents (Elt Ideal)) (i : S3x4x12288x12288x5.Idx) :
    val_main_v6 (F := Ideal) r1 r4 i = ∑ k : Fin 256, r4 (lidx_main_v6 i k) * (val_main_v4 (F := Ideal) r1) (ridx_main_v6 i k) := by
  unfold val_main_v6
  generalize val_main_v4 (F := Ideal) r1 = y0
  simp only [Host.dotGeneral]
  rw [Ideal.dotGeneral_apply, ← Equiv.sum_comp (ValueIdx.contrEquiv1 dot_S3x12288x4x256_S3x12288x4x5x256_S3x4x12288x12288x5_3_4_1_13_02_02 256 rfl rfl).symm]
  refine Finset.sum_congr rfl fun k _ => ?_
  have hk := ValueIdx.contrEquiv1_symm_val dot_S3x12288x4x256_S3x12288x4x5x256_S3x4x12288x12288x5_3_4_1_13_02_02 256 rfl rfl k
  have el : dot_S3x12288x4x256_S3x12288x4x5x256_S3x4x12288x12288x5_3_4_1_13_02_02.lhsIdx i ((ValueIdx.contrEquiv1 dot_S3x12288x4x256_S3x12288x4x5x256_S3x4x12288x12288x5_3_4_1_13_02_02 256 rfl rfl).symm k) = lidx_main_v6 i k := funext fun a => Fin.ext (by
    match a with
    | ⟨0, _⟩ => exact lhs_main_v6_0 _ _
    | ⟨1, _⟩ => exact lhs_main_v6_1 _ _
    | ⟨2, _⟩ => exact lhs_main_v6_2 _ _
    | ⟨3, _⟩ => exact (lhs_main_v6_3 _ _).trans hk)
  have er : dot_S3x12288x4x256_S3x12288x4x5x256_S3x4x12288x12288x5_3_4_1_13_02_02.rhsIdx i ((ValueIdx.contrEquiv1 dot_S3x12288x4x256_S3x12288x4x5x256_S3x4x12288x12288x5_3_4_1_13_02_02 256 rfl rfl).symm k) = ridx_main_v6 i k := funext fun a => Fin.ext (by
    match a with
    | ⟨0, _⟩ => exact rhs_main_v6_0 _ _
    | ⟨1, _⟩ => exact rhs_main_v6_1 _ _
    | ⟨2, _⟩ => exact rhs_main_v6_2 _ _
    | ⟨3, _⟩ => exact rhs_main_v6_3 _ _
    | ⟨4, _⟩ => exact (rhs_main_v6_4 _ _).trans hk)
  rw [el, er]

-- %7 = stablehlo.transpose %6, dims = [0, 3, 1, 4, 2] : (tensor<3x4x12288x12288x5xf32>) -> tensor<3x12288x4x5x12288xf32>
def val_main_v7 (r1 : (⟨S3x12288x20x256, .f32⟩ : BufTy).Contents (Elt F)) (r4 : (⟨S3x12288x4x256, .f32⟩ : BufTy).Contents (Elt F)) : (⟨S3x12288x4x5x12288, .f32⟩ : BufTy).Contents (Elt F) :=
  transpose S3x12288x4x5x12288 [0, 3, 1, 4, 2] (val_main_v6 (F := F) r1 r4) transposes_S3x4x12288x12288x5_S3x12288x4x5x12288_0_3_1_4_2
abbrev idx_main_v7 (i : S3x12288x4x5x12288.Idx) : S3x4x12288x12288x5.Idx := fun a => match a with
  | ⟨0, _⟩ => ⟨(i 0).val, (i 0).isLt⟩
  | ⟨1, _⟩ => ⟨(i 2).val, (i 2).isLt⟩
  | ⟨2, _⟩ => ⟨(i 4).val, (i 4).isLt⟩
  | ⟨3, _⟩ => ⟨(i 1).val, (i 1).isLt⟩
  | ⟨4, _⟩ => ⟨(i 3).val, (i 3).isLt⟩
theorem val_main_v7_apply (r1 : (⟨S3x12288x20x256, .f32⟩ : BufTy).Contents (Elt F)) (r4 : (⟨S3x12288x4x256, .f32⟩ : BufTy).Contents (Elt F)) (i : S3x12288x4x5x12288.Idx) :
    val_main_v7 (F := F) r1 r4 i = val_main_v6 (F := F) r1 r4 (idx_main_v7 i) := by
  unfold val_main_v7
  generalize val_main_v6 (F := F) r1 r4 = y
  exact transpose_apply [0, 3, 1, 4, 2] y transposes_S3x4x12288x12288x5_S3x12288x4x5x12288_0_3_1_4_2 i (idx_main_v7 i) (fun b => match b with
    | ⟨0, _⟩ => rfl
    | ⟨1, _⟩ => rfl
    | ⟨2, _⟩ => rfl
    | ⟨3, _⟩ => rfl
    | ⟨4, _⟩ => rfl)

-- %8 = stablehlo.transpose %3#5, dims = [0, 2, 1] : (tensor<3x12288x4xf32>) -> tensor<3x4x12288xf32>
def val_main_v8 (r5 : (⟨S3x12288x4, .f32⟩ : BufTy).Contents (Elt F)) : (⟨S3x4x12288, .f32⟩ : BufTy).Contents (Elt F) :=
  transpose S3x4x12288 [0, 2, 1] (r5) transposes_S3x12288x4_S3x4x12288_0_2_1
abbrev idx_main_v8 (i : S3x4x12288.Idx) : S3x12288x4.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v8_apply (r5 : (⟨S3x12288x4, .f32⟩ : BufTy).Contents (Elt F)) (i : S3x4x12288.Idx) :
    val_main_v8 (F := F) r5 i = r5 (idx_main_v8 i) := by
  unfold val_main_v8
  exact transpose_apply [0, 2, 1] r5 transposes_S3x12288x4_S3x4x12288_0_2_1 i (idx_main_v8 i) (fun b => match b with
    | ⟨0, _⟩ => rfl
    | ⟨1, _⟩ => rfl
    | ⟨2, _⟩ => rfl)

-- %9 = stablehlo.broadcast_in_dim %8, dims = [0, 2, 4] : (tensor<3x4x12288xf32>) -> tensor<3x1x4x1x12288xf32>
def val_main_v9 (r5 : (⟨S3x12288x4, .f32⟩ : BufTy).Contents (Elt F)) : (⟨S3x1x4x1x12288, .f32⟩ : BufTy).Contents (Elt F) :=
  broadcastInDim S3x1x4x1x12288 ![0, 2, 4] bcast_S3x4x12288_S3x1x4x1x12288_0_2_4 (val_main_v8 (F := F) r5)
abbrev idx_main_v9 (i : S3x1x4x1x12288.Idx) : S3x4x12288.Idx := fun a => match a with
  | ⟨0, _⟩ => ⟨(i 0).val, (i 0).isLt⟩
  | ⟨1, _⟩ => ⟨(i 2).val, (i 2).isLt⟩
  | ⟨2, _⟩ => ⟨(i 4).val, (i 4).isLt⟩
theorem val_main_v9_apply (r5 : (⟨S3x12288x4, .f32⟩ : BufTy).Contents (Elt F)) (i : S3x1x4x1x12288.Idx) :
    val_main_v9 (F := F) r5 i = val_main_v8 (F := F) r5 (idx_main_v9 i) := by
  unfold val_main_v9
  generalize val_main_v8 (F := F) r5 = y
  exact broadcastInDim_apply _ bcast_S3x4x12288_S3x1x4x1x12288_0_2_4 y i (idx_main_v9 i) (fun a => match a with
    | ⟨0, _⟩ => by show (i 0).val = if (3 : Nat) = 1 then 0 else (i 0).val; rw [if_neg (by decide)]
    | ⟨1, _⟩ => by show (i 2).val = if (4 : Nat) = 1 then 0 else (i 2).val; rw [if_neg (by decide)]
    | ⟨2, _⟩ => by show (i 4).val = if (12288 : Nat) = 1 then 0 else (i 4).val; rw [if_neg (by decide)])

-- %10 = stablehlo.transpose %3#8, dims = [0, 2, 1] : (tensor<3x12288x4xf32>) -> tensor<3x4x12288xf32>
def val_main_v10 (r8 : (⟨S3x12288x4, .f32⟩ : BufTy).Contents (Elt F)) : (⟨S3x4x12288, .f32⟩ : BufTy).Contents (Elt F) :=
  transpose S3x4x12288 [0, 2, 1] (r8) transposes_S3x12288x4_S3x4x12288_0_2_1
abbrev idx_main_v10 (i : S3x4x12288.Idx) : S3x12288x4.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v10_apply (r8 : (⟨S3x12288x4, .f32⟩ : BufTy).Contents (Elt F)) (i : S3x4x12288.Idx) :
    val_main_v10 (F := F) r8 i = r8 (idx_main_v10 i) := by
  unfold val_main_v10
  exact transpose_apply [0, 2, 1] r8 transposes_S3x12288x4_S3x4x12288_0_2_1 i (idx_main_v10 i) (fun b => match b with
    | ⟨0, _⟩ => rfl
    | ⟨1, _⟩ => rfl
    | ⟨2, _⟩ => rfl)

-- %11 = stablehlo.broadcast_in_dim %10, dims = [0, 2, 4] : (tensor<3x4x12288xf32>) -> tensor<3x1x4x1x12288xf32>
def val_main_v11 (r8 : (⟨S3x12288x4, .f32⟩ : BufTy).Contents (Elt F)) : (⟨S3x1x4x1x12288, .f32⟩ : BufTy).Contents (Elt F) :=
  broadcastInDim S3x1x4x1x12288 ![0, 2, 4] bcast_S3x4x12288_S3x1x4x1x12288_0_2_4 (val_main_v10 (F := F) r8)
abbrev idx_main_v11 (i : S3x1x4x1x12288.Idx) : S3x4x12288.Idx := fun a => match a with
  | ⟨0, _⟩ => ⟨(i 0).val, (i 0).isLt⟩
  | ⟨1, _⟩ => ⟨(i 2).val, (i 2).isLt⟩
  | ⟨2, _⟩ => ⟨(i 4).val, (i 4).isLt⟩
theorem val_main_v11_apply (r8 : (⟨S3x12288x4, .f32⟩ : BufTy).Contents (Elt F)) (i : S3x1x4x1x12288.Idx) :
    val_main_v11 (F := F) r8 i = val_main_v10 (F := F) r8 (idx_main_v11 i) := by
  unfold val_main_v11
  generalize val_main_v10 (F := F) r8 = y
  exact broadcastInDim_apply _ bcast_S3x4x12288_S3x1x4x1x12288_0_2_4 y i (idx_main_v11 i) (fun a => match a with
    | ⟨0, _⟩ => by show (i 0).val = if (3 : Nat) = 1 then 0 else (i 0).val; rw [if_neg (by decide)]
    | ⟨1, _⟩ => by show (i 2).val = if (4 : Nat) = 1 then 0 else (i 2).val; rw [if_neg (by decide)]
    | ⟨2, _⟩ => by show (i 4).val = if (12288 : Nat) = 1 then 0 else (i 4).val; rw [if_neg (by decide)])

-- %12 = stablehlo.iota dim = 0 : tensor<12288x12288xi32>
def val_main_v12 : (⟨S12288x12288, .i32⟩ : BufTy).Contents (Elt F) :=
  iotaInDim S12288x12288 32 0
theorem val_main_v12_apply (i : S12288x12288.Idx) :
    val_main_v12 (F := F) i = BitVec.ofNat 32 (i 0).val := rfl

-- %13 = stablehlo.iota dim = 1 : tensor<12288x12288xi32>
def val_main_v13 : (⟨S12288x12288, .i32⟩ : BufTy).Contents (Elt F) :=
  iotaInDim S12288x12288 32 1
theorem val_main_v13_apply (i : S12288x12288.Idx) :
    val_main_v13 (F := F) i = BitVec.ofNat 32 (i 1).val := rfl

-- %14 = stablehlo.subtract %12, %13 : tensor<12288x12288xi32>
def val_main_v14 : (⟨S12288x12288, .i32⟩ : BufTy).Contents (Elt F) :=
  subi (val_main_v12 (F := F)) (val_main_v13 (F := F))
theorem val_main_v14_apply (i : S12288x12288.Idx) :
    val_main_v14 (F := F) i = IntOp.subi (val_main_v12 (F := F) i) (val_main_v13 (F := F) i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %15 = stablehlo.broadcast_in_dim %c, dims = [] : (tensor<i32>) -> tensor<12288x12288xi32>
def val_main_v15 : (⟨S12288x12288, .i32⟩ : BufTy).Contents (Elt F) :=
  broadcastInDim S12288x12288 ![] bcast_S_S12288x12288 (val_main_c (F := F))
abbrev idx_main_v15 (i : S12288x12288.Idx) : S_.Idx := fun a => a.elim0
theorem val_main_v15_apply (i : S12288x12288.Idx) :
    val_main_v15 (F := F) i = val_main_c (F := F) (idx_main_v15 i) := by
  unfold val_main_v15
  generalize val_main_c (F := F) = y
  exact broadcastInDim_apply _ bcast_S_S12288x12288 y i (idx_main_v15 i) (fun a => a.elim0)

-- %16 = stablehlo.compare GE, %14, %15, SIGNED : (tensor<12288x12288xi32>, tensor<12288x12288xi32>) -> tensor<12288x12288xi1>
def val_main_v16 : (⟨S12288x12288, .i1⟩ : BufTy).Contents (Elt F) :=
  cmpi .sge (val_main_v14 (F := F)) (val_main_v15 (F := F))
theorem val_main_v16_apply (i : S12288x12288.Idx) :
    val_main_v16 (F := F) i = IntOp.cmpi .sge (val_main_v14 (F := F) i) (val_main_v15 (F := F) i) := rfl

-- %c_0 = stablehlo.constant dense<512> : tensor<i32>
def val_main_c_0 : (⟨S_, .i32⟩ : BufTy).Contents (Elt F) :=
  constantI S_ 32 512#32
theorem val_main_c_0_apply (i : S_.Idx) :
    val_main_c_0 (F := F) i = 512#32 := rfl

-- %17 = stablehlo.broadcast_in_dim %c_0, dims = [] : (tensor<i32>) -> tensor<12288x12288xi32>
def val_main_v17 : (⟨S12288x12288, .i32⟩ : BufTy).Contents (Elt F) :=
  broadcastInDim S12288x12288 ![] bcast_S_S12288x12288 (val_main_c_0 (F := F))
abbrev idx_main_v17 (i : S12288x12288.Idx) : S_.Idx := fun a => a.elim0
theorem val_main_v17_apply (i : S12288x12288.Idx) :
    val_main_v17 (F := F) i = val_main_c_0 (F := F) (idx_main_v17 i) := by
  unfold val_main_v17
  generalize val_main_c_0 (F := F) = y
  exact broadcastInDim_apply _ bcast_S_S12288x12288 y i (idx_main_v17 i) (fun a => a.elim0)

-- %18 = stablehlo.compare LT, %14, %17, SIGNED : (tensor<12288x12288xi32>, tensor<12288x12288xi32>) -> tensor<12288x12288xi1>
def val_main_v18 : (⟨S12288x12288, .i1⟩ : BufTy).Contents (Elt F) :=
  cmpi .slt (val_main_v14 (F := F)) (val_main_v17 (F := F))
theorem val_main_v18_apply (i : S12288x12288.Idx) :
    val_main_v18 (F := F) i = IntOp.cmpi .slt (val_main_v14 (F := F) i) (val_main_v17 (F := F) i) := rfl

-- %19 = stablehlo.and %16, %18 : tensor<12288x12288xi1>
def val_main_v19 : (⟨S12288x12288, .i1⟩ : BufTy).Contents (Elt F) :=
  andi (val_main_v16 (F := F)) (val_main_v18 (F := F))
theorem val_main_v19_apply (i : S12288x12288.Idx) :
    val_main_v19 (F := F) i = IntOp.andi (val_main_v16 (F := F) i) (val_main_v18 (F := F) i) := rfl

-- %20 = stablehlo.broadcast_in_dim %5, dims = [0, 1, 2, 3] : (tensor<3x12288x4x5xf32>) -> tensor<3x12288x4x5x1xf32>
def val_main_v20 (r2 : (⟨S3x12288x20, .f32⟩ : BufTy).Contents (Elt F)) : (⟨S3x12288x4x5x1, .f32⟩ : BufTy).Contents (Elt F) :=
  broadcastInDim S3x12288x4x5x1 ![0, 1, 2, 3] bcast_S3x12288x4x5_S3x12288x4x5x1_0_1_2_3 (val_main_v5 (F := F) r2)
abbrev idx_main_v20 (i : S3x12288x4x5x1.Idx) : S3x12288x4x5.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v20_apply (r2 : (⟨S3x12288x20, .f32⟩ : BufTy).Contents (Elt F)) (i : S3x12288x4x5x1.Idx) :
    val_main_v20 (F := F) r2 i = val_main_v5 (F := F) r2 (idx_main_v20 i) := by
  unfold val_main_v20
  generalize val_main_v5 (F := F) r2 = y
  exact broadcastInDim_apply _ bcast_S3x12288x4x5_S3x12288x4x5x1_0_1_2_3 y i (idx_main_v20 i) (fun a => match a with
    | ⟨0, _⟩ => by show (i 0).val = if (3 : Nat) = 1 then 0 else (i 0).val; rw [if_neg (by decide)]
    | ⟨1, _⟩ => by show (i 1).val = if (12288 : Nat) = 1 then 0 else (i 1).val; rw [if_neg (by decide)]
    | ⟨2, _⟩ => by show (i 2).val = if (4 : Nat) = 1 then 0 else (i 2).val; rw [if_neg (by decide)]
    | ⟨3, _⟩ => by show (i 3).val = if (5 : Nat) = 1 then 0 else (i 3).val; rw [if_neg (by decide)])

-- %21 = stablehlo.broadcast_in_dim %20, dims = [0, 1, 2, 3, 4] : (tensor<3x12288x4x5x1xf32>) -> tensor<3x12288x4x5x12288xf32>
def val_main_v21 (r2 : (⟨S3x12288x20, .f32⟩ : BufTy).Contents (Elt F)) : (⟨S3x12288x4x5x12288, .f32⟩ : BufTy).Contents (Elt F) :=
  broadcastInDim S3x12288x4x5x12288 ![0, 1, 2, 3, 4] bcast_S3x12288x4x5x1_S3x12288x4x5x12288_0_1_2_3_4 (val_main_v20 (F := F) r2)
abbrev idx_main_v21 (i : S3x12288x4x5x12288.Idx) : S3x12288x4x5x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v21_apply (r2 : (⟨S3x12288x20, .f32⟩ : BufTy).Contents (Elt F)) (i : S3x12288x4x5x12288.Idx) :
    val_main_v21 (F := F) r2 i = val_main_v20 (F := F) r2 (idx_main_v21 i) := by
  unfold val_main_v21
  generalize val_main_v20 (F := F) r2 = y
  exact broadcastInDim_apply _ bcast_S3x12288x4x5x1_S3x12288x4x5x12288_0_1_2_3_4 y i (idx_main_v21 i) (fun a => match a with
    | ⟨0, _⟩ => by show (i 0).val = if (3 : Nat) = 1 then 0 else (i 0).val; rw [if_neg (by decide)]
    | ⟨1, _⟩ => by show (i 1).val = if (12288 : Nat) = 1 then 0 else (i 1).val; rw [if_neg (by decide)]
    | ⟨2, _⟩ => by show (i 2).val = if (4 : Nat) = 1 then 0 else (i 2).val; rw [if_neg (by decide)]
    | ⟨3, _⟩ => by show (i 3).val = if (5 : Nat) = 1 then 0 else (i 3).val; rw [if_neg (by decide)]
    | ⟨4, _⟩ => by show 0 = if (1 : Nat) = 1 then 0 else (i 4).val; rw [if_pos rfl])

-- %22 = stablehlo.multiply %7, %21 : tensor<3x12288x4x5x12288xf32>
def val_main_v22 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) : (⟨S3x12288x4x5x12288, .f32⟩ : BufTy).Contents (Elt F) :=
  mulf (val_main_v7 (F := F) r1 r4) (val_main_v21 (F := F) r2)
theorem val_main_v22_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (i : S3x12288x4x5x12288.Idx) :
    val_main_v22 (F := F) r1 r2 r4 i = FloatOps.mulf (val_main_v7 (F := F) r1 r4 i) (val_main_v21 (F := F) r2 i) := rfl

-- %23 = stablehlo.broadcast_in_dim %9, dims = [0, 1, 2, 3, 4] : (tensor<3x1x4x1x12288xf32>) -> tensor<3x12288x4x5x12288xf32>
def val_main_v23 (r5 : (⟨S3x12288x4, .f32⟩ : BufTy).Contents (Elt F)) : (⟨S3x12288x4x5x12288, .f32⟩ : BufTy).Contents (Elt F) :=
  broadcastInDim S3x12288x4x5x12288 ![0, 1, 2, 3, 4] bcast_S3x1x4x1x12288_S3x12288x4x5x12288_0_1_2_3_4 (val_main_v9 (F := F) r5)
abbrev idx_main_v23 (i : S3x12288x4x5x12288.Idx) : S3x1x4x1x12288.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩
  | ⟨4, _⟩ => ⟨(i 4).val, (i 4).isLt⟩
theorem val_main_v23_apply (r5 : (⟨S3x12288x4, .f32⟩ : BufTy).Contents (Elt F)) (i : S3x12288x4x5x12288.Idx) :
    val_main_v23 (F := F) r5 i = val_main_v9 (F := F) r5 (idx_main_v23 i) := by
  unfold val_main_v23
  generalize val_main_v9 (F := F) r5 = y
  exact broadcastInDim_apply _ bcast_S3x1x4x1x12288_S3x12288x4x5x12288_0_1_2_3_4 y i (idx_main_v23 i) (fun a => match a with
    | ⟨0, _⟩ => by show (i 0).val = if (3 : Nat) = 1 then 0 else (i 0).val; rw [if_neg (by decide)]
    | ⟨1, _⟩ => by show 0 = if (1 : Nat) = 1 then 0 else (i 1).val; rw [if_pos rfl]
    | ⟨2, _⟩ => by show (i 2).val = if (4 : Nat) = 1 then 0 else (i 2).val; rw [if_neg (by decide)]
    | ⟨3, _⟩ => by show 0 = if (1 : Nat) = 1 then 0 else (i 3).val; rw [if_pos rfl]
    | ⟨4, _⟩ => by show (i 4).val = if (12288 : Nat) = 1 then 0 else (i 4).val; rw [if_neg (by decide)])

-- %24 = stablehlo.multiply %22, %23 : tensor<3x12288x4x5x12288xf32>
def val_main_v24 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  mulf (val_main_v22 (F := F) r1 r2 r4) (val_main_v23 (F := F) r5)
theorem val_main_v24_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v24 (F := F) r1 r2 r4 r5 i = FloatOps.mulf (val_main_v22 (F := F) r1 r2 r4 i) (val_main_v23 (F := F) r5 i) := rfl

-- %cst = stablehlo.constant dense<6.250000e-02> : tensor<f32>
def val_main_cst : (⟨S_, .f32⟩ : BufTy).Contents (Elt F) :=
  constant S_ .f32 0x3D800000#32
theorem val_main_cst_apply (i : S_.Idx) :
    val_main_cst (F := F) i = FloatOps.ofBits .f32 0x3D800000#32 := rfl

-- %25 = stablehlo.broadcast_in_dim %cst, dims = [] : (tensor<f32>) -> tensor<3x12288x4x5x12288xf32>
def val_main_v25 : (⟨S3x12288x4x5x12288, .f32⟩ : BufTy).Contents (Elt F) :=
  broadcastInDim S3x12288x4x5x12288 ![] bcast_S_S3x12288x4x5x12288 (val_main_cst (F := F))
abbrev idx_main_v25 (i : S3x12288x4x5x12288.Idx) : S_.Idx := fun a => a.elim0
theorem val_main_v25_apply (i : S3x12288x4x5x12288.Idx) :
    val_main_v25 (F := F) i = val_main_cst (F := F) (idx_main_v25 i) := by
  unfold val_main_v25
  generalize val_main_cst (F := F) = y
  exact broadcastInDim_apply _ bcast_S_S3x12288x4x5x12288 y i (idx_main_v25 i) (fun a => a.elim0)

-- %26 = stablehlo.multiply %24, %25 : tensor<3x12288x4x5x12288xf32>
def val_main_v26 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  mulf (val_main_v24 (F := F) r1 r2 r4 r5) (val_main_v25 (F := F))
theorem val_main_v26_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v26 (F := F) r1 r2 r4 r5 i = FloatOps.mulf (val_main_v24 (F := F) r1 r2 r4 r5 i) (val_main_v25 (F := F) i) := rfl

-- %27 = stablehlo.broadcast_in_dim %19, dims = [1, 4] : (tensor<12288x12288xi1>) -> tensor<1x12288x1x1x12288xi1>
def val_main_v27 : (⟨S1x12288x1x1x12288, .i1⟩ : BufTy).Contents (Elt F) :=
  broadcastInDim S1x12288x1x1x12288 ![1, 4] bcast_S12288x12288_S1x12288x1x1x12288_1_4 (val_main_v19 (F := F))
abbrev idx_main_v27 (i : S1x12288x1x1x12288.Idx) : S12288x12288.Idx := fun a => match a with
  | ⟨0, _⟩ => ⟨(i 1).val, (i 1).isLt⟩
  | ⟨1, _⟩ => ⟨(i 4).val, (i 4).isLt⟩
theorem val_main_v27_apply (i : S1x12288x1x1x12288.Idx) :
    val_main_v27 (F := F) i = val_main_v19 (F := F) (idx_main_v27 i) := by
  unfold val_main_v27
  generalize val_main_v19 (F := F) = y
  exact broadcastInDim_apply _ bcast_S12288x12288_S1x12288x1x1x12288_1_4 y i (idx_main_v27 i) (fun a => match a with
    | ⟨0, _⟩ => by show (i 1).val = if (12288 : Nat) = 1 then 0 else (i 1).val; rw [if_neg (by decide)]
    | ⟨1, _⟩ => by show (i 4).val = if (12288 : Nat) = 1 then 0 else (i 4).val; rw [if_neg (by decide)])

-- %28 = stablehlo.broadcast_in_dim %27, dims = [0, 1, 2, 3, 4] : (tensor<1x12288x1x1x12288xi1>) -> tensor<3x12288x4x5x12288xi1>
def val_main_v28 : (⟨S3x12288x4x5x12288, .i1⟩ : BufTy).Contents (Elt F) :=
  broadcastInDim S3x12288x4x5x12288 ![0, 1, 2, 3, 4] bcast_S1x12288x1x1x12288_S3x12288x4x5x12288_0_1_2_3_4 (val_main_v27 (F := F))
abbrev idx_main_v28 (i : S3x12288x4x5x12288.Idx) : S1x12288x1x1x12288.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v28_apply (i : S3x12288x4x5x12288.Idx) :
    val_main_v28 (F := F) i = val_main_v27 (F := F) (idx_main_v28 i) := by
  unfold val_main_v28
  generalize val_main_v27 (F := F) = y
  exact broadcastInDim_apply _ bcast_S1x12288x1x1x12288_S3x12288x4x5x12288_0_1_2_3_4 y i (idx_main_v28 i) (fun a => match a with
    | ⟨0, _⟩ => by show 0 = if (1 : Nat) = 1 then 0 else (i 0).val; rw [if_pos rfl]
    | ⟨1, _⟩ => by show (i 1).val = if (12288 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (12288 : Nat) = 1 then 0 else (i 4).val; rw [if_neg (by decide)])

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %29 = stablehlo.broadcast_in_dim %cst_1, dims = [] : (tensor<f32>) -> tensor<3x12288x4x5x12288xf32>
def val_main_v29 : (⟨S3x12288x4x5x12288, .f32⟩ : BufTy).Contents (Elt F) :=
  broadcastInDim S3x12288x4x5x12288 ![] bcast_S_S3x12288x4x5x12288 (val_main_cst_1 (F := F))
abbrev idx_main_v29 (i : S3x12288x4x5x12288.Idx) : S_.Idx := fun a => a.elim0
theorem val_main_v29_apply (i : S3x12288x4x5x12288.Idx) :
    val_main_v29 (F := F) i = val_main_cst_1 (F := F) (idx_main_v29 i) := by
  unfold val_main_v29
  generalize val_main_cst_1 (F := F) = y
  exact broadcastInDim_apply _ bcast_S_S3x12288x4x5x12288 y i (idx_main_v29 i) (fun a => a.elim0)

-- %30 = stablehlo.select %28, %26, %29 : tensor<3x12288x4x5x12288xi1>, tensor<3x12288x4x5x12288xf32>
def val_main_v30 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  select (val_main_v28 (F := F)) (val_main_v26 (F := F) r1 r2 r4 r5) (val_main_v29 (F := F))
theorem val_main_v30_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v30 (F := F) r1 r2 r4 r5 i = Scalar.select (val_main_v28 (F := F) i) (val_main_v26 (F := F) r1 r2 r4 r5 i) (val_main_v29 (F := F) i) := rfl

-- %cst_2 = stablehlo.constant dense<0xFF800000> : tensor<f32>
def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

-- %31 = stablehlo.reduce(%30 init: %cst_2) applies stablehlo.maximum across dimensions = [4] : (tensor<3x12288x4x5x12288xf32>, tensor<f32>) -> tensor<3x12288x4x5xf32> {
def val_main_v31 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5, .f32⟩ : BufTy).Contents (Elt F) :=
  Host.reduce FloatOps.maximumf (val_main_v30 (F := F) r1 r2 r4 r5) (val_main_cst_2 (F := F)) reducesTo_S3x12288x4x5x12288_S3x12288x4x5_d4 h_S_

-- %32 = stablehlo.broadcast_in_dim %31, dims = [0, 1, 2, 3] : (tensor<3x12288x4x5xf32>) -> tensor<3x12288x4x5x1xf32>
def val_main_v32 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x1, .f32⟩ : BufTy).Contents (Elt F) :=
  broadcastInDim S3x12288x4x5x1 ![0, 1, 2, 3] bcast_S3x12288x4x5_S3x12288x4x5x1_0_1_2_3 (val_main_v31 (F := F) r1 r2 r4 r5)
abbrev idx_main_v32 (i : S3x12288x4x5x1.Idx) : S3x12288x4x5.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v32_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x1.Idx) :
    val_main_v32 (F := F) r1 r2 r4 r5 i = val_main_v31 (F := F) r1 r2 r4 r5 (idx_main_v32 i) := by
  unfold val_main_v32
  generalize val_main_v31 (F := F) r1 r2 r4 r5 = y
  exact broadcastInDim_apply _ bcast_S3x12288x4x5_S3x12288x4x5x1_0_1_2_3 y i (idx_main_v32 i) (fun a => match a with
    | ⟨0, _⟩ => by show (i 0).val = if (3 : Nat) = 1 then 0 else (i 0).val; rw [if_neg (by decide)]
    | ⟨1, _⟩ => by show (i 1).val = if (12288 : Nat) = 1 then 0 else (i 1).val; rw [if_neg (by decide)]
    | ⟨2, _⟩ => by show (i 2).val = if (4 : Nat) = 1 then 0 else (i 2).val; rw [if_neg (by decide)]
    | ⟨3, _⟩ => by show (i 3).val = if (5 : Nat) = 1 then 0 else (i 3).val; rw [if_neg (by decide)])

-- %33 = stablehlo.broadcast_in_dim %32, dims = [0, 1, 2, 3, 4] : (tensor<3x12288x4x5x1xf32>) -> tensor<3x12288x4x5x12288xf32>
def val_main_v33 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  broadcastInDim S3x12288x4x5x12288 ![0, 1, 2, 3, 4] bcast_S3x12288x4x5x1_S3x12288x4x5x12288_0_1_2_3_4 (val_main_v32 (F := F) r1 r2 r4 r5)
abbrev idx_main_v33 (i : S3x12288x4x5x12288.Idx) : S3x12288x4x5x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v33_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v33 (F := F) r1 r2 r4 r5 i = val_main_v32 (F := F) r1 r2 r4 r5 (idx_main_v33 i) := by
  unfold val_main_v33
  generalize val_main_v32 (F := F) r1 r2 r4 r5 = y
  exact broadcastInDim_apply _ bcast_S3x12288x4x5x1_S3x12288x4x5x12288_0_1_2_3_4 y i (idx_main_v33 i) (fun a => match a with
    | ⟨0, _⟩ => by show (i 0).val = if (3 : Nat) = 1 then 0 else (i 0).val; rw [if_neg (by decide)]
    | ⟨1, _⟩ => by show (i 1).val = if (12288 : Nat) = 1 then 0 else (i 1).val; rw [if_neg (by decide)]
    | ⟨2, _⟩ => by show (i 2).val = if (4 : Nat) = 1 then 0 else (i 2).val; rw [if_neg (by decide)]
    | ⟨3, _⟩ => by show (i 3).val = if (5 : Nat) = 1 then 0 else (i 3).val; rw [if_neg (by decide)]
    | ⟨4, _⟩ => by show 0 = if (1 : Nat) = 1 then 0 else (i 4).val; rw [if_pos rfl])

-- %34 = stablehlo.subtract %30, %33 : tensor<3x12288x4x5x12288xf32>
def val_main_v34 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  subf (val_main_v30 (F := F) r1 r2 r4 r5) (val_main_v33 (F := F) r1 r2 r4 r5)
theorem val_main_v34_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v34 (F := F) r1 r2 r4 r5 i = FloatOps.subf (val_main_v30 (F := F) r1 r2 r4 r5 i) (val_main_v33 (F := F) r1 r2 r4 r5 i) := rfl

-- %35 = stablehlo.exponential %34 : tensor<3x12288x4x5x12288xf32>
def val_main_v35 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  Host.exp (val_main_v34 (F := F) r1 r2 r4 r5)
theorem val_main_v35_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v35 (F := F) r1 r2 r4 r5 i = FloatOps.hostUnary .exp (val_main_v34 (F := F) r1 r2 r4 r5 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %36 = stablehlo.reduce(%35 init: %cst_3) applies stablehlo.add across dimensions = [4] : (tensor<3x12288x4x5x12288xf32>, tensor<f32>) -> tensor<3x12288x4x5xf32> {
def val_main_v36 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5, .f32⟩ : BufTy).Contents (Elt F) :=
  Host.reduceAdd (val_main_v35 (F := F) r1 r2 r4 r5) (val_main_cst_3 (F := F)) reducesTo_S3x12288x4x5x12288_S3x12288x4x5_d4 h_S_
abbrev idx_main_v36 (i : S3x12288x4x5.Idx) (k : Fin 12288) : S3x12288x4x5x12288.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v36_apply (r1 : (⟨S3x12288x20x256, .f32⟩ : BufTy).Contents (Elt Ideal)) (r2 : (⟨S3x12288x20, .f32⟩ : BufTy).Contents (Elt Ideal)) (r4 : (⟨S3x12288x4x256, .f32⟩ : BufTy).Contents (Elt Ideal)) (r5 : (⟨S3x12288x4, .f32⟩ : BufTy).Contents (Elt Ideal)) (i : S3x12288x4x5.Idx) :
    val_main_v36 (F := Ideal) r1 r2 r4 r5 i = (val_main_cst_3 (F := Ideal)) (Shape.Idx.first h_S_) + ∑ k : Fin 12288, (val_main_v35 (F := Ideal) r1 r2 r4 r5) (idx_main_v36 i k) := by
  unfold val_main_v36
  generalize val_main_v35 (F := Ideal) r1 r2 r4 r5 = y0
  simp only [Host.reduceAdd, Ideal.hostReduceAdd_def]
  rw [Ideal.hostReduceAdd_single reducesTo_S3x12288x4x5x12288_S3x12288x4x5_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

-- %cst_4 = stablehlo.constant dense<2.560000e+02> : tensor<f32>
def val_main_cst_4 : (⟨S_, .f32⟩ : BufTy).Contents (Elt F) :=
  constant S_ .f32 0x43800000#32
theorem val_main_cst_4_apply (i : S_.Idx) :
    val_main_cst_4 (F := F) i = FloatOps.ofBits .f32 0x43800000#32 := rfl

-- %37 = stablehlo.broadcast_in_dim %cst_4, dims = [] : (tensor<f32>) -> tensor<3x12288x4x5x12288xf32>
def val_main_v37 : (⟨S3x12288x4x5x12288, .f32⟩ : BufTy).Contents (Elt F) :=
  broadcastInDim S3x12288x4x5x12288 ![] bcast_S_S3x12288x4x5x12288 (val_main_cst_4 (F := F))
abbrev idx_main_v37 (i : S3x12288x4x5x12288.Idx) : S_.Idx := fun a => a.elim0
theorem val_main_v37_apply (i : S3x12288x4x5x12288.Idx) :
    val_main_v37 (F := F) i = val_main_cst_4 (F := F) (idx_main_v37 i) := by
  unfold val_main_v37
  generalize val_main_cst_4 (F := F) = y
  exact broadcastInDim_apply _ bcast_S_S3x12288x4x5x12288 y i (idx_main_v37 i) (fun a => a.elim0)

-- %38 = stablehlo.multiply %35, %37 : tensor<3x12288x4x5x12288xf32>
def val_main_v38 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  mulf (val_main_v35 (F := F) r1 r2 r4 r5) (val_main_v37 (F := F))
theorem val_main_v38_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v38 (F := F) r1 r2 r4 r5 i = FloatOps.mulf (val_main_v35 (F := F) r1 r2 r4 r5 i) (val_main_v37 (F := F) i) := rfl

-- %cst_5 = stablehlo.constant dense<4.480000e+02> : tensor<f32>
def val_main_cst_5 : (⟨S_, .f32⟩ : BufTy).Contents (Elt F) :=
  constant S_ .f32 0x43E00000#32
theorem val_main_cst_5_apply (i : S_.Idx) :
    val_main_cst_5 (F := F) i = FloatOps.ofBits .f32 0x43E00000#32 := rfl

-- %39 = stablehlo.broadcast_in_dim %cst_5, dims = [] : (tensor<f32>) -> tensor<3x12288x4x5x12288xf32>
def val_main_v39 : (⟨S3x12288x4x5x12288, .f32⟩ : BufTy).Contents (Elt F) :=
  broadcastInDim S3x12288x4x5x12288 ![] bcast_S_S3x12288x4x5x12288 (val_main_cst_5 (F := F))
abbrev idx_main_v39 (i : S3x12288x4x5x12288.Idx) : S_.Idx := fun a => a.elim0
theorem val_main_v39_apply (i : S3x12288x4x5x12288.Idx) :
    val_main_v39 (F := F) i = val_main_cst_5 (F := F) (idx_main_v39 i) := by
  unfold val_main_v39
  generalize val_main_cst_5 (F := F) = y
  exact broadcastInDim_apply _ bcast_S_S3x12288x4x5x12288 y i (idx_main_v39 i) (fun a => a.elim0)

-- %40 = stablehlo.minimum %38, %39 : tensor<3x12288x4x5x12288xf32>
def val_main_v40 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x12288, .f32⟩ : BufTy).Contents (Elt F) :=
  minimumf (val_main_v38 (F := F) r1 r2 r4 r5) (val_main_v39 (F := F))
theorem val_main_v40_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x12288.Idx) :
    val_main_v40 (F := F) r1 r2 r4 r5 i = FloatOps.minimumf (val_main_v38 (F := F) r1 r2 r4 r5 i) (val_main_v39 (F := F) i) := rfl

-- %41 = stablehlo.broadcast_in_dim %11, dims = [0, 1, 2, 3, 4] : (tensor<3x1x4x1x12288xf32>) -> tensor<3x12288x4x5x12288xf32>
def val_main_v41 (r8 : (⟨S3x12288x4, .f32⟩ : BufTy).Contents (Elt F)) : (⟨S3x12288x4x5x12288, .f32⟩ : BufTy).Contents (Elt F) :=
  broadcastInDim S3x12288x4x5x12288 ![0, 1, 2, 3, 4] bcast_S3x1x4x1x12288_S3x12288x4x5x12288_0_1_2_3_4 (val_main_v11 (F := F) r8)
abbrev idx_main_v41 (i : S3x12288x4x5x12288.Idx) : S3x1x4x1x12288.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩
  | ⟨4, _⟩ => ⟨(i 4).val, (i 4).isLt⟩
theorem val_main_v41_apply (r8 : (⟨S3x12288x4, .f32⟩ : BufTy).Contents (Elt F)) (i : S3x12288x4x5x12288.Idx) :
    val_main_v41 (F := F) r8 i = val_main_v11 (F := F) r8 (idx_main_v41 i) := by
  unfold val_main_v41
  generalize val_main_v11 (F := F) r8 = y
  exact broadcastInDim_apply _ bcast_S3x1x4x1x12288_S3x12288x4x5x12288_0_1_2_3_4 y i (idx_main_v41 i) (fun a => match a with
    | ⟨0, _⟩ => by show (i 0).val = if (3 : Nat) = 1 then 0 else (i 0).val; rw [if_neg (by decide)]
    | ⟨1, _⟩ => by show 0 = if (1 : Nat) = 1 then 0 else (i 1).val; rw [if_pos rfl]
    | ⟨2, _⟩ => by show (i 2).val = if (4 : Nat) = 1 then 0 else (i 2).val; rw [if_neg (by decide)]
    | ⟨3, _⟩ => by show 0 = if (1 : Nat) = 1 then 0 else (i 3).val; rw [if_pos rfl]
    | ⟨4, _⟩ => by show (i 4).val = if (12288 : Nat) = 1 then 0 else (i 4).val; rw [if_neg (by decide)])

-- %42 = stablehlo.multiply %40, %41 : tensor<3x12288x4x5x12288xf32>
def val_main_v42 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 r8 : (⟨S3x12288x4, .f32⟩ : BufTy).Contents (Elt F)) : (⟨S3x12288x4x5x12288, .f32⟩ : BufTy).Contents (Elt F) :=
  mulf (val_main_v40 (F := F) r1 r2 r4 r5) (val_main_v41 (F := F) r8)
theorem val_main_v42_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 r8 : (⟨S3x12288x4, .f32⟩ : BufTy).Contents (Elt F)) (i : S3x12288x4x5x12288.Idx) :
    val_main_v42 (F := F) r1 r2 r4 r5 r8 i = FloatOps.mulf (val_main_v40 (F := F) r1 r2 r4 r5 i) (val_main_v41 (F := F) r8 i) := rfl

-- %43 = stablehlo.convert %42 : (tensor<3x12288x4x5x12288xf32>) -> tensor<3x12288x4x5x12288xbf16>
def val_main_v43 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 r8 : (⟨S3x12288x4, .f32⟩ : BufTy).Contents (Elt F)) : (⟨S3x12288x4x5x12288, .bf16⟩ : BufTy).Contents (Elt F) :=
  truncf .bf16 (val_main_v42 (F := F) r1 r2 r4 r5 r8) bitsLt_bf16_f32
theorem val_main_v43_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 r8 : (⟨S3x12288x4, .f32⟩ : BufTy).Contents (Elt F)) (i : S3x12288x4x5x12288.Idx) :
    val_main_v43 (F := F) r1 r2 r4 r5 r8 i = FloatOps.truncf .bf16 bitsLt_bf16_f32 (val_main_v42 (F := F) r1 r2 r4 r5 r8 i) := rfl

-- %44 = stablehlo.convert %3#7 : (tensor<3x12288x4x256xf32>) -> tensor<3x12288x4x256xbf16>
def val_main_v44 (r7 : (⟨S3x12288x4x256, .f32⟩ : BufTy).Contents (Elt F)) : (⟨S3x12288x4x256, .bf16⟩ : BufTy).Contents (Elt F) :=
  truncf .bf16 (r7) bitsLt_bf16_f32
theorem val_main_v44_apply (r7 : (⟨S3x12288x4x256, .f32⟩ : BufTy).Contents (Elt F)) (i : S3x12288x4x256.Idx) :
    val_main_v44 (F := F) r7 i = FloatOps.truncf .bf16 bitsLt_bf16_f32 (r7 i) := rfl

-- %45 = stablehlo.dot_general %44, %43, batching_dims = [0, 2] x [0, 2], contracting_dims = [1] x [4], precision = [DEFAULT, DEFAULT] : (tensor<3x12288x4x256xbf16>, tensor<3x12288x4x5x12288xbf16>) -> tensor<3x4x256x12288x5xf32>
def val_main_v45 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) : (⟨S3x4x256x12288x5, .f32⟩ : BufTy).Contents (Elt F) :=
  Host.dotGeneral dot_S3x12288x4x256_S3x12288x4x5x12288_S3x4x256x12288x5_1_4_3_13_02_02 none (val_main_v44 (F := F) r7) (val_main_v43 (F := F) r1 r2 r4 r5 r8)
theorem lhs_main_v45_0 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.lhsIdx i q 0).val = (i 0).val := by
  unfold DotDims.lhsIdx
  rw [dif_pos (show (0 : Fin S3x12288x4x256.rank) ∈ dot_S3x12288x4x256_S3x12288x4x5x12288_S3x4x256x12288x5_1_4_3_13_02_02.lhsBatch by decide)]
  rfl
theorem lhs_main_v45_1 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.lhsIdx i q 1).val = (q ⟨0, by decide⟩).val :=
  dot_S3x12288x4x256_S3x12288x4x5x12288_S3x4x256x12288x5_1_4_3_13_02_02.lhsIdx_val_of_single rfl i q
theorem lhs_main_v45_2 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.lhsIdx i q 2).val = (i 1).val := by
  unfold DotDims.lhsIdx
  rw [dif_pos (show (2 : Fin S3x12288x4x256.rank) ∈ dot_S3x12288x4x256_S3x12288x4x5x12288_S3x4x256x12288x5_1_4_3_13_02_02.lhsBatch by decide)]
  rfl
theorem lhs_main_v45_3 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.lhsIdx i q 3).val = (i 2).val := by
  unfold DotDims.lhsIdx
  rw [dif_neg (show ¬(3 : Fin S3x12288x4x256.rank) ∈ dot_S3x12288x4x256_S3x12288x4x5x12288_S3x4x256x12288x5_1_4_3_13_02_02.lhsBatch by decide), dif_pos (show (3 : Fin S3x12288x4x256.rank) ∈ dot_S3x12288x4x256_S3x12288x4x5x12288_S3x4x256x12288x5_1_4_3_13_02_02.lhsNonContracting by decide)]
  rfl
theorem rhs_main_v45_0 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.rhsIdx i q 0).val = (i 0).val := by
  unfold DotDims.rhsIdx
  rw [dif_pos (show (0 : Fin S3x12288x4x5x12288.rank) ∈ dot_S3x12288x4x256_S3x12288x4x5x12288_S3x4x256x12288x5_1_4_3_13_02_02.rhsBatch by decide)]
  rfl
theorem rhs_main_v45_1 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.rhsIdx i q 1).val = (i 3).val := by
  unfold DotDims.rhsIdx
  rw [dif_neg (show ¬(1 : Fin S3x12288x4x5x12288.rank) ∈ dot_S3x12288x4x256_S3x12288x4x5x12288_S3x4x256x12288x5_1_4_3_13_02_02.rhsBatch by decide), dif_pos (show (1 : Fin S3x12288x4x5x12288.rank) ∈ dot_S3x12288x4x256_S3x12288x4x5x12288_S3x4x256x12288x5_1_4_3_13_02_02.rhsNonContracting by decide)]
  rfl
theorem rhs_main_v45_2 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.rhsIdx i q 2).val = (i 1).val := by
  unfold DotDims.rhsIdx
  rw [dif_pos (show (2 : Fin S3x12288x4x5x12288.rank) ∈ dot_S3x12288x4x256_S3x12288x4x5x12288_S3x4x256x12288x5_1_4_3_13_02_02.rhsBatch by decide)]
  rfl
theorem rhs_main_v45_3 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.rhsIdx i q 3).val = (i 4).val := by
  unfold DotDims.rhsIdx
  rw [dif_neg (show ¬(3 : Fin S3x12288x4x5x12288.rank) ∈ dot_S3x12288x4x256_S3x12288x4x5x12288_S3x4x256x12288x5_1_4_3_13_02_02.rhsBatch by decide), dif_pos (show (3 : Fin S3x12288x4x5x12288.rank) ∈ dot_S3x12288x4x256_S3x12288x4x5x12288_S3x4x256x12288x5_1_4_3_13_02_02.rhsNonContracting by decide)]
  rfl
theorem rhs_main_v45_4 (i : S3x4x256x12288x5.Idx) (q : dot_S3x12288x4x256_S3x12288x4x5x12288_S3x4x256x12288x5_1_4_3_13_02_02.contr.Idx) :
    (dot_S3x12288x4x256_S3x12288x4x5x12288_S3x4x256x12288x5_1_4_3_13_02_02.rhsIdx i q 4).val = (q ⟨0, by decide⟩).val :=
  dot_S3x12288x4x256_S3x12288x4x5x12288_S3x4x256x12288x5_1_4_3_13_02_02.rhsIdx_val_of_single rfl i q
abbrev lidx_main_v45 (i : S3x4x256x12288x5.Idx) (k : Fin 12288) : S3x12288x4x256.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
abbrev ridx_main_v45 (i : S3x4x256x12288x5.Idx) (k : Fin 12288) : S3x12288x4x5x12288.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v45_apply (r1 : (⟨S3x12288x20x256, .f32⟩ : BufTy).Contents (Elt Ideal)) (r2 : (⟨S3x12288x20, .f32⟩ : BufTy).Contents (Elt Ideal)) (r4 : (⟨S3x12288x4x256, .f32⟩ : BufTy).Contents (Elt Ideal)) (r5 : (⟨S3x12288x4, .f32⟩ : BufTy).Contents (Elt Ideal)) (r7 : (⟨S3x12288x4x256, .f32⟩ : BufTy).Contents (Elt Ideal)) (r8 : (⟨S3x12288x4, .f32⟩ : BufTy).Contents (Elt Ideal)) (i : S3x4x256x12288x5.Idx) :
    val_main_v45 (F := Ideal) r1 r2 r4 r5 r7 r8 i = ∑ k : Fin 12288, (val_main_v44 (F := Ideal) r7) (lidx_main_v45 i k) * (val_main_v43 (F := Ideal) r1 r2 r4 r5 r8) (ridx_main_v45 i k) := by
  unfold val_main_v45
  generalize val_main_v44 (F := Ideal) r7 = y0
  generalize val_main_v43 (F := Ideal) r1 r2 r4 r5 r8 = y1
  simp only [Host.dotGeneral]
  rw [Ideal.dotGeneral_apply, ← Equiv.sum_comp (ValueIdx.contrEquiv1 dot_S3x12288x4x256_S3x12288x4x5x12288_S3x4x256x12288x5_1_4_3_13_02_02 12288 rfl rfl).symm]
  refine Finset.sum_congr rfl fun k _ => ?_
  have hk := ValueIdx.contrEquiv1_symm_val dot_S3x12288x4x256_S3x12288x4x5x12288_S3x4x256x12288x5_1_4_3_13_02_02 12288 rfl rfl k
  have el : dot_S3x12288x4x256_S3x12288x4x5x12288_S3x4x256x12288x5_1_4_3_13_02_02.lhsIdx i ((ValueIdx.contrEquiv1 dot_S3x12288x4x256_S3x12288x4x5x12288_S3x4x256x12288x5_1_4_3_13_02_02 12288 rfl rfl).symm k) = lidx_main_v45 i k := funext fun a => Fin.ext (by
    match a with
    | ⟨0, _⟩ => exact lhs_main_v45_0 _ _
    | ⟨1, _⟩ => exact (lhs_main_v45_1 _ _).trans hk
    | ⟨2, _⟩ => exact lhs_main_v45_2 _ _
    | ⟨3, _⟩ => exact lhs_main_v45_3 _ _)
  have er : dot_S3x12288x4x256_S3x12288x4x5x12288_S3x4x256x12288x5_1_4_3_13_02_02.rhsIdx i ((ValueIdx.contrEquiv1 dot_S3x12288x4x256_S3x12288x4x5x12288_S3x4x256x12288x5_1_4_3_13_02_02 12288 rfl rfl).symm k) = ridx_main_v45 i k := funext fun a => Fin.ext (by
    match a with
    | ⟨0, _⟩ => exact rhs_main_v45_0 _ _
    | ⟨1, _⟩ => exact rhs_main_v45_1 _ _
    | ⟨2, _⟩ => exact rhs_main_v45_2 _ _
    | ⟨3, _⟩ => exact rhs_main_v45_3 _ _
    | ⟨4, _⟩ => exact (rhs_main_v45_4 _ _).trans hk)
  rw [el, er]

-- %46 = stablehlo.transpose %45, dims = [0, 3, 1, 4, 2] : (tensor<3x4x256x12288x5xf32>) -> tensor<3x12288x4x5x256xf32>
def val_main_v46 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) : (⟨S3x12288x4x5x256, .f32⟩ : BufTy).Contents (Elt F) :=
  transpose S3x12288x4x5x256 [0, 3, 1, 4, 2] (val_main_v45 (F := F) r1 r2 r4 r5 r7 r8) transposes_S3x4x256x12288x5_S3x12288x4x5x256_0_3_1_4_2
abbrev idx_main_v46 (i : S3x12288x4x5x256.Idx) : S3x4x256x12288x5.Idx := fun a => match a with
  | ⟨0, _⟩ => ⟨(i 0).val, (i 0).isLt⟩
  | ⟨1, _⟩ => ⟨(i 2).val, (i 2).isLt⟩
  | ⟨2, _⟩ => ⟨(i 4).val, (i 4).isLt⟩
  | ⟨3, _⟩ => ⟨(i 1).val, (i 1).isLt⟩
  | ⟨4, _⟩ => ⟨(i 3).val, (i 3).isLt⟩
theorem val_main_v46_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) (i : S3x12288x4x5x256.Idx) :
    val_main_v46 (F := F) r1 r2 r4 r5 r7 r8 i = val_main_v45 (F := F) r1 r2 r4 r5 r7 r8 (idx_main_v46 i) := by
  unfold val_main_v46
  generalize val_main_v45 (F := F) r1 r2 r4 r5 r7 r8 = y
  exact transpose_apply [0, 3, 1, 4, 2] y transposes_S3x4x256x12288x5_S3x12288x4x5x256_0_3_1_4_2 i (idx_main_v46 i) (fun b => match b with
    | ⟨0, _⟩ => rfl
    | ⟨1, _⟩ => rfl
    | ⟨2, _⟩ => rfl
    | ⟨3, _⟩ => rfl
    | ⟨4, _⟩ => rfl)

-- %cst_6 = stablehlo.constant dense<2.560000e+02> : tensor<f32>
def val_main_cst_6 : (⟨S_, .f32⟩ : BufTy).Contents (Elt F) :=
  constant S_ .f32 0x43800000#32
theorem val_main_cst_6_apply (i : S_.Idx) :
    val_main_cst_6 (F := F) i = FloatOps.ofBits .f32 0x43800000#32 := rfl

-- %47 = stablehlo.broadcast_in_dim %cst_6, dims = [] : (tensor<f32>) -> tensor<3x12288x4x5xf32>
def val_main_v47 : (⟨S3x12288x4x5, .f32⟩ : BufTy).Contents (Elt F) :=
  broadcastInDim S3x12288x4x5 ![] bcast_S_S3x12288x4x5 (val_main_cst_6 (F := F))
abbrev idx_main_v47 (i : S3x12288x4x5.Idx) : S_.Idx := fun a => a.elim0
theorem val_main_v47_apply (i : S3x12288x4x5.Idx) :
    val_main_v47 (F := F) i = val_main_cst_6 (F := F) (idx_main_v47 i) := by
  unfold val_main_v47
  generalize val_main_cst_6 (F := F) = y
  exact broadcastInDim_apply _ bcast_S_S3x12288x4x5 y i (idx_main_v47 i) (fun a => a.elim0)

-- %48 = stablehlo.multiply %47, %36 : tensor<3x12288x4x5xf32>
def val_main_v48 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5, .f32⟩ : BufTy).Contents (Elt F) :=
  mulf (val_main_v47 (F := F)) (val_main_v36 (F := F) r1 r2 r4 r5)
theorem val_main_v48_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5.Idx) :
    val_main_v48 (F := F) r1 r2 r4 r5 i = FloatOps.mulf (val_main_v47 (F := F) i) (val_main_v36 (F := F) r1 r2 r4 r5 i) := rfl

-- %49 = stablehlo.broadcast_in_dim %48, dims = [0, 1, 2, 3] : (tensor<3x12288x4x5xf32>) -> tensor<3x12288x4x5x1xf32>
def val_main_v49 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x1, .f32⟩ : BufTy).Contents (Elt F) :=
  broadcastInDim S3x12288x4x5x1 ![0, 1, 2, 3] bcast_S3x12288x4x5_S3x12288x4x5x1_0_1_2_3 (val_main_v48 (F := F) r1 r2 r4 r5)
abbrev idx_main_v49 (i : S3x12288x4x5x1.Idx) : S3x12288x4x5.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v49_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x1.Idx) :
    val_main_v49 (F := F) r1 r2 r4 r5 i = val_main_v48 (F := F) r1 r2 r4 r5 (idx_main_v49 i) := by
  unfold val_main_v49
  generalize val_main_v48 (F := F) r1 r2 r4 r5 = y
  exact broadcastInDim_apply _ bcast_S3x12288x4x5_S3x12288x4x5x1_0_1_2_3 y i (idx_main_v49 i) (fun a => match a with
    | ⟨0, _⟩ => by show (i 0).val = if (3 : Nat) = 1 then 0 else (i 0).val; rw [if_neg (by decide)]
    | ⟨1, _⟩ => by show (i 1).val = if (12288 : Nat) = 1 then 0 else (i 1).val; rw [if_neg (by decide)]
    | ⟨2, _⟩ => by show (i 2).val = if (4 : Nat) = 1 then 0 else (i 2).val; rw [if_neg (by decide)]
    | ⟨3, _⟩ => by show (i 3).val = if (5 : Nat) = 1 then 0 else (i 3).val; rw [if_neg (by decide)])

-- %50 = stablehlo.broadcast_in_dim %49, dims = [0, 1, 2, 3, 4] : (tensor<3x12288x4x5x1xf32>) -> tensor<3x12288x4x5x256xf32>
def val_main_v50 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) : (⟨S3x12288x4x5x256, .f32⟩ : BufTy).Contents (Elt F) :=
  broadcastInDim S3x12288x4x5x256 ![0, 1, 2, 3, 4] bcast_S3x12288x4x5x1_S3x12288x4x5x256_0_1_2_3_4 (val_main_v49 (F := F) r1 r2 r4 r5)
abbrev idx_main_v50 (i : S3x12288x4x5x256.Idx) : S3x12288x4x5x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v50_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (i : S3x12288x4x5x256.Idx) :
    val_main_v50 (F := F) r1 r2 r4 r5 i = val_main_v49 (F := F) r1 r2 r4 r5 (idx_main_v50 i) := by
  unfold val_main_v50
  generalize val_main_v49 (F := F) r1 r2 r4 r5 = y
  exact broadcastInDim_apply _ bcast_S3x12288x4x5x1_S3x12288x4x5x256_0_1_2_3_4 y i (idx_main_v50 i) (fun a => match a with
    | ⟨0, _⟩ => by show (i 0).val = if (3 : Nat) = 1 then 0 else (i 0).val; rw [if_neg (by decide)]
    | ⟨1, _⟩ => by show (i 1).val = if (12288 : Nat) = 1 then 0 else (i 1).val; rw [if_neg (by decide)]
    | ⟨2, _⟩ => by show (i 2).val = if (4 : Nat) = 1 then 0 else (i 2).val; rw [if_neg (by decide)]
    | ⟨3, _⟩ => by show (i 3).val = if (5 : Nat) = 1 then 0 else (i 3).val; rw [if_neg (by decide)]
    | ⟨4, _⟩ => by show 0 = if (1 : Nat) = 1 then 0 else (i 4).val; rw [if_pos rfl])

-- %51 = stablehlo.divide %46, %50 : tensor<3x12288x4x5x256xf32>
def val_main_v51 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) : (⟨S3x12288x4x5x256, .f32⟩ : BufTy).Contents (Elt F) :=
  Host.divf (val_main_v46 (F := F) r1 r2 r4 r5 r7 r8) (val_main_v50 (F := F) r1 r2 r4 r5)
theorem val_main_v51_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) (i : S3x12288x4x5x256.Idx) :
    val_main_v51 (F := F) r1 r2 r4 r5 r7 r8 i = FloatOps.hostDivf (val_main_v46 (F := F) r1 r2 r4 r5 r7 r8 i) (val_main_v50 (F := F) r1 r2 r4 r5 i) := rfl

-- %52 = stablehlo.reshape %51 : (tensor<3x12288x4x5x256xf32>) -> tensor<3x12288x5120xf32>
def val_main_v52 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) : (⟨S3x12288x5120, .f32⟩ : BufTy).Contents (Elt F) :=
  shapeCast _ (val_main_v51 (F := F) r1 r2 r4 r5 r7 r8) shapeCasts_S3x12288x4x5x256_S3x12288x5120
set_option backward.proofsInPublic true in
abbrev idx_main_v52 (i : S3x12288x5120.Idx) : S3x12288x4x5x256.Idx := fun a => match a with
  | ⟨0, _⟩ => ⟨(((i 0).val * 12288 + (i 1).val) * 5120 + (i 2).val) / 62914560, by have h0 : (i 0).val < 3 := (i 0).isLt; have h1 : (i 1).val < 12288 := (i 1).isLt; have h2 : (i 2).val < 5120 := (i 2).isLt; show (((i 0).val * 12288 + (i 1).val) * 5120 + (i 2).val) / 62914560 < 3; omega⟩
  | ⟨1, _⟩ => ⟨(((i 0).val * 12288 + (i 1).val) * 5120 + (i 2).val) / 5120 % 12288, by have h0 : (i 0).val < 3 := (i 0).isLt; have h1 : (i 1).val < 12288 := (i 1).isLt; have h2 : (i 2).val < 5120 := (i 2).isLt; show (((i 0).val * 12288 + (i 1).val) * 5120 + (i 2).val) / 5120 % 12288 < 12288; omega⟩
  | ⟨2, _⟩ => ⟨(((i 0).val * 12288 + (i 1).val) * 5120 + (i 2).val) / 1280 % 4, by have h0 : (i 0).val < 3 := (i 0).isLt; have h1 : (i 1).val < 12288 := (i 1).isLt; have h2 : (i 2).val < 5120 := (i 2).isLt; show (((i 0).val * 12288 + (i 1).val) * 5120 + (i 2).val) / 1280 % 4 < 4; omega⟩
  | ⟨3, _⟩ => ⟨(((i 0).val * 12288 + (i 1).val) * 5120 + (i 2).val) / 256 % 5, by have h0 : (i 0).val < 3 := (i 0).isLt; have h1 : (i 1).val < 12288 := (i 1).isLt; have h2 : (i 2).val < 5120 := (i 2).isLt; show (((i 0).val * 12288 + (i 1).val) * 5120 + (i 2).val) / 256 % 5 < 5; omega⟩
  | ⟨4, _⟩ => ⟨(((i 0).val * 12288 + (i 1).val) * 5120 + (i 2).val) % 256, by have h0 : (i 0).val < 3 := (i 0).isLt; have h1 : (i 1).val < 12288 := (i 1).isLt; have h2 : (i 2).val < 5120 := (i 2).isLt; show (((i 0).val * 12288 + (i 1).val) * 5120 + (i 2).val) % 256 < 256; omega⟩
theorem val_main_v52_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) (i : S3x12288x5120.Idx) :
    val_main_v52 (F := F) r1 r2 r4 r5 r7 r8 i = val_main_v51 (F := F) r1 r2 r4 r5 r7 r8 (idx_main_v52 i) := by
  unfold val_main_v52
  generalize val_main_v51 (F := F) r1 r2 r4 r5 r7 r8 = y
  exact shapeCast_apply y shapeCasts_S3x12288x4x5x256_S3x12288x5120 i (idx_main_v52 i)
    (by rewrite [Shape.rowMajor_val_five, Shape.rowMajor_val_three]; have h0 : (i 0).val < 3 := (i 0).isLt; have h1 : (i 1).val < 12288 := (i 1).isLt; have h2 : (i 2).val < 5120 := (i 2).isLt; show ((((((i 0).val * 12288 + (i 1).val) * 5120 + (i 2).val) / 62914560 * 12288 + (((i 0).val * 12288 + (i 1).val) * 5120 + (i 2).val) / 5120 % 12288) * 4 + (((i 0).val * 12288 + (i 1).val) * 5120 + (i 2).val) / 1280 % 4) * 5 + (((i 0).val * 12288 + (i 1).val) * 5120 + (i 2).val) / 256 % 5) * 256 + (((i 0).val * 12288 + (i 1).val) * 5120 + (i 2).val) % 256 = ((i 0).val * 12288 + (i 1).val) * 5120 + (i 2).val; omega)

-- %53 = stablehlo.convert %52 : (tensor<3x12288x5120xf32>) -> tensor<3x12288x5120xbf16>
def val_main_v53 (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) : (⟨S3x12288x5120, .bf16⟩ : BufTy).Contents (Elt F) :=
  truncf .bf16 (val_main_v52 (F := F) r1 r2 r4 r5 r7 r8) bitsLt_bf16_f32
theorem val_main_v53_apply (r1 : (⟨S3x12288x20x256, .f32⟩ : BufTy).Contents (Elt F)) (r2 : (⟨S3x12288x20, .f32⟩ : BufTy).Contents (Elt F)) (r4 : (⟨S3x12288x4x256, .f32⟩ : BufTy).Contents (Elt F)) (r5 : (⟨S3x12288x4, .f32⟩ : BufTy).Contents (Elt F)) (r7 : (⟨S3x12288x4x256, .f32⟩ : BufTy).Contents (Elt F)) (r8 : (⟨S3x12288x4, .f32⟩ : BufTy).Contents (Elt F)) (i : S3x12288x5120.Idx) :
    val_main_v53 (F := F) r1 r2 r4 r5 r7 r8 i = FloatOps.truncf .bf16 bitsLt_bf16_f32 (val_main_v52 (F := F) r1 r2 r4 r5 r7 r8 i) := rfl

/-- The term the Run module states for `main_v53` over any contents `V0` is the stage. -/
theorem val_main_v53_eq (V0 : Valuation τ sig (Elt F)) :
    truncf .bf16 (shapeCast _ (Host.divf (transpose S3x12288x4x5x256 [0, 3, 1, 4, 2] (Host.dotGeneral dot_S3x12288x4x256_S3x12288x4x5x12288_S3x4x256x12288x5_1_4_3_13_02_02 none (truncf .bf16 (V0 (Proc.devRef .tc main_v3_7)) bitsLt_bf16_f32) (truncf .bf16 (mulf (minimumf (mulf (Host.exp (subf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (Host.reduce FloatOps.maximumf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (constant S_ .f32 0xFF800000#32) reducesTo_S3x12288x4x5x12288_S3x12288x4x5_d4 h_S_))))) (broadcastInDim S3x12288x4x5x12288 ![] bcast_S_S3x12288x4x5x12288 (constant S_ .f32 0x43800000#32))) (broadcastInDim S3x12288x4x5x12288 ![] bcast_S_S3x12288x4x5x12288 (constant S_ .f32 0x43E00000#32))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_8)) transposes_S3x12288x4_S3x4x12288_0_2_1)))) bitsLt_bf16_f32)) transposes_S3x4x256x12288x5_S3x12288x4x5x256_0_3_1_4_2) (broadcastInDim S3x12288x4x5x256 ![0, 1, 2, 3, 4] bcast_S3x12288x4x5x1_S3x12288x4x5x256_0_1_2_3_4 (broadcastInDim S3x12288x4x5x1 ![0, 1, 2, 3] bcast_S3x12288x4x5_S3x12288x4x5x1_0_1_2_3 (mulf (broadcastInDim S3x12288x4x5 ![] bcast_S_S3x12288x4x5 (constant S_ .f32 0x43800000#32)) (Host.reduceAdd (Host.exp (subf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (Host.reduce FloatOps.maximumf (select (broadcastInDim S3x12288x4x5x12288 ![0, 1, 2, 3, 4] bcast_S1x12288x1x1x12288_S3x12288x4x5x12288_0_1_2_3_4 (broadcastInDim S1x12288x1x1x12288 ![1, 4] bcast_S12288x12288_S1x12288x1x1x12288_1_4 (andi (cmpi .sge (subi (iotaInDim S12288x12288 32 0) (iotaInDim S12288x12288 32 1)) (broadcastInDim S12288x12288 ![] bcast_S_S12288x12288 (constantI S_ 32 0#32))) (cmpi .slt (subi (iotaInDim S12288x12288 32 0) (iotaInDim S12288x12288 32 1)) (broadcastInDim S12288x12288 ![] bcast_S_S12288x12288 (constantI S_ 32 512#32)))))) (mulf (mulf (mulf (transpose S3x12288x4x5x12288 [0, 3, 1, 4, 2] (Host.dotGeneral dot_S3x12288x4x256_S3x12288x4x5x256_S3x4x12288x12288x5_3_4_1_13_02_02 none (V0 (Proc.devRef .tc main_v3_4)) (shapeCast _ (V0 (Proc.devRef .tc main_v3_1)) shapeCasts_S3x12288x20x256_S3x12288x4x5x256)) transposes_S3x4x12288x12288x5_S3x12288x4x5x12288_0_3_1_4_2) (broadcastInDim S3x12288x4x5x12288 ![0, 1, 2, 3, 4] bcast_S3x12288x4x5x1_S3x12288x4x5x12288_0_1_2_3_4 (broadcastInDim S3x12288x4x5x1 ![0, 1, 2, 3] bcast_S3x12288x4x5_S3x12288x4x5x1_0_1_2_3 (shapeCast _ (V0 (Proc.devRef .tc main_v3_2)) shapeCasts_S3x12288x20_S3x12288x4x5)))) (broadcastInDim S3x12288x4x5x12288 ![0, 1, 2, 3, 4] bcast_S3x1x4x1x12288_S3x12288x4x5x12288_0_1_2_3_4 (broadcastInDim S3x1x4x1x12288 ![0, 2, 4] bcast_S3x4x12288_S3x1x4x1x12288_0_2_4 (transpose S3x4x12288 [0, 2, 1] (V0 (Proc.devRef .tc main_v3_5)) transposes_S3x12288x4_S3x4x12288_0_2_1)))) (broadcastInDim S3x12288x4x5x12288 ![] bcast_S_S3x12288x4x5x12288 (constant S_ .f32 0x3D800000#32))) (broadcastInDim S3x12288x4x5x12288 ![] bcast_S_S3x12288x4x5x12288 (constant S_ .f32 0xFF800000#32))) (constant S_ .f32 0xFF800000#32) reducesTo_S3x12288x4x5x12288_S3x12288x4x5_d4 h_S_))))) (constant S_ .f32 0x00000000#32) reducesTo_S3x12288x4x5x12288_S3x12288x4x5_d4 h_S_))))) shapeCasts_S3x12288x4x5x256_S3x12288x5120) bitsLt_bf16_f32
      = val_main_v53 (F := F) (V0 (Proc.devRef .tc main_v3_1)) (V0 (Proc.devRef .tc main_v3_2)) (V0 (Proc.devRef .tc main_v3_4)) (V0 (Proc.devRef .tc main_v3_5)) (V0 (Proc.devRef .tc main_v3_7)) (V0 (Proc.devRef .tc main_v3_8)) := rfl

end Cert.ReferenceIdeal.Read

end
-- ==== Proof.Value.RAttn.lean ====
/-
  The reference's attention over the extended reals: each element is the softmax mean of the values over the window.
-/
module

public import proofs.«01_k».proof.Proof.Value.Softmax
public import proofs.«01_k».proof.Proof.Ref.Read
public import Idealize.ShloMosaic.Lib.Pipeline.ValueKit

@[expose] public section

set_option maxRecDepth 16384

noncomputable section

namespace Cert.ReferenceIdeal.Value

open Cert.Gqa
open Cert.ReferenceIdeal Cert.ReferenceIdeal.Gen Cert.ReferenceIdeal.Read
open Idealize.ShloMosaic

/-- The key `t` is in the window of the query `s`. -/
def Win (s t : Fin 12288) : Prop := t.val ≤ s.val ∧ s.val < t.val + 512
instance (s t : Fin 12288) : Decidable (Win s t) := inferInstanceAs (Decidable (_ ∧ _))

theorem toInt_diff (s t : Fin 12288) : (BitVec.ofNat 32 s.val - BitVec.ofNat 32 t.val).toInt = (s.val : ℤ) - t.val := by
  have hs := s.isLt; have ht := t.isLt
  rw [BitVec.toInt_sub, BitVec.toInt_ofNat', BitVec.toInt_ofNat']
  simp [Int.bmod_def]
  omega

theorem mask_read (s t : Fin 12288) :
    IntOp.andi (IntOp.cmpi .sge (IntOp.subi (BitVec.ofNat 32 s.val) (BitVec.ofNat 32 t.val)) 0#32)
      (IntOp.cmpi .slt (IntOp.subi (BitVec.ofNat 32 s.val) (BitVec.ofNat 32 t.val)) 512#32) = BitVec.ofBool (decide (Win s t)) := by
  have e1 : (BitVec.sle 0#32 (BitVec.ofNat 32 s.val - BitVec.ofNat 32 t.val)) = decide (t.val ≤ s.val) := by
    rw [BitVec.sle, toInt_diff]
    apply decide_eq_decide.mpr; simp
  have e2 : (BitVec.slt (BitVec.ofNat 32 s.val - BitVec.ofNat 32 t.val) 512#32) = decide (s.val < t.val + 512) := by
    rw [BitVec.slt, toInt_diff]
    apply decide_eq_decide.mpr
    show (s.val : ℤ) - t.val < 512 ↔ _
    omega
  unfold IntOp.andi IntOp.cmpi IntOp.subi
  simp only [e1, e2]
  by_cases h1 : t.val ≤ s.val <;> by_cases h2 : s.val < t.val + 512 <;> simp [Win, h1, h2]

variable (r1 : FVec Ideal S3x12288x20x256 .f32) (r2 : FVec Ideal S3x12288x20 .f32) (r4 : FVec Ideal S3x12288x4x256 .f32) (r5 : FVec Ideal S3x12288x4 .f32)
  (r7 : FVec Ideal S3x12288x4x256 .f32) (r8 : FVec Ideal S3x12288x4 .f32)

/-- The query head of a group's member. -/
def hd (g : Fin 4) (a : Fin 5) : Fin 20 := ⟨5 * g.val + a.val, by omega⟩

section At
variable (b : Fin 3) (s : Fin 12288) (g : Fin 4) (a : Fin 5) (t : Fin 12288)

theorem v4_at (k : Fin 256) : val_main_v4 (F := Ideal) r1 (ix5 b s g a k) = r1 (ix4 b s (hd g a) k) := by
  rw [val_main_v4_apply]
  refine congrArg r1 (funext fun c => Fin.ext ?_)
  have := b.isLt; have := s.isLt; have := g.isLt; have := a.isLt; have := k.isLt
  fin_cases c
  · show ((((b.val * 12288 + s.val) * 4 + g.val) * 5 + a.val) * 256 + k.val) / 62914560 = b.val
    omega
  · show ((((b.val * 12288 + s.val) * 4 + g.val) * 5 + a.val) * 256 + k.val) / 5120 % 12288 = s.val
    omega
  · show ((((b.val * 12288 + s.val) * 4 + g.val) * 5 + a.val) * 256 + k.val) / 256 % 20 = 5 * g.val + a.val
    omega
  · show ((((b.val * 12288 + s.val) * 4 + g.val) * 5 + a.val) * 256 + k.val) % 256 = k.val
    omega

theorem v5_at : val_main_v5 (F := Ideal) r2 (ix4 b s g a) = r2 (ix3 b s (hd g a)) := by
  rw [val_main_v5_apply]
  refine congrArg r2 (funext fun c => Fin.ext ?_)
  have := b.isLt; have := s.isLt; have := g.isLt; have := a.isLt
  fin_cases c
  · show (((b.val * 12288 + s.val) * 4 + g.val) * 5 + a.val) / 245760 = b.val
    omega
  · show (((b.val * 12288 + s.val) * 4 + g.val) * 5 + a.val) / 20 % 12288 = s.val
    omega
  · show (((b.val * 12288 + s.val) * 4 + g.val) * 5 + a.val) % 20 = 5 * g.val + a.val
    omega

theorem v7_at : val_main_v7 (F := Ideal) r1 r4 (ix5 b s g a t) = ∑ k : Fin 256, r4 (ix4 b t g k) * r1 (ix4 b s (hd g a) k) := by
  rw [val_main_v7_apply, val_main_v6_apply]
  refine Finset.sum_congr rfl fun k _ => ?_
  rw [← v4_at r1 b s g a k]
  refine congrArg₂ (· * ·) (congrArg r4 (funext fun c => ?_)) (congrArg (val_main_v4 (F := Ideal) r1) (funext fun c => ?_)) <;> fin_cases c <;> rfl

theorem v21_at : val_main_v21 (F := Ideal) r2 (ix5 b s g a t) = r2 (ix3 b s (hd g a)) := by
  rw [val_main_v21_apply, val_main_v20_apply, ← v5_at r2 b s g a]
  exact congrArg (val_main_v5 (F := Ideal) r2) (funext fun c => by fin_cases c <;> rfl)
theorem v23_at : val_main_v23 (F := Ideal) r5 (ix5 b s g a t) = r5 (ix3 b t g) := by
  rw [val_main_v23_apply, val_main_v9_apply, val_main_v8_apply]
  exact congrArg r5 (funext fun c => by fin_cases c <;> rfl)
theorem v41_at : val_main_v41 (F := Ideal) r8 (ix5 b s g a t) = r8 (ix3 b t g) := by
  rw [val_main_v41_apply, val_main_v11_apply, val_main_v10_apply]
  exact congrArg r8 (funext fun c => by fin_cases c <;> rfl)

theorem v28_at : val_main_v28 (F := Ideal) (ix5 b s g a t) = BitVec.ofBool (decide (Win s t)) := by
  rw [val_main_v28_apply, val_main_v27_apply, val_main_v19_apply, val_main_v16_apply, val_main_v18_apply, val_main_v14_apply, val_main_v12_apply, val_main_v13_apply,
    val_main_v15_apply, val_main_v17_apply, val_main_c_apply, val_main_c_0_apply]
  exact mask_read s t

/-- The masked logit. -/
theorem v30_at : val_main_v30 (F := Ideal) r1 r2 r4 r5 (ix5 b s g a t)
    = if Win s t then (∑ k : Fin 256, r4 (ix4 b t g k) * r1 (ix4 b s (hd g a) k)) * r2 (ix3 b s (hd g a)) * r5 (ix3 b t g) * ((1 / 16 : ℝ) : EReal) else ⊥ := by
  have e16 : Ideal.ofBits .f32 0x3D800000#32 = ((1 / 16 : ℝ) : EReal) := by simp [Ideal.ofBits, Ideal.ieee, -EReal.coe_mul]; norm_num
  rw [val_main_v30_apply, v28_at, select_ofBool, val_main_v26_apply, val_main_v24_apply, val_main_v22_apply, v7_at, v21_at, v23_at, val_main_v25_apply, val_main_cst_apply,
    val_main_v29_apply, val_main_cst_1_apply]
  simp only [decide_eq_true_eq]
  refine if_congr Iff.rfl ?_ ofBits_neg_inf
  rw [← e16]; rfl

/-- The greatest masked logit. -/
theorem v31_at : val_main_v31 (F := Ideal) r1 r2 r4 r5 (ix4 b s g a)
    = (Finset.univ : Finset (Fin 12288)).fold max ⊥ fun t => val_main_v30 (F := Ideal) r1 r2 r4 r5 (ix5 b s g a t) := by
  unfold val_main_v31
  generalize val_main_v30 (F := Ideal) r1 r2 r4 r5 = y
  have hr : S3x12288x4x5x12288.Reduces [4] S3x12288x4x5 := by decide
  rw [Host.reduce_eq_fold_single (FloatOps.maximumf (F := Ideal) (φ := .f32)) y _ _ hr]
  refine (congrArg₂ (fun z f => (Finset.univ : Finset (Fin 12288)).fold max z f) (ofBits_neg_inf : val_main_cst_2 (F := Ideal) (Shape.Idx.first h_S_) = ⊥) (funext fun k => congrArg y (funext fun c => Fin.ext ?_)))
  rw [hr.lift_val]
  fin_cases c <;> simp [Shape.Reduces.liftVal] <;> rfl

theorem v33_at : val_main_v33 (F := Ideal) r1 r2 r4 r5 (ix5 b s g a t) = val_main_v31 (F := Ideal) r1 r2 r4 r5 (ix4 b s g a) := by
  rw [val_main_v33_apply, val_main_v32_apply]
  exact congrArg (val_main_v31 (F := Ideal) r1 r2 r4 r5) (funext fun c => by fin_cases c <;> rfl)

theorem v35_at : val_main_v35 (F := Ideal) r1 r2 r4 r5 (ix5 b s g a t)
    = Ideal.exp (val_main_v30 (F := Ideal) r1 r2 r4 r5 (ix5 b s g a t) - val_main_v31 (F := Ideal) r1 r2 r4 r5 (ix4 b s g a)) := by
  rw [val_main_v35_apply, val_main_v34_apply, v33_at]; rfl

theorem v36_at : val_main_v36 (F := Ideal) r1 r2 r4 r5 (ix4 b s g a)
    = ∑ t : Fin 12288, Ideal.exp (val_main_v30 (F := Ideal) r1 r2 r4 r5 (ix5 b s g a t) - val_main_v31 (F := Ideal) r1 r2 r4 r5 (ix4 b s g a)) := by
  rw [val_main_v36_apply, val_main_cst_3_apply]
  refine (congrArg₂ (· + ·) Ideal.ofBits_zero_f32 (Finset.sum_congr rfl fun t _ => ?_)).trans (zero_add _)
  rw [← v35_at]
  exact congrArg (val_main_v35 (F := Ideal) r1 r2 r4 r5) (funext fun c => by fin_cases c <;> rfl)

theorem e256 : Ideal.ofBits .f32 0x43800000#32 = ((256 : ℝ) : EReal) := by simp [Ideal.ofBits, Ideal.ieee, -EReal.coe_mul]; norm_num
theorem e448 : Ideal.ofBits .f32 0x43E00000#32 = ((448 : ℝ) : EReal) := by simp [Ideal.ofBits, Ideal.ieee, -EReal.coe_mul]; norm_num

theorem v43_at : val_main_v43 (F := Ideal) r1 r2 r4 r5 r8 (ix5 b s g a t)
    = min (Ideal.exp (val_main_v30 (F := Ideal) r1 r2 r4 r5 (ix5 b s g a t) - val_main_v31 (F := Ideal) r1 r2 r4 r5 (ix4 b s g a)) * ((256 : ℝ) : EReal)) ((448 : ℝ) : EReal)
      * r8 (ix3 b t g) := by
  rw [val_main_v43_apply, val_main_v42_apply, v41_at, val_main_v40_apply, val_main_v38_apply, v35_at, val_main_v37_apply, val_main_cst_4_apply, val_main_v39_apply,
    val_main_cst_5_apply, ← e256, ← e448]
  rfl

theorem v51_at (d : Fin 256) : val_main_v51 (F := Ideal) r1 r2 r4 r5 r7 r8 (ix5 b s g a d)
    = Ideal.div (∑ t : Fin 12288, r7 (ix4 b t g d)
        * (min (Ideal.exp (val_main_v30 (F := Ideal) r1 r2 r4 r5 (ix5 b s g a t) - val_main_v31 (F := Ideal) r1 r2 r4 r5 (ix4 b s g a)) * ((256 : ℝ) : EReal)) ((448 : ℝ) : EReal)
          * r8 (ix3 b t g)))
      (((256 : ℝ) : EReal) * ∑ t : Fin 12288, Ideal.exp (val_main_v30 (F := Ideal) r1 r2 r4 r5 (ix5 b s g a t) - val_main_v31 (F := Ideal) r1 r2 r4 r5 (ix4 b s g a))) := by
  rw [val_main_v51_apply, val_main_v46_apply, val_main_v45_apply, val_main_v50_apply, val_main_v49_apply, val_main_v48_apply, val_main_v47_apply, val_main_cst_6_apply]
  refine congrArg₂ Ideal.div (Finset.sum_congr rfl fun t _ => ?_) ?_
  · rw [← v43_at]
    refine congrArg₂ (· * ·) ?_ (congrArg (val_main_v43 (F := Ideal) r1 r2 r4 r5 r8) (funext fun c => by fin_cases c <;> rfl))
    rw [val_main_v44_apply]
    exact congrArg r7 (funext fun c => by fin_cases c <;> rfl)
  · rw [← v36_at, ← e256]
    refine congrArg₂ (· * ·) rfl (congrArg (val_main_v36 (F := Ideal) r1 r2 r4 r5) (funext fun c => by fin_cases c <;> rfl))

/-- The attention's element is the softmax mean over the window, when what it takes are reals. -/
theorem v51_mean (d : Fin 256) {R1 : S3x12288x20x256.Idx → ℝ} {R2 : S3x12288x20.Idx → ℝ} {R4 R7 : S3x12288x4x256.Idx → ℝ} {R5 R8 : S3x12288x4.Idx → ℝ}
    (h1 : ∀ i, r1 i = (R1 i : EReal)) (h2 : ∀ i, r2 i = (R2 i : EReal)) (h4 : ∀ i, r4 i = (R4 i : EReal)) (h5 : ∀ i, r5 i = (R5 i : EReal))
    (h7 : ∀ i, r7 i = (R7 i : EReal)) (h8 : ∀ i, r8 i = (R8 i : EReal)) :
    val_main_v51 (F := Ideal) r1 r2 r4 r5 r7 r8 (ix5 b s g a d)
      = ((softMean (Win s) (fun t => (∑ k : Fin 256, R4 (ix4 b t g k) * R1 (ix4 b s (hd g a) k)) * R2 (ix3 b s (hd g a)) * R5 (ix3 b t g) * (1 / 16))
          (fun t => R7 (ix4 b t g d) * R8 (ix3 b t g)) : ℝ) : EReal) := by
  have hx : ∀ t, val_main_v30 (F := Ideal) r1 r2 r4 r5 (ix5 b s g a t)
      = if Win s t then (((∑ k : Fin 256, R4 (ix4 b t g k) * R1 (ix4 b s (hd g a) k)) * R2 (ix3 b s (hd g a)) * R5 (ix3 b t g) * (1 / 16) : ℝ) : EReal) else ⊥ := by
    intro t
    rw [v30_at]
    simp only [h1, h2, h4, h5, ← EReal.coe_mul, sum_coe]
  have hself : Win s s := ⟨le_rfl, by omega⟩
  obtain ⟨M, eM, hM⟩ := fold_real (Finset.univ : Finset (Fin 12288)) (fun t => val_main_v30 (F := Ideal) r1 r2 r4 r5 (ix5 b s g a t))
    (fun t _ => by simp only [hx]; split; exacts [EReal.coe_lt_top _, bot_lt_top]) s (Finset.mem_univ s)
    (by simp only [hx, if_pos hself]; exact EReal.bot_lt_coe _)
  rw [v51_at, v31_at, eM]
  refine mean_exp (Win s) _ _ _ _ _ _ hx (fun t => h7 _) (fun t => h8 _) M (fun t ht => ?_) ⟨s, hself⟩
  have := hM t (Finset.mem_univ t)
  simp only [hx, if_pos ht] at this
  exact EReal.coe_le_coe_iff.mp this

end At

/-- The result's element is the attention's. -/
theorem v53_at (b : Fin 3) (s : Fin 12288) (j : Fin 5120) : val_main_v53 (F := Ideal) r1 r2 r4 r5 r7 r8 (ix3 b s j)
    = val_main_v51 (F := Ideal) r1 r2 r4 r5 r7 r8 (ix5 b s ⟨j.val / 1280, by omega⟩ ⟨j.val / 256 % 5, by omega⟩ ⟨j.val % 256, by omega⟩) := by
  rw [val_main_v53_apply, val_main_v52_apply]
  refine congrArg (val_main_v51 (F := Ideal) r1 r2 r4 r5 r7 r8) (funext fun c => Fin.ext ?_)
  have := b.isLt; have := s.isLt; have := j.isLt
  fin_cases c
  · show ((b.val * 12288 + s.val) * 5120 + j.val) / 62914560 = b.val
    omega
  · show ((b.val * 12288 + s.val) * 5120 + j.val) / 5120 % 12288 = s.val
    omega
  · show ((b.val * 12288 + s.val) * 5120 + j.val) / 1280 % 4 = j.val / 1280
    omega
  · show ((b.val * 12288 + s.val) * 5120 + j.val) / 256 % 5 = j.val / 256 % 5
    omega
  · show ((b.val * 12288 + s.val) * 5120 + j.val) % 256 = j.val % 256
    omega

end Cert.ReferenceIdeal.Value
-- ==== Proof.Value.OutMean.lean ====
/-
  The idealized kernel's result at a position, as the reference states it: the mean of the values by the exponentials of
  the logits, over the window of the 512 positions up to it.
-/
module

public import proofs.«01_k».proof.Proof.Value.HeadMean
public import proofs.«01_k».proof.Proof.Value.KArrays
public import proofs.«01_k».proof.Proof.Value.RAttn

@[expose] public section

set_option maxRecDepth 16384

noncomputable section

namespace Cert.Gqa.KernelIdeal

open Cert.KernelIdeal Cert.KernelIdeal.Gen
open Idealize.ShloMosaic Idealize.ShloMosaic.TcCoe
open Cert.ReferenceIdeal.Value (Win)

/-- The position of a row of the block `k` before; and a position's block and row. -/
def posBack (qi : ℕ) (hq : qi < 48) (k : ℕ) (r : Fin 256) : Fin 12288 := ⟨256 * (qi - k) + r.val, by omega⟩
def backOf (qi : ℕ) (t : Fin 12288) : Fin 3 × Fin 256 := (⟨(qi - t.val / 256) % 3, by omega⟩, ⟨t.val % 256, by omega⟩)

/-- The window's positions, block by block. -/
theorem window_match (s : Fin 12288) (hq : s.val / 256 < 48) (a b : Fin 3 × Fin 256 → ℝ) (a' b' : Fin 12288 → ℝ)
    (ha : ∀ p, p.1.val ≤ s.val / 256 → a p = a' (posBack _ hq p.1.val p.2)) (hb : ∀ p, p.1.val ≤ s.val / 256 → b p = b' (posBack _ hq p.1.val p.2)) :
    softMean (In (s.val / 256) ⟨s.val % 256, Nat.mod_lt _ (by decide)⟩) a b = softMean (Win s) a' b' := by
  refine softMean_match _ _ a b a' b' (fun p => posBack _ hq p.1.val p.2) (backOf (s.val / 256)) ?_ ?_ ?_ ?_ (fun p hp => ha p hp.1) fun p hp => hb p hp.1
  · rintro ⟨j, r⟩ ⟨h1, h0, h2⟩
    have hs := s.isLt; have hr := r.isLt
    simp only at h1 h0 h2
    unfold Win posBack
    fin_cases j
    · have := h0 rfl
      simp only [Fin.le_def]
      simp at *
      omega
    · simp only [Fin.le_def]
      simp at *
      omega
    · have := h2 rfl
      simp only [Fin.le_def]
      simp at *
      omega
  · rintro t ⟨h1, h2⟩
    have h1' : t.val ≤ s.val := h1
    unfold backOf In
    refine ⟨?_, fun h => ?_, fun h => ?_⟩
    · show (s.val / 256 - t.val / 256) % 3 ≤ s.val / 256
      omega
    · have h' : (s.val / 256 - t.val / 256) % 3 = 0 := congrArg Fin.val h
      show t.val % 256 ≤ s.val % 256
      omega
    · have h' : (s.val / 256 - t.val / 256) % 3 = 2 := congrArg Fin.val h
      show s.val % 256 < t.val % 256
      omega
  · rintro ⟨j, r⟩ ⟨h1, -, -⟩
    have hr := r.isLt; have hj := j.isLt
    have h1' : j.val ≤ s.val / 256 := h1
    unfold backOf posBack
    refine Prod.ext (Fin.ext ?_) (Fin.ext ?_)
    · show (s.val / 256 - (256 * (s.val / 256 - j.val) + r.val) / 256) % 3 = j.val
      omega
    · show (256 * (s.val / 256 - j.val) + r.val) % 256 = r.val
      omega
  · rintro t ⟨h1, h2⟩
    have h1' : t.val ≤ s.val := h1
    unfold backOf posBack
    refine Fin.ext ?_
    show 256 * (s.val / 256 - (s.val / 256 - t.val / 256) % 3) + t.val % 256 = t.val
    omega

variable (m : (ℓ : Loc nD τ sig) → Buf (Elt Ideal) ℓ)

/-- A head's column of the flat result, and its place in the head. -/
abbrev headOf (j : Fin 5120) : Fin 20 := ⟨j.val / 256, by omega⟩
abbrev dimOf (j : Fin 5120) : Fin 256 := ⟨j.val % 256, by omega⟩

theorem out_head (c : Dev nD) (b : Fin 3) (s : Fin 12288) (j : Fin 5120) : outAtPos m c b s j
    = headOut true (BitVec.ofNat 32 (s.val / 256)) (headAt (F := Ideal) (bx m c) (bk m c) (bv m c) (lc (F := Ideal)) (48 * b.val + s.val / 256) (s.val / 256) (headOf j))
        (ix2 ⟨s.val % 256, Nat.mod_lt _ (by decide)⟩ (dimOf j)) := rfl

theorem block_pos (b : Fin 3) (qi : ℕ) (hq : qi < 48) (k : ℕ) (hk : k ≤ qi) (hn : 48 * b.val + qi - k < 144) (r : Fin 256) :
    batchOf ⟨48 * b.val + qi - k, hn⟩ = b ∧ posOf ⟨48 * b.val + qi - k, hn⟩ r = posBack qi hq k r := by
  unfold batchOf posOf posBack
  refine ⟨Fin.ext ?_, Fin.ext ?_⟩
  · show (48 * b.val + qi - k) / 48 = b.val; omega
  · show 256 * ((48 * b.val + qi - k) % 48) + r.val = 256 * (qi - k) + r.val
    have : (48 * b.val + qi - k) % 48 = qi - k := by omega
    rw [this]

theorem bk_back (c : Dev nD) (b : Fin 3) (qi : ℕ) (hq : qi < 48) (k : ℕ) (hk : k ≤ qi) (g : Fin 4) (r : Fin 256) :
    brow (kh (bk (F := Ideal) m c (48 * b.val + qi - k)) g) r = krow (aK m c) b (posBack qi hq k r) g := by
  have hn : 48 * b.val + qi - k < 144 := by omega
  have e := bk_row m c ⟨48 * b.val + qi - k, hn⟩ g r
  obtain ⟨e1, e2⟩ := block_pos b qi hq k hk hn r
  exact e.trans (congrArg₂ (fun b s => krow (aK m c) b s g) e1 e2)
theorem bv_back (c : Dev nD) (b : Fin 3) (qi : ℕ) (hq : qi < 48) (k : ℕ) (hk : k ≤ qi) (g : Fin 4) (r : Fin 256) :
    brow (kh (bv (F := Ideal) m c (48 * b.val + qi - k)) g) r = krow (aV m c) b (posBack qi hq k r) g := by
  have hn : 48 * b.val + qi - k < 144 := by omega
  have e := bv_row m c ⟨48 * b.val + qi - k, hn⟩ g r
  obtain ⟨e1, e2⟩ := block_pos b qi hq k hk hn r
  exact e.trans (congrArg₂ (fun b s => krow (aV m c) b s g) e1 e2)
theorem bx_here (c : Dev nD) (b : Fin 3) (s : Fin 12288) (h : Fin 20) :
    brow (xh (bx (F := Ideal) m c (48 * b.val + s.val / 256)) h) ⟨s.val % 256, Nat.mod_lt _ (by decide)⟩ = qrow (aX m c) b s h := by
  have hn : 48 * b.val + s.val / 256 < 144 := by omega
  have e := bx_row m c ⟨48 * b.val + s.val / 256, hn⟩ h ⟨s.val % 256, Nat.mod_lt _ (by decide)⟩
  have e1 : batchOf ⟨48 * b.val + s.val / 256, hn⟩ = b := by unfold batchOf; exact Fin.ext (show (48 * b.val + s.val / 256) / 48 = b.val by omega)
  have e2 : posOf ⟨48 * b.val + s.val / 256, hn⟩ ⟨s.val % 256, Nat.mod_lt _ (by decide)⟩ = s := by
    unfold posOf; exact Fin.ext (show 256 * ((48 * b.val + s.val / 256) % 48) + s.val % 256 = s.val by omega)
  exact e.trans (congrArg₂ (fun b s => qrow (aX m c) b s h) e1 e2)

theorem lc_real : (lc (F := Ideal) : EReal) = (((1 / 16) * (Real.log 2)⁻¹ : ℝ) : EReal) := rfl

variable (c : Dev nD) {Q : Fin 3 → Fin 12288 → Fin 20 → Fin 256 → ℝ} {σq : Fin 3 → Fin 12288 → Fin 20 → ℝ} {K V : Fin 3 → Fin 12288 → Fin 4 → Fin 256 → ℝ}
  {σk σv : Fin 3 → Fin 12288 → Fin 4 → ℝ}
  (hQ : ∀ b s h k, rowCode (qrow (aX m c) b s h) k = Q b s h k) (hσq : ∀ b s h, rowScale (qrow (aX m c) b s h) = σq b s h) (hpos : ∀ b s h, 0 < σq b s h)
  (hK : ∀ b s h k, rowCode (krow (aK m c) b s h) k = K b s h k) (hσk : ∀ b s h, rowScale (krow (aK m c) b s h) = σk b s h)
  (hV : ∀ b s h k, rowCode (krow (aV m c) b s h) k = V b s h k) (hσv : ∀ b s h, rowScale (krow (aV m c) b s h) = σv b s h)

include hQ hσq hpos hK hσk hV hσv in
theorem out_mean (b : Fin 3) (s : Fin 12288) (j : Fin 5120) : outAtPos m c b s j
    = ((softMean (Win s) (fun t => (∑ k, K b t (grp (headOf j)) k * Q b s (headOf j) k) * σq b s (headOf j) * σk b t (grp (headOf j)) * (1 / 16))
        (fun t => V b t (grp (headOf j)) (dimOf j) * σv b t (grp (headOf j))) : ℝ) : EReal) := by
  have hq : s.val / 256 < 48 := by omega
  have hl : 0 < Real.log 2 := Real.log_pos (by norm_num)
  rw [out_head]
  rw [head_mean (bx m c) (bk m c) (bv m c) (lc (F := Ideal)) (48 * b.val + s.val / 256) (s.val / 256) (headOf j) _ (dimOf j) _ lc_real (by positivity) hq
    (Q b s (headOf j)) (σq b s (headOf j)) (fun k => by rw [bx_here]; exact hQ _ _ _ _) (by rw [bx_here]; exact hσq _ _ _) (hpos _ _ _)
    (fun k r => K b (posBack _ hq k r) (grp (headOf j))) (fun k r => V b (posBack _ hq k r) (grp (headOf j)))
    (fun k r => σk b (posBack _ hq k r) (grp (headOf j))) (fun k r => σv b (posBack _ hq k r) (grp (headOf j)))
    (fun k hk r d => by rw [bk_back m c b _ hq k hk]; exact hK _ _ _ _) (fun k hk r => by rw [bk_back m c b _ hq k hk]; exact hσk _ _ _)
    (fun k hk r d => by rw [bv_back m c b _ hq k hk]; exact hV _ _ _ _) (fun k hk r => by rw [bv_back m c b _ hq k hk]; exact hσv _ _ _)]
  refine congrArg _ (window_match s hq _ _ _ _ (fun p hp => ?_) fun p hp => ?_)
  · unfold lgR
    have : (Real.log 2)⁻¹ * Real.log 2 = 1 := inv_mul_cancel₀ hl.ne'
    linear_combination ((∑ k, K b (posBack _ hq p.1.val p.2) (grp (headOf j)) k * Q b s (headOf j) k) * σk b (posBack _ hq p.1.val p.2) (grp (headOf j)) * σq b s (headOf j) * (1 / 16)) * this
  · unfold valR
    rw [if_pos hp]

end Cert.Gqa.KernelIdeal
-- ==== Proof.Value.Finite.lean ====
/-
  The precondition, as the rows' being real and of bounded size.
-/
module

public import proofs.«01_k».proof.Defs
public import proofs.«01_k».proof.Proof.Gen.KernelIdeal
public import proofs.«01_k».proof.Proof.Value.Tables
public import proofs.«01_k».proof.Proof.Value.Rows

@[expose] public section

set_option maxRecDepth 16384

noncomputable section

namespace Cert.Gqa

open Idealize.ShloMosaic Idealize.ShloMosaic.TcCoe

instance finiteFacts : Cert.Pre_finite.Facts where
  bcast_S_S3x12288x5120 := by decide +kernel
  bcast_S_S3x12288x1024 := by decide +kernel

theorem bits_max : ∃ B : ℝ, Ideal.ofBits .bf16 0x7F7F#16 = (B : EReal) ∧ B ≤ (2 : ℝ) ^ (128 : ℤ) := by
  refine ⟨(2 - (2 : ℝ) ^ (-7 : ℤ)) * (2 : ℝ) ^ (127 : ℤ), ?_, by norm_num⟩
  simp [Ideal.ofBits, Ideal.ieee, -EReal.coe_mul, -EReal.coe_sub]; norm_num

/-- An extended real of magnitude at most the greatest finite bf16 is real and below two to the 128. -/
theorem real_of_le (x : EReal) (h : FloatOps.cmpf (F := Ideal) (φ := .bf16) .ole (max x (-x)) (Ideal.ofBits .bf16 0x7F7F#16) = 1#1) :
    ∃ r : ℝ, x = r ∧ |r| ≤ (2 : ℝ) ^ (128 : ℤ) := by
  have h' : max x (-x) ≤ Ideal.ofBits .bf16 0x7F7F#16 := by
    by_contra hc
    have : FloatOps.cmpf (F := Ideal) (φ := .bf16) .ole (max x (-x)) (Ideal.ofBits .bf16 0x7F7F#16) = BitVec.ofBool (decide (max x (-x) ≤ Ideal.ofBits .bf16 0x7F7F#16)) := rfl
    rw [this, decide_eq_false hc] at h
    exact absurd h (by decide)
  obtain ⟨B, eB, hB⟩ := bits_max
  rw [eB] at h'
  induction x using EReal.rec with
  | bot => exact absurd h' (by simp)
  | top => exact absurd h' (by simp)
  | coe r =>
    refine ⟨r, rfl, ?_⟩
    rw [← EReal.coe_neg, ← EReal.coe_strictMono.monotone.map_max, EReal.coe_le_coe_iff] at h'
    exact (show |r| ≤ _ from h').trans hB

variable {m : (ℓ : Loc Cert.KernelIdeal.nD Cert.KernelIdeal.τ Cert.KernelIdeal.sig) → Buf (Elt Ideal) ℓ}

theorem tame_x (h : Cert.Pre_KernelIdeal_finite m) (c : Dev Cert.KernelIdeal.nD) (b : Fin 3) (s : Fin 12288) (g : Fin 20) :
    Tame (qrow (m ((c : Thread Cert.KernelIdeal.nD Cert.KernelIdeal.τ).loc Cert.KernelIdeal.main_arg0)) b s g) :=
  fun k => real_of_le _ (congrFun (h c).1 (ix3 b s ⟨256 * g.val + k.val, by omega⟩))
theorem tame_k (h : Cert.Pre_KernelIdeal_finite m) (c : Dev Cert.KernelIdeal.nD) (b : Fin 3) (s : Fin 12288) (g : Fin 4) :
    Tame (krow (m ((c : Thread Cert.KernelIdeal.nD Cert.KernelIdeal.τ).loc Cert.KernelIdeal.main_arg1)) b s g) :=
  fun k => real_of_le _ (congrFun (h c).2.1 (ix3 b s ⟨256 * g.val + k.val, by omega⟩))
theorem tame_v (h : Cert.Pre_KernelIdeal_finite m) (c : Dev Cert.KernelIdeal.nD) (b : Fin 3) (s : Fin 12288) (g : Fin 4) :
    Tame (krow (m ((c : Thread Cert.KernelIdeal.nD Cert.KernelIdeal.τ).loc Cert.KernelIdeal.main_arg2)) b s g) :=
  fun k => real_of_le _ (congrFun (h c).2.2 (ix3 b s ⟨256 * g.val + k.val, by omega⟩))

end Cert.Gqa
-- ==== Proof.Value.RowRead.lean ====
/-
  A row maximum, and a row's factor applied along it, at an index, for arrays of any extents.
-/
module

public import proofs.«01_k».proof.Proof.Value.Tables

@[expose] public section

noncomputable section

namespace Cert.Gqa

open Idealize.ShloMosaic

variable {A B H : ℕ}

theorem rowmax_read (v : FVec Ideal ⟨4, ![A, B, H, 256]⟩ .f32) (acc : BitVec 32) (hr : (⟨4, ![A, B, H, 256]⟩ : Shape).Reduces [3] ⟨3, ![A, B, H]⟩)
    (hφ : FKind.Formats .f32) (hacc : acc = FKind.maximumf.neutral .f32 hφ) (a : Fin A) (b : Fin B) (h : Fin H) :
    multiReduction .maximumf [3] ⟨3, ![A, B, H]⟩ v acc hr hφ hacc (ix3 a b h)
      = (Finset.univ : Finset (Fin 256)).fold max (Ideal.ofBits .f32 acc) fun k => v (ix4 a b h k) := by
  rw [Ideal.multiReduction_maximumf_single]
  refine congrArg (fun g => (Finset.univ : Finset (Fin 256)).fold max (Ideal.ofBits .f32 acc) g) (funext fun k => congrArg v (funext fun c => Fin.ext ?_))
  rw [hr.lift_val]
  fin_cases c <;> simp [Shape.Reduces.liftVal] <;> rfl

theorem rowfac_read (v : FVec Ideal ⟨3, ![A, B, H]⟩ .f32) (hc : (⟨3, ![A, B, H]⟩ : Shape).ShapeCasts ⟨4, ![A, B, H, 1]⟩)
    (hb : (⟨4, ![A, B, H, 1]⟩ : Shape).Broadcasts ⟨4, ![A, B, H, 256]⟩) (a : Fin A) (b : Fin B) (h : Fin H) (k : Fin 256) :
    broadcastTo ⟨4, ![A, B, H, 256]⟩ (shapeCast ⟨4, ![A, B, H, 1]⟩ v hc) hb (ix4 a b h k) = v (ix3 a b h) := by
  refine (broadcastTo_apply _ hb _ (ix4 a b h 0) fun c => ?_).trans (shapeCast_apply _ hc _ (ix3 a b h) ?_)
  · have ha := a.isLt; have hb' := b.isLt; have hh := h.isLt
    fin_cases c
    · show a.val = if A = 1 then 0 else a.val
      split <;> omega
    · show b.val = if B = 1 then 0 else b.val
      split <;> omega
    · show h.val = if H = 1 then 0 else h.val
      split <;> omega
    · rfl
  · rw [Shape.rowMajor_val_three, Shape.rowMajor_val_four]
    show _ = ((_ * _ + _) * 1 + 0 : ℕ)
    simp

/-! ### The reference's quantiser -/

/-- The reference's scale, its reciprocal and its codes of a row. -/
def refScale (f : Fin 256 → EReal) : EReal := Ideal.exp2 (refExp (rowMax f * c448))
def refInv (f : Fin 256 → EReal) : EReal := Ideal.exp2 (0 - refExp (rowMax f * c448))
def refCode (f : Fin 256 → EReal) (k : Fin 256) : EReal := min (Ideal.ofBits .f32 0x43E00000#32) (max (Ideal.ofBits .f32 0xC3E00000#32) (f k * refInv f))

theorem ofBits_two : Ideal.ofBits .f32 0x40000000#32 = 2 := by
  rw [show (2 : EReal) = ((2 : ℝ) : EReal) from rfl]; simp [Ideal.ofBits, Ideal.ieee, -EReal.coe_mul]; norm_num
theorem ofBits_floor : Ideal.ofBits .f32 0xC2FC0000#32 = (((-126 : ℝ)) : EReal) := by
  simp [Ideal.ofBits, Ideal.ieee, -EReal.coe_mul]; norm_num

/-- The reference's exponent, read off its operations. -/
theorem refExp_read (a : EReal) :
    Scalar.select (Ideal.cmp .oeq (a * Ideal.ofBits .f32 0x3B124925#32) (Ideal.ofBits .f32 0x00000000#32)) (Ideal.ofBits .f32 0x00000000#32)
      (max (Ideal.liftRound Int.floor (Ideal.div (Ideal.log (a * Ideal.ofBits .f32 0x3B124925#32)) (Ideal.log (Ideal.ofBits .f32 0x40000000#32))) + Ideal.ofBits .f32 0x3F800000#32) (Ideal.ofBits .f32 0xC2FC0000#32))
      = refExp (a * c448) := by
  rw [Ideal.ofBits_zero_f32, Ideal.ofBits_one_f32, ofBits_two, ofBits_floor, cmp_oeq, select_ofBool]
  unfold refExp c448
  simp only [decide_eq_true_eq]

section Vectors
variable {F : FTy → Type} [FloatOps F] {s t : Shape}

/-- The exponents of an array of maxima; -/
def expsOf (v4 : FVec F s .f32) : FVec F s .f32 :=
  select (cmpf .oeq (mulf v4 (broadcast s (Scalar.ofBits .f32 0x3B124925#32))) (broadcast s (Scalar.ofBits .f32 0x00000000#32)))
    (broadcast s (Scalar.ofBits .f32 0x00000000#32))
    (maximumf (addf (floor (divf (log (mulf v4 (broadcast s (Scalar.ofBits .f32 0x3B124925#32)))) (log (broadcast s (Scalar.ofBits .f32 0x40000000#32)))))
      (broadcast s (Scalar.ofBits .f32 0x3F800000#32))) (broadcast s (Scalar.ofBits .f32 0xC2FC0000#32)))
/-- two to minus them; -/
def invsOf (e : FVec F s .f32) : FVec F s .f32 := exp2 (subf (broadcast s (Scalar.ofBits .f32 0x00000000#32)) e)
/-- and the codes of an array by the factors along it. -/
def clipOf (x : FVec F s .bf16) (w : FVec F s .f32) : FVec F s .fp8e4m3 :=
  truncf .fp8e4m3 (minimumf (broadcast s (Scalar.ofBits .f32 0x43E00000#32)) (maximumf (broadcast s (Scalar.ofBits .f32 0xC3E00000#32))
    (mulf (extf .f32 x (by decide)) w))) (by decide)

end Vectors

theorem expsOf_at {s : Shape} (v : FVec Ideal s .f32) (i : s.Idx) : expsOf v i = refExp (v i * c448) := refExp_read (v i)
theorem invsOf_at {s : Shape} (v : FVec Ideal s .f32) (i : s.Idx) : invsOf v i = Ideal.exp2 (0 - v i) := by
  show Ideal.exp2 (Ideal.ofBits .f32 0x00000000#32 - v i) = _
  rw [Ideal.ofBits_zero_f32]
theorem exp2_at {s : Shape} (v : FVec Ideal s .f32) (i : s.Idx) : exp2 v i = Ideal.exp2 (v i) := rfl
theorem clipOf_at {s : Shape} (x : FVec Ideal s .bf16) (w : FVec Ideal s .f32) (i : s.Idx) :
    clipOf x w i = min (Ideal.ofBits .f32 0x43E00000#32) (max (Ideal.ofBits .f32 0xC3E00000#32) (x i * w i)) := rfl

end Cert.Gqa
-- ==== Proof.Value.RArrays.lean ====
/-
  The reference's arrays of codes and scales after its quantiser, at an index.
-/
module

public import proofs.«01_k».proof.Proof.Value.RowRead
public import proofs.«01_k».proof.Proof.Ref.Run
public import Idealize.ShloMosaic.Lib.Pipeline.ValueKit

@[expose] public section

set_option maxRecDepth 16384

noncomputable section

namespace Cert.ReferenceIdeal.Value

open Cert.Gqa
open Cert.ReferenceIdeal Cert.ReferenceIdeal.Gen
open Idealize.ShloMosaic

theorem qmax_at (x : FVec Ideal S3x12288x20x256 .bf16) (b : Fin 3) (s : Fin 12288) (h : Fin 20) :
    multiReduction .maximumf [3] S3x12288x20 (absf (extf .f32 x bitsLt_bf16_f32)) 0xFF800000#32 reduces_S3x12288x20x256_S3x12288x20 (.inl rfl) rfl (ix3 b s h) = rowMax fun k => x (ix4 b s h k) := by
  have e := rowmax_read (absf (extf .f32 x bitsLt_bf16_f32)) 0xFF800000#32 reduces_S3x12288x20x256_S3x12288x20 (.inl rfl) rfl b s h
  exact e.trans (congrArg (fun z => Finset.univ.fold max z _) ofBits_neg_inf)
theorem qexp_eq (x : FVec Ideal S3x12288x20x256 .bf16) : k0_pay3 (F := Ideal) x
    = expsOf (multiReduction .maximumf [3] S3x12288x20 (absf (extf .f32 x bitsLt_bf16_f32)) 0xFF800000#32 reduces_S3x12288x20x256_S3x12288x20 (.inl rfl) rfl) := by
  unfold k0_pay3 k0_pay2
  rw [shapeCast_self]; rfl
theorem qscale_at (x : FVec Ideal S3x12288x20x256 .bf16) (b : Fin 3) (s : Fin 12288) (h : Fin 20) : k0_pay4 (F := Ideal) x (ix3 b s h) = refScale fun k => x (ix4 b s h k) := by
  rw [show k0_pay4 (F := Ideal) x = exp2 (k0_pay3 (F := Ideal) x) from rfl, exp2_at, qexp_eq, expsOf_at, qmax_at]; rfl
theorem qcode_at (x : FVec Ideal S3x12288x20x256 .bf16) (b : Fin 3) (s : Fin 12288) (h : Fin 20) (k : Fin 256) : k0_pay5 (F := Ideal) x (ix4 b s h k) = refCode (fun k => x (ix4 b s h k)) k := by
  have e : k0_pay5 (F := Ideal) x = clipOf x (broadcastTo S3x12288x20x256 (shapeCast S3x12288x20x1 (invsOf (k0_pay3 (F := Ideal) x)) shapeCasts_S3x12288x20_S3x12288x20x1) broadcasts_S3x12288x20x1_S3x12288x20x256) := by
    unfold k0_pay5 k0_pay2
    rw [shapeCast_self]; rfl
  rw [e, clipOf_at]
  unfold refCode refInv
  rw [show (broadcastTo S3x12288x20x256 (shapeCast S3x12288x20x1 (invsOf (k0_pay3 (F := Ideal) x)) shapeCasts_S3x12288x20_S3x12288x20x1) broadcasts_S3x12288x20x1_S3x12288x20x256 (ix4 b s h k) : EReal) = _ from rowfac_read _ _ _ b s h k,
    invsOf_at, qexp_eq, expsOf_at, qmax_at]

theorem kmax_at (x : FVec Ideal S3x12288x4x256 .bf16) (b : Fin 3) (s : Fin 12288) (h : Fin 4) :
    multiReduction .maximumf [3] S3x12288x4 (absf (extf .f32 x bitsLt_bf16_f32)) 0xFF800000#32 reduces_S3x12288x4x256_S3x12288x4 (.inl rfl) rfl (ix3 b s h) = rowMax fun k => x (ix4 b s h k) := by
  have e := rowmax_read (absf (extf .f32 x bitsLt_bf16_f32)) 0xFF800000#32 reduces_S3x12288x4x256_S3x12288x4 (.inl rfl) rfl b s h
  exact e.trans (congrArg (fun z => Finset.univ.fold max z _) ofBits_neg_inf)
theorem kexp_eq (x : FVec Ideal S3x12288x4x256 .bf16) : k0_pay8 (F := Ideal) x
    = expsOf (multiReduction .maximumf [3] S3x12288x4 (absf (extf .f32 x bitsLt_bf16_f32)) 0xFF800000#32 reduces_S3x12288x4x256_S3x12288x4 (.inl rfl) rfl) := by
  unfold k0_pay8 k0_pay7
  rw [shapeCast_self]; rfl
theorem kscale_at (x : FVec Ideal S3x12288x4x256 .bf16) (b : Fin 3) (s : Fin 12288) (h : Fin 4) : k0_pay9 (F := Ideal) x (ix3 b s h) = refScale fun k => x (ix4 b s h k) := by
  rw [show k0_pay9 (F := Ideal) x = exp2 (k0_pay8 (F := Ideal) x) from rfl, exp2_at, kexp_eq, expsOf_at, kmax_at]; rfl
theorem kcode_at (x : FVec Ideal S3x12288x4x256 .bf16) (b : Fin 3) (s : Fin 12288) (h : Fin 4) (k : Fin 256) : k0_pay10 (F := Ideal) x (ix4 b s h k) = refCode (fun k => x (ix4 b s h k)) k := by
  have e : k0_pay10 (F := Ideal) x = clipOf x (broadcastTo S3x12288x4x256 (shapeCast S3x12288x4x1 (invsOf (k0_pay8 (F := Ideal) x)) shapeCasts_S3x12288x4_S3x12288x4x1) broadcasts_S3x12288x4x1_S3x12288x4x256) := by
    unfold k0_pay10 k0_pay7
    rw [shapeCast_self]; rfl
  rw [e, clipOf_at]
  unfold refCode refInv
  rw [show (broadcastTo S3x12288x4x256 (shapeCast S3x12288x4x1 (invsOf (k0_pay8 (F := Ideal) x)) shapeCasts_S3x12288x4_S3x12288x4x1) broadcasts_S3x12288x4x1_S3x12288x4x256 (ix4 b s h k) : EReal) = _ from rowfac_read _ _ _ b s h k,
    invsOf_at, kexp_eq, expsOf_at, kmax_at]

theorem vmax_at (x : FVec Ideal S3x12288x4x256 .bf16) (b : Fin 3) (s : Fin 12288) (h : Fin 4) :
    multiReduction .maximumf [3] S3x12288x4 (absf (extf .f32 x bitsLt_bf16_f32)) 0xFF800000#32 reduces_S3x12288x4x256_S3x12288x4 (.inl rfl) rfl (ix3 b s h) = rowMax fun k => x (ix4 b s h k) := by
  have e := rowmax_read (absf (extf .f32 x bitsLt_bf16_f32)) 0xFF800000#32 reduces_S3x12288x4x256_S3x12288x4 (.inl rfl) rfl b s h
  exact e.trans (congrArg (fun z => Finset.univ.fold max z _) ofBits_neg_inf)
theorem vexp_eq (x : FVec Ideal S3x12288x4x256 .bf16) : k0_pay13 (F := Ideal) x
    = expsOf (multiReduction .maximumf [3] S3x12288x4 (absf (extf .f32 x bitsLt_bf16_f32)) 0xFF800000#32 reduces_S3x12288x4x256_S3x12288x4 (.inl rfl) rfl) := by
  unfold k0_pay13 k0_pay12
  rw [shapeCast_self]; rfl
theorem vscale_at (x : FVec Ideal S3x12288x4x256 .bf16) (b : Fin 3) (s : Fin 12288) (h : Fin 4) : k0_pay14 (F := Ideal) x (ix3 b s h) = refScale fun k => x (ix4 b s h k) := by
  rw [show k0_pay14 (F := Ideal) x = exp2 (k0_pay13 (F := Ideal) x) from rfl, exp2_at, vexp_eq, expsOf_at, vmax_at]; rfl
theorem vcode_at (x : FVec Ideal S3x12288x4x256 .bf16) (b : Fin 3) (s : Fin 12288) (h : Fin 4) (k : Fin 256) : k0_pay15 (F := Ideal) x (ix4 b s h k) = refCode (fun k => x (ix4 b s h k)) k := by
  have e : k0_pay15 (F := Ideal) x = clipOf x (broadcastTo S3x12288x4x256 (shapeCast S3x12288x4x1 (invsOf (k0_pay13 (F := Ideal) x)) shapeCasts_S3x12288x4_S3x12288x4x1) broadcasts_S3x12288x4x1_S3x12288x4x256) := by
    unfold k0_pay15 k0_pay12
    rw [shapeCast_self]; rfl
  rw [e, clipOf_at]
  unfold refCode refInv
  rw [show (broadcastTo S3x12288x4x256 (shapeCast S3x12288x4x1 (invsOf (k0_pay13 (F := Ideal) x)) shapeCasts_S3x12288x4_S3x12288x4x1) broadcasts_S3x12288x4x1_S3x12288x4x256 (ix4 b s h k) : EReal) = _ from rowfac_read _ _ _ b s h k,
    invsOf_at, vexp_eq, expsOf_at, vmax_at]

end Cert.ReferenceIdeal.Value
-- ==== Proof.Value.RRegs.lean ====
/-
  The reference's results after its quantiser's run, at an index of the arguments.
-/
module

public import proofs.«01_k».proof.Proof.Value.RArrays

@[expose] public section

set_option maxRecDepth 16384

noncomputable section

namespace Cert.ReferenceIdeal.Value

open Cert.Gqa
open Cert.ReferenceIdeal Cert.ReferenceIdeal.Gen
open Idealize.ShloMosaic Idealize.ShloMosaic.TcCoe Idealize.ShloMosaic.StableHlo
open Idealize.ShloMosaic.Pipeline (Dat Cfg Window)

variable (m : (ℓ : Loc nD τ sig) → Buf (Elt Ideal) ℓ)

/-- The arguments. -/
abbrev aX (c : Dev nD) : S3x12288x5120.Idx → EReal := m ((c : Thread nD τ).loc main_arg0)
abbrev aK (c : Dev nD) : S3x12288x1024.Idx → EReal := m ((c : Thread nD τ).loc main_arg1)
abbrev aV (c : Dev nD) : S3x12288x1024.Idx → EReal := m ((c : Thread nD τ).loc main_arg2)

theorem entry0 (c : Dev nD) : Gen.V0 m c (Proc.devRef .tc main_v0) = shapeCast _ (aX m c) shapeCasts_S3x12288x5120_S3x12288x20x256 := by
  unfold Gen.V0
  simp only [Gen.hostOps0, List.flatten_cons, List.flatten_nil, List.append_nil, List.cons_append, List.nil_append]
  after_results_simp <;> rfl
theorem entry0_at (c : Dev nD) (b : Fin 3) (s : Fin 12288) (h : Fin 20) (k : Fin 256) :
    (Gen.V0 m c (Proc.devRef .tc main_v0) : S3x12288x20x256.Idx → EReal) (ix4 b s h k) = qrow (aX m c) b s h k := by
  rw [entry0]
  refine shapeCast_apply _ _ _ _ ?_
  rw [Shape.rowMajor_val_three, Shape.rowMajor_val_four]
  show (b.val * 12288 + s.val) * 5120 + (256 * h.val + k.val) = ((b.val * 12288 + s.val) * 20 + h.val) * 256 + k.val
  omega

theorem entry1 (c : Dev nD) : Gen.V0 m c (Proc.devRef .tc main_v1) = shapeCast _ (aK m c) shapeCasts_S3x12288x1024_S3x12288x4x256 := by
  unfold Gen.V0
  simp only [Gen.hostOps0, List.flatten_cons, List.flatten_nil, List.append_nil, List.cons_append, List.nil_append]
  after_results_simp <;> rfl
theorem entry1_at (c : Dev nD) (b : Fin 3) (s : Fin 12288) (h : Fin 4) (k : Fin 256) :
    (Gen.V0 m c (Proc.devRef .tc main_v1) : S3x12288x4x256.Idx → EReal) (ix4 b s h k) = krow (aK m c) b s h k := by
  rw [entry1]
  refine shapeCast_apply _ _ _ _ ?_
  rw [Shape.rowMajor_val_three, Shape.rowMajor_val_four]
  show (b.val * 12288 + s.val) * 1024 + (256 * h.val + k.val) = ((b.val * 12288 + s.val) * 4 + h.val) * 256 + k.val
  omega

theorem entry2 (c : Dev nD) : Gen.V0 m c (Proc.devRef .tc main_v2) = shapeCast _ (aV m c) shapeCasts_S3x12288x1024_S3x12288x4x256 := by
  unfold Gen.V0
  simp only [Gen.hostOps0, List.flatten_cons, List.flatten_nil, List.append_nil, List.cons_append, List.nil_append]
  after_results_simp <;> rfl
theorem entry2_at (c : Dev nD) (b : Fin 3) (s : Fin 12288) (h : Fin 4) (k : Fin 256) :
    (Gen.V0 m c (Proc.devRef .tc main_v2) : S3x12288x4x256.Idx → EReal) (ix4 b s h k) = krow (aV m c) b s h k := by
  rw [entry2]
  refine shapeCast_apply _ _ _ _ ?_
  rw [Shape.rowMajor_val_three, Shape.rowMajor_val_four]
  show (b.val * 12288 + s.val) * 1024 + (256 * h.val + k.val) = ((b.val * 12288 + s.val) * 4 + h.val) * 256 + k.val
  omega

theorem index_at : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0] ∧ win0_6.index t = ![0, 0, 0, 0] ∧ win0_7.index t = ![0, 0, 0, 0] ∧ win0_8.index t = ![0, 0, 0] ∧ win0_9.index t = ![0, 0, 0, 0] ∧ win0_10.index t = ![0, 0, 0, 0] ∧ win0_11.index t = ![0, 0, 0] := by decide +kernel

theorem zero3 : (![0, 0, 0] : Fin 3 → ℕ) = fun _ => 0 := by funext a; fin_cases a <;> rfl
theorem zero4 : (![0, 0, 0, 0] : Fin 4 → ℕ) = fun _ => 0 := by funext a; fin_cases a <;> rfl

theorem iblk0 (c : Dev nD) (t : Fin cfg0.N) (b : Fin 3) (s : Fin 12288) (h : Fin 20) (k : Fin 256) :
    (iblk m c 0 t : S3x12288x20x256.Idx → EReal) (ix4 b s h k) = qrow (aX m c) b s h k := by
  refine Eq.trans ?_ (entry0_at m c b s h k)
  have e := (index_at t).1
  blk_ext [iblk, V, e]

theorem iblk1 (c : Dev nD) (t : Fin cfg0.N) (b : Fin 3) (s : Fin 12288) (h : Fin 4) (k : Fin 256) :
    (iblk m c 1 t : S3x12288x4x256.Idx → EReal) (ix4 b s h k) = krow (aK m c) b s h k := by
  refine Eq.trans ?_ (entry1_at m c b s h k)
  have e := (index_at t).2.1
  blk_ext [iblk, V, e]

theorem iblk2 (c : Dev nD) (t : Fin cfg0.N) (b : Fin 3) (s : Fin 12288) (h : Fin 4) (k : Fin 256) :
    (iblk m c 2 t : S3x12288x4x256.Idx → EReal) (ix4 b s h k) = krow (aV m c) b s h k := by
  refine Eq.trans ?_ (entry2_at m c b s h k)
  have e := (index_at t).2.2.1
  blk_ext [iblk, V, e]

theorem q_codes (c : Dev nD) : reg_main_v3_0 m c = fun i : S3x12288x20x256.Idx => refCode (qrow (aX m c) (i 0) (i 1) (i 2)) (i 3) := by
  refine (dats (F := Ideal) m 0 c).arrAt_eq_of_covers 3 _ (by decide +kernel) fun t hf y => ?_
  have e := (index_at t).2.2.2.1
  blk_simp
  rw [after0_3]
  obtain ⟨b, s, h, k, rfl⟩ : ∃ (a : Fin 3) (b : Fin 12288) (r : Fin 20) (k : Fin 256), y = ix4 a b r k := ⟨y 0, y 1, y 2, y 3, eq_ix4 y⟩
  have e0 : (win0_3.blk t).view.emb (ix4 b s h k) = ix4 b s h k := by blk_ext [e]
  have h1 : out0_3 (iblk m c 0 t) (iblk m c 1 t) (iblk m c 2 t) = k0_pay5 (F := Ideal) (iblk m c 0 t) := by
    unfold out0_3
    rw [View.canon_unit_zero zero4, View.ld_unit_zero zero4]
  rw [h1, e0]
  refine (qcode_at _ b s h k).trans ?_
  simp only [iblk0]; rfl

theorem q_codesf (c : Dev nD) : reg_main_v3_1 m c = fun i : S3x12288x20x256.Idx => refCode (qrow (aX m c) (i 0) (i 1) (i 2)) (i 3) := by
  refine (dats (F := Ideal) m 0 c).arrAt_eq_of_covers 4 _ (by decide +kernel) fun t hf y => ?_
  have e := (index_at t).2.2.2.2.1
  blk_simp
  rw [after0_4]
  obtain ⟨b, s, h, k, rfl⟩ : ∃ (a : Fin 3) (b : Fin 12288) (r : Fin 20) (k : Fin 256), y = ix4 a b r k := ⟨y 0, y 1, y 2, y 3, eq_ix4 y⟩
  have e0 : (win0_4.blk t).view.emb (ix4 b s h k) = ix4 b s h k := by blk_ext [e]
  have h1 : out0_4 (iblk m c 0 t) (iblk m c 1 t) (iblk m c 2 t) = k0_pay6 (F := Ideal) (iblk m c 0 t) := by
    unfold out0_4
    rw [View.canon_unit_zero zero4, View.ld_unit_zero zero4]
  rw [h1, e0]
  refine (qcode_at _ b s h k).trans ?_
  simp only [iblk0]; rfl

theorem q_scale (c : Dev nD) : reg_main_v3_2 m c = fun i : S3x12288x20.Idx => refScale (qrow (aX m c) (i 0) (i 1) (i 2)) := by
  refine (dats (F := Ideal) m 0 c).arrAt_eq_of_covers 5 _ (by decide +kernel) fun t hf y => ?_
  have e := (index_at t).2.2.2.2.2.1
  blk_simp
  rw [after0_5]
  obtain ⟨b, s, h, rfl⟩ : ∃ (a : Fin 3) (b : Fin 12288) (r : Fin 20), y = ix3 a b r := ⟨y 0, y 1, y 2, eq_ix3 y⟩
  have e0 : (win0_5.blk t).view.emb (ix3 b s h) = ix3 b s h := by blk_ext [e]
  have h1 : out0_5 (iblk m c 0 t) (iblk m c 1 t) (iblk m c 2 t) = k0_pay4 (F := Ideal) (iblk m c 0 t) := by
    unfold out0_5
    rw [View.canon_unit_zero zero3, View.ld_unit_zero zero4]
  rw [h1, e0]
  refine (qscale_at _ b s h).trans ?_
  simp only [iblk0]; rfl

theorem k_codes (c : Dev nD) : reg_main_v3_3 m c = fun i : S3x12288x4x256.Idx => refCode (krow (aK m c) (i 0) (i 1) (i 2)) (i 3) := by
  refine (dats (F := Ideal) m 0 c).arrAt_eq_of_covers 6 _ (by decide +kernel) fun t hf y => ?_
  have e := (index_at t).2.2.2.2.2.2.1
  blk_simp
  rw [after0_6]
  obtain ⟨b, s, h, k, rfl⟩ : ∃ (a : Fin 3) (b : Fin 12288) (r : Fin 4) (k : Fin 256), y = ix4 a b r k := ⟨y 0, y 1, y 2, y 3, eq_ix4 y⟩
  have e0 : (win0_6.blk t).view.emb (ix4 b s h k) = ix4 b s h k := by blk_ext [e]
  have h1 : out0_6 (iblk m c 0 t) (iblk m c 1 t) (iblk m c 2 t) = k0_pay10 (F := Ideal) (iblk m c 1 t) := by
    unfold out0_6
    rw [View.canon_unit_zero zero4, View.ld_unit_zero zero4]
  rw [h1, e0]
  refine (kcode_at _ b s h k).trans ?_
  simp only [iblk1]; rfl

theorem k_codesf (c : Dev nD) : reg_main_v3_4 m c = fun i : S3x12288x4x256.Idx => refCode (krow (aK m c) (i 0) (i 1) (i 2)) (i 3) := by
  refine (dats (F := Ideal) m 0 c).arrAt_eq_of_covers 7 _ (by decide +kernel) fun t hf y => ?_
  have e := (index_at t).2.2.2.2.2.2.2.1
  blk_simp
  rw [after0_7]
  obtain ⟨b, s, h, k, rfl⟩ : ∃ (a : Fin 3) (b : Fin 12288) (r : Fin 4) (k : Fin 256), y = ix4 a b r k := ⟨y 0, y 1, y 2, y 3, eq_ix4 y⟩
  have e0 : (win0_7.blk t).view.emb (ix4 b s h k) = ix4 b s h k := by blk_ext [e]
  have h1 : out0_7 (iblk m c 0 t) (iblk m c 1 t) (iblk m c 2 t) = k0_pay11 (F := Ideal) (iblk m c 1 t) := by
    unfold out0_7
    rw [View.canon_unit_zero zero4, View.ld_unit_zero zero4]
  rw [h1, e0]
  refine (kcode_at _ b s h k).trans ?_
  simp only [iblk1]; rfl

theorem k_scale (c : Dev nD) : reg_main_v3_5 m c = fun i : S3x12288x4.Idx => refScale (krow (aK m c) (i 0) (i 1) (i 2)) := by
  refine (dats (F := Ideal) m 0 c).arrAt_eq_of_covers 8 _ (by decide +kernel) fun t hf y => ?_
  have e := (index_at t).2.2.2.2.2.2.2.2.1
  blk_simp
  rw [after0_8]
  obtain ⟨b, s, h, rfl⟩ : ∃ (a : Fin 3) (b : Fin 12288) (r : Fin 4), y = ix3 a b r := ⟨y 0, y 1, y 2, eq_ix3 y⟩
  have e0 : (win0_8.blk t).view.emb (ix3 b s h) = ix3 b s h := by blk_ext [e]
  have h1 : out0_8 (iblk m c 0 t) (iblk m c 1 t) (iblk m c 2 t) = k0_pay9 (F := Ideal) (iblk m c 1 t) := by
    unfold out0_8
    rw [View.canon_unit_zero zero3, View.ld_unit_zero zero4]
  rw [h1, e0]
  refine (kscale_at _ b s h).trans ?_
  simp only [iblk1]; rfl

theorem v_codes (c : Dev nD) : reg_main_v3_6 m c = fun i : S3x12288x4x256.Idx => refCode (krow (aV m c) (i 0) (i 1) (i 2)) (i 3) := by
  refine (dats (F := Ideal) m 0 c).arrAt_eq_of_covers 9 _ (by decide +kernel) fun t hf y => ?_
  have e := (index_at t).2.2.2.2.2.2.2.2.2.1
  blk_simp
  rw [after0_9]
  obtain ⟨b, s, h, k, rfl⟩ : ∃ (a : Fin 3) (b : Fin 12288) (r : Fin 4) (k : Fin 256), y = ix4 a b r k := ⟨y 0, y 1, y 2, y 3, eq_ix4 y⟩
  have e0 : (win0_9.blk t).view.emb (ix4 b s h k) = ix4 b s h k := by blk_ext [e]
  have h1 : out0_9 (iblk m c 0 t) (iblk m c 1 t) (iblk m c 2 t) = k0_pay15 (F := Ideal) (iblk m c 2 t) := by
    unfold out0_9 k0_pay16
    rw [View.canon_unit_zero zero4, View.ld_unit_zero zero4]
  rw [h1, e0]
  refine (vcode_at _ b s h k).trans ?_
  simp only [iblk2]; rfl

theorem v_codesf (c : Dev nD) : reg_main_v3_7 m c = fun i : S3x12288x4x256.Idx => refCode (krow (aV m c) (i 0) (i 1) (i 2)) (i 3) := by
  refine (dats (F := Ideal) m 0 c).arrAt_eq_of_covers 10 _ (by decide +kernel) fun t hf y => ?_
  have e := (index_at t).2.2.2.2.2.2.2.2.2.2.1
  blk_simp
  rw [after0_10]
  obtain ⟨b, s, h, k, rfl⟩ : ∃ (a : Fin 3) (b : Fin 12288) (r : Fin 4) (k : Fin 256), y = ix4 a b r k := ⟨y 0, y 1, y 2, y 3, eq_ix4 y⟩
  have e0 : (win0_10.blk t).view.emb (ix4 b s h k) = ix4 b s h k := by blk_ext [e]
  have h1 : out0_10 (iblk m c 0 t) (iblk m c 1 t) (iblk m c 2 t) = k0_pay15 (F := Ideal) (iblk m c 2 t) := by
    unfold out0_10 k0_pay16
    rw [View.canon_unit_zero zero4, View.ld_unit_zero zero4]; rfl
  rw [h1, e0]
  refine (vcode_at _ b s h k).trans ?_
  simp only [iblk2]; rfl

theorem v_scale (c : Dev nD) : reg_main_v3_8 m c = fun i : S3x12288x4.Idx => refScale (krow (aV m c) (i 0) (i 1) (i 2)) := by
  refine (dats (F := Ideal) m 0 c).arrAt_eq_of_covers 11 _ (by decide +kernel) fun t hf y => ?_
  have e := (index_at t).2.2.2.2.2.2.2.2.2.2.2
  blk_simp
  rw [after0_11]
  obtain ⟨b, s, h, rfl⟩ : ∃ (a : Fin 3) (b : Fin 12288) (r : Fin 4), y = ix3 a b r := ⟨y 0, y 1, y 2, eq_ix3 y⟩
  have e0 : (win0_11.blk t).view.emb (ix3 b s h) = ix3 b s h := by blk_ext [e]
  have h1 : out0_11 (iblk m c 0 t) (iblk m c 1 t) (iblk m c 2 t) = k0_pay14 (F := Ideal) (iblk m c 2 t) := by
    unfold out0_11
    rw [View.canon_unit_zero zero3, View.ld_unit_zero zero4]
  rw [h1, e0]
  refine (vscale_at _ b s h).trans ?_
  simp only [iblk2]; rfl

end Cert.ReferenceIdeal.Value
-- ==== Proof.Algebraic.lean ====
/-
  The idealized kernel's results are the idealized reference's.
-/
module

public import proofs.«01_k».proof.Defs
public import proofs.«01_k».proof.Proof.KernelIdeal.Results
public import proofs.«01_k».proof.Proof.Value.OutMean
public import proofs.«01_k».proof.Proof.Value.Finite
public import proofs.«01_k».proof.Proof.Value.RRegs

@[expose] public section

set_option maxRecDepth 16384

noncomputable section

namespace Cert.Gqa

open Idealize.ShloMosaic Idealize.ShloMosaic.TcCoe Idealize.SL.Sem

/-- The two quantisers agree on a row. -/
theorem code_agree {f : Fin 256 → EReal} (h : Tame f) : refCode f = rowCode f := by
  obtain ⟨σ, _, _, e2, _, e4⟩ := row_agree h
  funext k
  unfold refCode rowCode refInv
  rw [e2, e4]
theorem scale_eq {f : Fin 256 → EReal} (h : Tame f) : refScale f = rowScale f := by
  obtain ⟨σ, _, e1, _, e3, _⟩ := row_agree h
  unfold refScale
  rw [e1, e3]

section
open Cert.KernelIdeal Cert.KernelIdeal.Gen Cert.Gqa.KernelIdeal
variable (m : (ℓ : Loc nD τ sig) → Buf (Elt Ideal) ℓ) (c : Dev nD)

theorem resQc_at : resQc (F := Ideal) m c = fun i : S3x12288x20x256.Idx => rowCode (qrow (aX m c) (i 0) (i 1) (i 2)) (i 3) := by
  unfold resQc; rw [qc_arr]; rfl
theorem resQs_at : resQs (F := Ideal) m c = fun i : S3x12288x20.Idx => rowScale (qrow (aX m c) (i 0) (i 1) (i 2)) := by
  unfold resQs; rw [qs_arr]; rfl
theorem resKs_at : resKs (F := Ideal) m c = fun i : S3x12288x4.Idx => rowScale (krow (aK m c) (i 0) (i 1) (i 2)) := by
  unfold resKs; rw [ks_arr]; rfl
theorem resVs_at : resVs (F := Ideal) m c = fun i : S3x12288x4.Idx => rowScale (krow (aV m c) (i 0) (i 1) (i 2)) := by
  unfold resVs; rw [vs_arr]; rfl

end

/-- A tame row's codes and scale are real. -/
theorem real_codes {I : Type} (f : I → Fin 256 → EReal) (h : ∀ i, Tame (f i)) :
    ∃ (C : I → Fin 256 → ℝ) (S : I → ℝ), (∀ i k, rowCode (f i) k = C i k) ∧ (∀ i, rowScale (f i) = S i) ∧ ∀ i, 0 < S i := by
  choose C hC using fun i k => rowCode_real (h i) k
  choose S hp hS _ _ _ using fun i => row_agree (h i)
  exact ⟨C, S, hC, hS, hp⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal_finite m) (c : Dev Cert.KernelIdeal.nD)
  (hX : Cert.ReferenceIdeal.Value.aX m' c = KernelIdeal.aX m c) (hK : Cert.ReferenceIdeal.Value.aK m' c = KernelIdeal.aK m c)
  (hV : Cert.ReferenceIdeal.Value.aV m' c = KernelIdeal.aV m c)
include hpre

include hX in
theorem qc_eq : Cert.ReferenceIdeal.Value.reg_main_v3_0 m' c = KernelIdeal.resQc (F := Ideal) m c := by
  rw [Cert.ReferenceIdeal.Value.q_codes, resQc_at, hX]
  exact funext fun i => congrFun (code_agree (tame_x hpre c _ _ _)) _
include hX in
theorem qs_eq : Cert.ReferenceIdeal.Value.reg_main_v3_2 m' c = KernelIdeal.resQs (F := Ideal) m c := by
  rw [Cert.ReferenceIdeal.Value.q_scale, resQs_at, hX]
  exact funext fun i => scale_eq (tame_x hpre c _ _ _)
include hK in
theorem kc_eq : Cert.ReferenceIdeal.Value.reg_main_v3_3 m' c = (KernelIdeal.dats (F := Ideal) m 0 c).arrAt 6 Cert.KernelIdeal.cfg0.N := by
  rw [Cert.ReferenceIdeal.Value.k_codes, KernelIdeal.kc_arr, hK]
  exact funext fun i => congrFun (code_agree (tame_k hpre c _ _ _)) _
include hK in
theorem ks_eq : Cert.ReferenceIdeal.Value.reg_main_v3_5 m' c = KernelIdeal.resKs (F := Ideal) m c := by
  rw [Cert.ReferenceIdeal.Value.k_scale, resKs_at, hK]
  exact funext fun i => scale_eq (tame_k hpre c _ _ _)
include hV in
theorem vc_eq : Cert.ReferenceIdeal.Value.reg_main_v3_6 m' c = (KernelIdeal.dats (F := Ideal) m 0 c).arrAt 8 Cert.KernelIdeal.cfg0.N := by
  rw [Cert.ReferenceIdeal.Value.v_codes, KernelIdeal.vc_arr, hV]
  exact funext fun i => congrFun (code_agree (tame_v hpre c _ _ _)) _
include hV in
theorem vs_eq : Cert.ReferenceIdeal.Value.reg_main_v3_8 m' c = KernelIdeal.resVs (F := Ideal) m c := by
  rw [Cert.ReferenceIdeal.Value.v_scale, resVs_at, hV]
  exact funext fun i => scale_eq (tame_v hpre c _ _ _)

include hX hK hV in
/-- The attention's result. -/
theorem out_eq : Cert.ReferenceIdeal.Value.res_main_v53 m' c = (KernelIdeal.dats (F := Ideal) m 0 c).arrAt 3 Cert.KernelIdeal.cfg0.N := by
  obtain ⟨Q, σq, hQ, hσq, hp⟩ := real_codes (fun i : Fin 3 × Fin 12288 × Fin 20 => qrow (KernelIdeal.aX m c) i.1 i.2.1 i.2.2) fun i => tame_x hpre c _ _ _
  obtain ⟨K, σk, hCK, hσk, -⟩ := real_codes (fun i : Fin 3 × Fin 12288 × Fin 4 => krow (KernelIdeal.aK m c) i.1 i.2.1 i.2.2) fun i => tame_k hpre c _ _ _
  obtain ⟨V, σv, hCV, hσv, -⟩ := real_codes (fun i : Fin 3 × Fin 12288 × Fin 4 => krow (KernelIdeal.aV m c) i.1 i.2.1 i.2.2) fun i => tame_v hpre c _ _ _
  rw [KernelIdeal.out_arr]
  funext i
  obtain ⟨b, s, j, rfl⟩ : ∃ (b : Fin 3) (s : Fin 12288) (j : Fin 5120), i = ix3 b s j := ⟨i 0, i 1, i 2, eq_ix3 i⟩
  have eK := KernelIdeal.out_mean m c (Q := fun b s h k => Q (b, s, h) k) (σq := fun b s h => σq (b, s, h)) (K := fun b s h k => K (b, s, h) k)
    (V := fun b s h k => V (b, s, h) k) (σk := fun b s h => σk (b, s, h)) (σv := fun b s h => σv (b, s, h))
    (fun b s h => hQ (b, s, h)) (fun b s h => hσq (b, s, h)) (fun b s h => hp (b, s, h)) (fun b s h => hCK (b, s, h)) (fun b s h => hσk (b, s, h))
    (fun b s h => hCV (b, s, h)) (fun b s h => hσv (b, s, h)) b s j
  refine Eq.trans ?_ eK.symm
  have g : (⟨j.val / 1280, by omega⟩ : Fin 4) = grp (KernelIdeal.headOf j) := Fin.ext (show j.val / 1280 = j.val / 256 / 5 by omega)
  have h : Cert.ReferenceIdeal.Value.hd ⟨j.val / 1280, by omega⟩ ⟨j.val / 256 % 5, by omega⟩ = KernelIdeal.headOf j :=
    Fin.ext (show 5 * (j.val / 1280) + j.val / 256 % 5 = j.val / 256 by omega)
  have e53 : Cert.ReferenceIdeal.Value.res_main_v53 m' c
      = Cert.ReferenceIdeal.Read.val_main_v53 (F := Ideal) (Cert.ReferenceIdeal.Value.reg_main_v3_1 m' c) (Cert.ReferenceIdeal.Value.reg_main_v3_2 m' c)
          (Cert.ReferenceIdeal.Value.reg_main_v3_4 m' c) (Cert.ReferenceIdeal.Value.reg_main_v3_5 m' c) (Cert.ReferenceIdeal.Value.reg_main_v3_7 m' c)
          (Cert.ReferenceIdeal.Value.reg_main_v3_8 m' c) := rfl
  rw [e53, Cert.ReferenceIdeal.Value.v53_at]
  rw [Cert.ReferenceIdeal.Value.v51_mean (R1 := fun i => Q (i 0, i 1, i 2) (i 3)) (R2 := fun i => σq (i 0, i 1, i 2)) (R4 := fun i => K (i 0, i 1, i 2) (i 3))
    (R5 := fun i => σk (i 0, i 1, i 2)) (R7 := fun i => V (i 0, i 1, i 2) (i 3)) (R8 := fun i => σv (i 0, i 1, i 2))
    (h1 := fun i => by rw [Cert.ReferenceIdeal.Value.q_codesf, hX]; exact (congrFun (code_agree (tame_x hpre c _ _ _)) _).trans (hQ (i 0, i 1, i 2) (i 3)))
    (h2 := fun i => by rw [Cert.ReferenceIdeal.Value.q_scale, hX]; exact (scale_eq (tame_x hpre c _ _ _)).trans (hσq (i 0, i 1, i 2)))
    (h4 := fun i => by rw [Cert.ReferenceIdeal.Value.k_codesf, hK]; exact (congrFun (code_agree (tame_k hpre c _ _ _)) _).trans (hCK (i 0, i 1, i 2) (i 3)))
    (h5 := fun i => by rw [Cert.ReferenceIdeal.Value.k_scale, hK]; exact (scale_eq (tame_k hpre c _ _ _)).trans (hσk (i 0, i 1, i 2)))
    (h7 := fun i => by rw [Cert.ReferenceIdeal.Value.v_codesf, hV]; exact (congrFun (code_agree (tame_v hpre c _ _ _)) _).trans (hCV (i 0, i 1, i 2) (i 3)))
    (h8 := fun i => by rw [Cert.ReferenceIdeal.Value.v_scale, hV]; exact (scale_eq (tame_v hpre c _ _ _)).trans (hσv (i 0, i 1, i 2)))]
  rw [h, g]
  rfl

end

/-- The programs end with equal results. -/
theorem algebraic : Cert.algebraic_KernelIdeal_ReferenceIdeal_pre_finite := by
  intro m g m' g' hpre hargs
  refine ⟨fun c => (KernelIdeal.dats (F := Ideal) m 0 c).arrAt 3 Cert.KernelIdeal.cfg0.N, fun c => KernelIdeal.resQc m c, fun c => KernelIdeal.resQs m c,
    fun c => (KernelIdeal.dats (F := Ideal) m 0 c).arrAt 6 Cert.KernelIdeal.cfg0.N, fun c => KernelIdeal.resKs m c,
    fun c => (KernelIdeal.dats (F := Ideal) m 0 c).arrAt 8 Cert.KernelIdeal.cfg0.N, fun c => KernelIdeal.resVs m c, KernelIdeal.run m g,
    (θ_run _ _ _).mono (fun r h c => ?_) (Cert.ReferenceIdeal.Value.run m' g')⟩
  obtain ⟨h0, h1, h2, h3, h4, h5, h6, ha⟩ := h c
  obtain ⟨hX, hK, hV⟩ := hargs c
  exact ⟨h0.trans (out_eq m m' hpre c hX hK hV), h1.trans (qc_eq m m' hpre c hX), h2.trans (qs_eq m m' hpre c hX), h3.trans (kc_eq m m' hpre c hK),
    h4.trans (ks_eq m m' hpre c hK), h5.trans (vc_eq m m' hpre c hV), h6.trans (vs_eq m m' hpre c hV), ha⟩

end Cert.Gqa

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

theorem claim : Cert.Claim :=
  ⟨inferInstance, inferInstance, inferInstance, inferInstance, quiescent_kernel, quiescent_kernelIdeal, quiescent_kernelIdeal_finite,
    quiescent_referenceIdeal, quiescent_referenceIdeal_finite, preserves, Cert.Gqa.algebraic⟩

end Cert.Proof

end
